-- ==== Defs.lean ====
def Pre_Kernel [hPre_causal_steps : Cert.Pre_causal_steps.Facts] (m : (ℓ : Loc Cert.Kernel.nD Cert.Kernel.τ Cert.Kernel.sig) → Buf (Elt Bits) ℓ) : Prop :=
  ∀ c : Dev Cert.Kernel.nD,
    (Cert.Pre_causal_steps.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).1 = (fun _ => 1#1)
    ∧ (Cert.Pre_causal_steps.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.1 = (fun _ => 1#1)
    ∧ (Cert.Pre_causal_steps.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2.1 = (fun _ => 1#1)
    ∧ (Cert.Pre_causal_steps.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2.2 = (fun _ => 1#1)

def Pre_KernelIdeal [hPre_causal_steps : Cert.Pre_causal_steps.Facts] (m : (ℓ : Loc Cert.KernelIdeal.nD Cert.KernelIdeal.τ Cert.KernelIdeal.sig) → Buf (Elt Ideal) ℓ) : Prop :=
  ∀ c : Dev Cert.KernelIdeal.nD,
    (Cert.Pre_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_KernelIdeal_finite_causal_steps [hPre_finite_causal_steps : Cert.Pre_finite_causal_steps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite_causal_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal [hPre_causal_steps : Cert.Pre_causal_steps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def Pre_ReferenceIdeal_finite_causal_steps [hPre_finite_causal_steps : Cert.Pre_finite_causal_steps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite_causal_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_descending_steps : Cert.Pre_descending_steps.Facts] (m : (ℓ : Loc Cert.Kernel8.nD Cert.Kernel8.τ Cert.Kernel8.sig) → Buf (Elt Bits) ℓ) : Prop :=
  ∀ c : Dev Cert.Kernel8.nD,
    (Cert.Pre_descending_steps.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6))).1 = (fun _ => 1#1)
    ∧ (Cert.Pre_descending_steps.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6))).2.1 = (fun _ => 1#1)
    ∧ (Cert.Pre_descending_steps.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6))).2.2.1 = (fun _ => 1#1)
    ∧ (Cert.Pre_descending_steps.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4)) (m ((c.tc : Thread Cert.Kernel8.nD Cert.Kernel8.τ).loc Cert.Kernel8.main_arg5)) (m ((c.tc : Thread Cert.Kernel8.nD Cert.Kernel8.τ).loc Cert.Kernel8.main_arg6))).2.2.2 = (fun _ => 1#1)

def Pre_Kernel8Ideal [hPre_descending_steps : Cert.Pre_descending_steps.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_descending_steps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_descending_steps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.1 = (fun _ => 1#1)
    ∧ (Cert.Pre_descending_steps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.1 = (fun _ => 1#1)
    ∧ (Cert.Pre_descending_steps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2 = (fun _ => 1#1)

def Pre_Kernel8Ideal_finite_descending_steps [hPre_finite_descending_steps : Cert.Pre_finite_descending_steps.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_descending_steps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_finite_descending_steps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.1 = (fun _ => 1#1)
    ∧ (Cert.Pre_finite_descending_steps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.1 = (fun _ => 1#1)
    ∧ (Cert.Pre_finite_descending_steps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.1 = (fun _ => 1#1)
    ∧ (Cert.Pre_finite_descending_steps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.2.1 = (fun _ => 1#1)
    ∧ (Cert.Pre_finite_descending_steps.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2.2.2.2.2 = (fun _ => 1#1)

def Pre_Reference8Ideal [hPre_descending_steps : Cert.Pre_descending_steps.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_descending_steps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_descending_steps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.1 = (fun _ => 1#1)
    ∧ (Cert.Pre_descending_steps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.1 = (fun _ => 1#1)
    ∧ (Cert.Pre_descending_steps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2 = (fun _ => 1#1)

def Pre_Reference8Ideal_finite_descending_steps [hPre_finite_descending_steps : Cert.Pre_finite_descending_steps.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_descending_steps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_finite_descending_steps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.1 = (fun _ => 1#1)
    ∧ (Cert.Pre_finite_descending_steps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.1 = (fun _ => 1#1)
    ∧ (Cert.Pre_finite_descending_steps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.1 = (fun _ => 1#1)
    ∧ (Cert.Pre_finite_descending_steps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.2.1 = (fun _ => 1#1)
    ∧ (Cert.Pre_finite_descending_steps.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2.2.2.2.2 = (fun _ => 1#1)

def quiescent_Kernel [hKernel : Cert.Kernel.Facts] [hPre_causal_steps : Cert.Pre_causal_steps.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_causal_steps : Cert.Pre_causal_steps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_causal_steps [hKernelIdeal : Cert.KernelIdeal.Facts] [hPre_finite_causal_steps : Cert.Pre_finite_causal_steps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_causal_steps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_causal_steps : Cert.Pre_causal_steps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_causal_steps [hReferenceIdeal : Cert.ReferenceIdeal.Facts] [hPre_finite_causal_steps : Cert.Pre_finite_causal_steps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_causal_steps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] [hPre_descending_steps : Cert.Pre_descending_steps.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] [hPre_descending_steps : Cert.Pre_descending_steps.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_descending_steps [hKernel8Ideal : Cert.Kernel8Ideal.Facts] [hPre_finite_descending_steps : Cert.Pre_finite_descending_steps.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_descending_steps m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] [hPre_descending_steps : Cert.Pre_descending_steps.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_descending_steps [hReference8Ideal : Cert.Reference8Ideal.Facts] [hPre_finite_descending_steps : Cert.Pre_finite_descending_steps.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_descending_steps m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  IdealRules.named_const.Statement Cert.KernelIdeal.κ "qscale" .f32 0x3DD53B95#32 (((Real.sqrt 192)⁻¹ * (Real.log 2)⁻¹ : ℝ) : EReal)
  ∧ IdealRules.named_const.Statement Cert.KernelIdeal.κ "mask" .f32 0xF149F2CA#32 ⊥

def algebraic_KernelIdeal_ReferenceIdeal_pre_finite_causal_steps [hKernelIdeal : Cert.KernelIdeal.Facts] [hReferenceIdeal : Cert.ReferenceIdeal.Facts] [hPre_finite_causal_steps : Cert.Pre_finite_causal_steps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_causal_steps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7)) (v1 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_v8) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  IdealRules.named_const.Statement Cert.Kernel8Ideal.κ "sbscale" .f32 0x3E0293EE#32 (((Real.sqrt 128)⁻¹ * (Real.log 2)⁻¹ : ℝ) : EReal)
  ∧ IdealRules.named_const.Statement Cert.Kernel8Ideal.κ "log2e" .f32 0x3FB8AA3B#32 (((Real.log 2)⁻¹ : ℝ) : EReal)

def algebraic_Kernel8Ideal_Reference8Ideal_pre_finite_descending_steps [hKernel8Ideal : Cert.Kernel8Ideal.Facts] [hReference8Ideal : Cert.Reference8Ideal.Facts] [hPre_finite_descending_steps : Cert.Pre_finite_descending_steps.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_descending_steps m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_causal_steps : Cert.Pre_causal_steps.Facts) (hPre_finite_causal_steps : Cert.Pre_finite_causal_steps.Facts) (hPre_descending_steps : Cert.Pre_descending_steps.Facts) (hPre_finite_descending_steps : Cert.Pre_finite_descending_steps.Facts),
    quiescent_Kernel (hKernel := hKernel) (hPre_causal_steps := hPre_causal_steps)
    ∧ quiescent_KernelIdeal (hKernelIdeal := hKernelIdeal) (hPre_causal_steps := hPre_causal_steps)
    ∧ quiescent_KernelIdeal_pre_finite_causal_steps (hKernelIdeal := hKernelIdeal) (hPre_finite_causal_steps := hPre_finite_causal_steps)
    ∧ quiescent_ReferenceIdeal (hReferenceIdeal := hReferenceIdeal) (hPre_causal_steps := hPre_causal_steps)
    ∧ quiescent_ReferenceIdeal_pre_finite_causal_steps (hReferenceIdeal := hReferenceIdeal) (hPre_finite_causal_steps := hPre_finite_causal_steps)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_descending_steps := hPre_descending_steps)
    ∧ quiescent_Kernel8Ideal (hKernel8Ideal := hKernel8Ideal) (hPre_descending_steps := hPre_descending_steps)
    ∧ quiescent_Kernel8Ideal_pre_finite_descending_steps (hKernel8Ideal := hKernel8Ideal) (hPre_finite_descending_steps := hPre_finite_descending_steps)
    ∧ quiescent_Reference8Ideal (hReference8Ideal := hReference8Ideal) (hPre_descending_steps := hPre_descending_steps)
    ∧ quiescent_Reference8Ideal_pre_finite_descending_steps (hReference8Ideal := hReference8Ideal) (hPre_finite_descending_steps := hPre_finite_descending_steps)
    ∧ preserves_Kernel_KernelIdeal
    ∧ algebraic_KernelIdeal_ReferenceIdeal_pre_finite_causal_steps (hKernelIdeal := hKernelIdeal) (hReferenceIdeal := hReferenceIdeal) (hPre_finite_causal_steps := hPre_finite_causal_steps)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_descending_steps (hKernel8Ideal := hKernel8Ideal) (hReference8Ideal := hReference8Ideal) (hPre_finite_descending_steps := hPre_finite_descending_steps)
-- ==== Pre_causal_steps.lean ====
abbrev S288 : Shape := ⟨1, ![288]⟩
abbrev S8192x4096 : Shape := ⟨2, ![8192, 4096]⟩
abbrev S8192x1024 : Shape := ⟨2, ![8192, 1024]⟩
abbrev S8192x256 : Shape := ⟨2, ![8192, 256]⟩
abbrev S8192x64 : Shape := ⟨2, ![8192, 64]⟩
abbrev S256x2048 : Shape := ⟨2, ![256, 2048]⟩

class Facts : Prop where

variable [Facts]

noncomputable abbrev lit0 : Fin 288 → BitVec 32 := fun
  | 0 => 0#32 | 1 => 1#32 | 2 => 2#32 | 3 => 3#32 | 4 => 4#32 | 5 => 5#32 | 6 => 6#32 | 7 => 7#32
  | 8 => 8#32 | 9 => 8#32 | 10 => 9#32 | 11 => 9#32 | 12 => 10#32 | 13 => 10#32 | 14 => 11#32 | 15 => 11#32
  | 16 => 12#32 | 17 => 12#32 | 18 => 13#32 | 19 => 13#32 | 20 => 14#32 | 21 => 14#32 | 22 => 15#32 | 23 => 15#32
  | 24 => 16#32 | 25 => 16#32 | 26 => 16#32 | 27 => 17#32 | 28 => 17#32 | 29 => 17#32 | 30 => 18#32 | 31 => 18#32
  | 32 => 18#32 | 33 => 19#32 | 34 => 19#32 | 35 => 19#32 | 36 => 20#32 | 37 => 20#32 | 38 => 20#32 | 39 => 21#32
  | 40 => 21#32 | 41 => 21#32 | 42 => 22#32 | 43 => 22#32 | 44 => 22#32 | 45 => 23#32 | 46 => 23#32 | 47 => 23#32
  | 48 => 24#32 | 49 => 24#32 | 50 => 24#32 | 51 => 24#32 | 52 => 25#32 | 53 => 25#32 | 54 => 25#32 | 55 => 25#32
  | 56 => 26#32 | 57 => 26#32 | 58 => 26#32 | 59 => 26#32 | 60 => 27#32 | 61 => 27#32 | 62 => 27#32 | 63 => 27#32
  | 64 => 28#32 | 65 => 28#32 | 66 => 28#32 | 67 => 28#32 | 68 => 29#32 | 69 => 29#32 | 70 => 29#32 | 71 => 29#32
  | 72 => 30#32 | 73 => 30#32 | 74 => 30#32 | 75 => 30#32 | 76 => 31#32 | 77 => 31#32 | 78 => 31#32 | 79 => 31#32
  | 80 => 32#32 | 81 => 32#32 | 82 => 32#32 | 83 => 32#32 | 84 => 32#32 | 85 => 33#32 | 86 => 33#32 | 87 => 33#32
  | 88 => 33#32 | 89 => 33#32 | 90 => 34#32 | 91 => 34#32 | 92 => 34#32 | 93 => 34#32 | 94 => 34#32 | 95 => 35#32
  | 96 => 35#32 | 97 => 35#32 | 98 => 35#32 | 99 => 35#32 | 100 => 36#32 | 101 => 36#32 | 102 => 36#32 | 103 => 36#32
  | 104 => 36#32 | 105 => 37#32 | 106 => 37#32 | 107 => 37#32 | 108 => 37#32 | 109 => 37#32 | 110 => 38#32 | 111 => 38#32
  | 112 => 38#32 | 113 => 38#32 | 114 => 38#32 | 115 => 39#32 | 116 => 39#32 | 117 => 39#32 | 118 => 39#32 | 119 => 39#32
  | 120 => 40#32 | 121 => 40#32 | 122 => 40#32 | 123 => 40#32 | 124 => 40#32 | 125 => 40#32 | 126 => 41#32 | 127 => 41#32
  | 128 => 41#32 | 129 => 41#32 | 130 => 41#32 | 131 => 41#32 | 132 => 42#32 | 133 => 42#32 | 134 => 42#32 | 135 => 42#32
  | 136 => 42#32 | 137 => 42#32 | 138 => 43#32 | 139 => 43#32 | 140 => 43#32 | 141 => 43#32 | 142 => 43#32 | 143 => 43#32
  | 144 => 44#32 | 145 => 44#32 | 146 => 44#32 | 147 => 44#32 | 148 => 44#32 | 149 => 44#32 | 150 => 45#32 | 151 => 45#32
  | 152 => 45#32 | 153 => 45#32 | 154 => 45#32 | 155 => 45#32 | 156 => 46#32 | 157 => 46#32 | 158 => 46#32 | 159 => 46#32
  | 160 => 46#32 | 161 => 46#32 | 162 => 47#32 | 163 => 47#32 | 164 => 47#32 | 165 => 47#32 | 166 => 47#32 | 167 => 47#32
  | 168 => 48#32 | 169 => 48#32 | 170 => 48#32 | 171 => 48#32 | 172 => 48#32 | 173 => 48#32 | 174 => 48#32 | 175 => 49#32
  | 176 => 49#32 | 177 => 49#32 | 178 => 49#32 | 179 => 49#32 | 180 => 49#32 | 181 => 49#32 | 182 => 50#32 | 183 => 50#32
  | 184 => 50#32 | 185 => 50#32 | 186 => 50#32 | 187 => 50#32 | 188 => 50#32 | 189 => 51#32 | 190 => 51#32 | 191 => 51#32
  | 192 => 51#32 | 193 => 51#32 | 194 => 51#32 | 195 => 51#32 | 196 => 52#32 | 197 => 52#32 | 198 => 52#32 | 199 => 52#32
  | 200 => 52#32 | 201 => 52#32 | 202 => 52#32 | 203 => 53#32 | 204 => 53#32 | 205 => 53#32 | 206 => 53#32 | 207 => 53#32
  | 208 => 53#32 | 209 => 53#32 | 210 => 54#32 | 211 => 54#32 | 212 => 54#32 | 213 => 54#32 | 214 => 54#32 | 215 => 54#32
  | 216 => 54#32 | 217 => 55#32 | 218 => 55#32 | 219 => 55#32 | 220 => 55#32 | 221 => 55#32 | 222 => 55#32 | 223 => 55#32
  | 224 => 56#32 | 225 => 56#32 | 226 => 56#32 | 227 => 56#32 | 228 => 56#32 | 229 => 56#32 | 230 => 56#32 | 231 => 56#32
  | 232 => 57#32 | 233 => 57#32 | 234 => 57#32 | 235 => 57#32 | 236 => 57#32 | 237 => 57#32 | 238 => 57#32 | 239 => 57#32
  | 240 => 58#32 | 241 => 58#32 | 242 => 58#32 | 243 => 58#32 | 244 => 58#32 | 245 => 58#32 | 246 => 58#32 | 247 => 58#32
  | 248 => 59#32 | 249 => 59#32 | 250 => 59#32 | 251 => 59#32 | 252 => 59#32 | 253 => 59#32 | 254 => 59#32 | 255 => 59#32
  | 256 => 60#32 | 257 => 60#32 | 258 => 60#32 | 259 => 60#32 | 260 => 60#32 | 261 => 60#32 | 262 => 60#32 | 263 => 60#32
  | 264 => 61#32 | 265 => 61#32 | 266 => 61#32 | 267 => 61#32 | 268 => 61#32 | 269 => 61#32 | 270 => 61#32 | 271 => 61#32
  | 272 => 62#32 | 273 => 62#32 | 274 => 62#32 | 275 => 62#32 | 276 => 62#32 | 277 => 62#32 | 278 => 62#32 | 279 => 62#32
  | 280 => 63#32 | 281 => 63#32 | 282 => 63#32 | 283 => 63#32 | 284 => 63#32 | 285 => 63#32 | 286 => 63#32 | 287 => 63#32
  | _ => 0#32

noncomputable abbrev lit1 : Fin 288 → BitVec 32 := fun
  | 0 => 0#32 | 1 => 0#32 | 2 => 0#32 | 3 => 0#32 | 4 => 0#32 | 5 => 0#32 | 6 => 0#32 | 7 => 0#32
  | 8 => 0#32 | 9 => 1#32 | 10 => 0#32 | 11 => 1#32 | 12 => 0#32 | 13 => 1#32 | 14 => 0#32 | 15 => 1#32
  | 16 => 0#32 | 17 => 1#32 | 18 => 0#32 | 19 => 1#32 | 20 => 0#32 | 21 => 1#32 | 22 => 0#32 | 23 => 1#32
  | 24 => 0#32 | 25 => 1#32 | 26 => 2#32 | 27 => 0#32 | 28 => 1#32 | 29 => 2#32 | 30 => 0#32 | 31 => 1#32
  | 32 => 2#32 | 33 => 0#32 | 34 => 1#32 | 35 => 2#32 | 36 => 0#32 | 37 => 1#32 | 38 => 2#32 | 39 => 0#32
  | 40 => 1#32 | 41 => 2#32 | 42 => 0#32 | 43 => 1#32 | 44 => 2#32 | 45 => 0#32 | 46 => 1#32 | 47 => 2#32
  | 48 => 0#32 | 49 => 1#32 | 50 => 2#32 | 51 => 3#32 | 52 => 0#32 | 53 => 1#32 | 54 => 2#32 | 55 => 3#32
  | 56 => 0#32 | 57 => 1#32 | 58 => 2#32 | 59 => 3#32 | 60 => 0#32 | 61 => 1#32 | 62 => 2#32 | 63 => 3#32
  | 64 => 0#32 | 65 => 1#32 | 66 => 2#32 | 67 => 3#32 | 68 => 0#32 | 69 => 1#32 | 70 => 2#32 | 71 => 3#32
  | 72 => 0#32 | 73 => 1#32 | 74 => 2#32 | 75 => 3#32 | 76 => 0#32 | 77 => 1#32 | 78 => 2#32 | 79 => 3#32
  | 80 => 0#32 | 81 => 1#32 | 82 => 2#32 | 83 => 3#32 | 84 => 4#32 | 85 => 0#32 | 86 => 1#32 | 87 => 2#32
  | 88 => 3#32 | 89 => 4#32 | 90 => 0#32 | 91 => 1#32 | 92 => 2#32 | 93 => 3#32 | 94 => 4#32 | 95 => 0#32
  | 96 => 1#32 | 97 => 2#32 | 98 => 3#32 | 99 => 4#32 | 100 => 0#32 | 101 => 1#32 | 102 => 2#32 | 103 => 3#32
  | 104 => 4#32 | 105 => 0#32 | 106 => 1#32 | 107 => 2#32 | 108 => 3#32 | 109 => 4#32 | 110 => 0#32 | 111 => 1#32
  | 112 => 2#32 | 113 => 3#32 | 114 => 4#32 | 115 => 0#32 | 116 => 1#32 | 117 => 2#32 | 118 => 3#32 | 119 => 4#32
  | 120 => 0#32 | 121 => 1#32 | 122 => 2#32 | 123 => 3#32 | 124 => 4#32 | 125 => 5#32 | 126 => 0#32 | 127 => 1#32
  | 128 => 2#32 | 129 => 3#32 | 130 => 4#32 | 131 => 5#32 | 132 => 0#32 | 133 => 1#32 | 134 => 2#32 | 135 => 3#32
  | 136 => 4#32 | 137 => 5#32 | 138 => 0#32 | 139 => 1#32 | 140 => 2#32 | 141 => 3#32 | 142 => 4#32 | 143 => 5#32
  | 144 => 0#32 | 145 => 1#32 | 146 => 2#32 | 147 => 3#32 | 148 => 4#32 | 149 => 5#32 | 150 => 0#32 | 151 => 1#32
  | 152 => 2#32 | 153 => 3#32 | 154 => 4#32 | 155 => 5#32 | 156 => 0#32 | 157 => 1#32 | 158 => 2#32 | 159 => 3#32
  | 160 => 4#32 | 161 => 5#32 | 162 => 0#32 | 163 => 1#32 | 164 => 2#32 | 165 => 3#32 | 166 => 4#32 | 167 => 5#32
  | 168 => 0#32 | 169 => 1#32 | 170 => 2#32 | 171 => 3#32 | 172 => 4#32 | 173 => 5#32 | 174 => 6#32 | 175 => 0#32
  | 176 => 1#32 | 177 => 2#32 | 178 => 3#32 | 179 => 4#32 | 180 => 5#32 | 181 => 6#32 | 182 => 0#32 | 183 => 1#32
  | 184 => 2#32 | 185 => 3#32 | 186 => 4#32 | 187 => 5#32 | 188 => 6#32 | 189 => 0#32 | 190 => 1#32 | 191 => 2#32
  | 192 => 3#32 | 193 => 4#32 | 194 => 5#32 | 195 => 6#32 | 196 => 0#32 | 197 => 1#32 | 198 => 2#32 | 199 => 3#32
  | 200 => 4#32 | 201 => 5#32 | 202 => 6#32 | 203 => 0#32 | 204 => 1#32 | 205 => 2#32 | 206 => 3#32 | 207 => 4#32
  | 208 => 5#32 | 209 => 6#32 | 210 => 0#32 | 211 => 1#32 | 212 => 2#32 | 213 => 3#32 | 214 => 4#32 | 215 => 5#32
  | 216 => 6#32 | 217 => 0#32 | 218 => 1#32 | 219 => 2#32 | 220 => 3#32 | 221 => 4#32 | 222 => 5#32 | 223 => 6#32
  | 224 => 0#32 | 225 => 1#32 | 226 => 2#32 | 227 => 3#32 | 228 => 4#32 | 229 => 5#32 | 230 => 6#32 | 231 => 7#32
  | 232 => 0#32 | 233 => 1#32 | 234 => 2#32 | 235 => 3#32 | 236 => 4#32 | 237 => 5#32 | 238 => 6#32 | 239 => 7#32
  | 240 => 0#32 | 241 => 1#32 | 242 => 2#32 | 243 => 3#32 | 244 => 4#32 | 245 => 5#32 | 246 => 6#32 | 247 => 7#32
  | 248 => 0#32 | 249 => 1#32 | 250 => 2#32 | 251 => 3#32 | 252 => 4#32 | 253 => 5#32 | 254 => 6#32 | 255 => 7#32
  | 256 => 0#32 | 257 => 1#32 | 258 => 2#32 | 259 => 3#32 | 260 => 4#32 | 261 => 5#32 | 262 => 6#32 | 263 => 7#32
  | 264 => 0#32 | 265 => 1#32 | 266 => 2#32 | 267 => 3#32 | 268 => 4#32 | 269 => 5#32 | 270 => 6#32 | 271 => 7#32
  | 272 => 0#32 | 273 => 1#32 | 274 => 2#32 | 275 => 3#32 | 276 => 4#32 | 277 => 5#32 | 278 => 6#32 | 279 => 7#32
  | 280 => 0#32 | 281 => 1#32 | 282 => 2#32 | 283 => 3#32 | 284 => 4#32 | 285 => 5#32 | 286 => 6#32 | 287 => 7#32
  | _ => 0#32

noncomputable abbrev lit2 : Fin 288 → BitVec 32 := fun
  | 0 => 1#32 | 1 => 1#32 | 2 => 1#32 | 3 => 1#32 | 4 => 1#32 | 5 => 1#32 | 6 => 1#32 | 7 => 1#32
  | 8 => 1#32 | 9 => 0#32 | 10 => 1#32 | 11 => 0#32 | 12 => 1#32 | 13 => 0#32 | 14 => 1#32 | 15 => 0#32
  | 16 => 1#32 | 17 => 0#32 | 18 => 1#32 | 19 => 0#32 | 20 => 1#32 | 21 => 0#32 | 22 => 1#32 | 23 => 0#32
  | 24 => 1#32 | 25 => 0#32 | 26 => 0#32 | 27 => 1#32 | 28 => 0#32 | 29 => 0#32 | 30 => 1#32 | 31 => 0#32
  | 32 => 0#32 | 33 => 1#32 | 34 => 0#32 | 35 => 0#32 | 36 => 1#32 | 37 => 0#32 | 38 => 0#32 | 39 => 1#32
  | 40 => 0#32 | 41 => 0#32 | 42 => 1#32 | 43 => 0#32 | 44 => 0#32 | 45 => 1#32 | 46 => 0#32 | 47 => 0#32
  | 48 => 1#32 | 49 => 0#32 | 50 => 0#32 | 51 => 0#32 | 52 => 1#32 | 53 => 0#32 | 54 => 0#32 | 55 => 0#32
  | 56 => 1#32 | 57 => 0#32 | 58 => 0#32 | 59 => 0#32 | 60 => 1#32 | 61 => 0#32 | 62 => 0#32 | 63 => 0#32
  | 64 => 1#32 | 65 => 0#32 | 66 => 0#32 | 67 => 0#32 | 68 => 1#32 | 69 => 0#32 | 70 => 0#32 | 71 => 0#32
  | 72 => 1#32 | 73 => 0#32 | 74 => 0#32 | 75 => 0#32 | 76 => 1#32 | 77 => 0#32 | 78 => 0#32 | 79 => 0#32
  | 80 => 1#32 | 81 => 0#32 | 82 => 0#32 | 83 => 0#32 | 84 => 0#32 | 85 => 1#32 | 86 => 0#32 | 87 => 0#32
  | 88 => 0#32 | 89 => 0#32 | 90 => 1#32 | 91 => 0#32 | 92 => 0#32 | 93 => 0#32 | 94 => 0#32 | 95 => 1#32
  | 96 => 0#32 | 97 => 0#32 | 98 => 0#32 | 99 => 0#32 | 100 => 1#32 | 101 => 0#32 | 102 => 0#32 | 103 => 0#32
  | 104 => 0#32 | 105 => 1#32 | 106 => 0#32 | 107 => 0#32 | 108 => 0#32 | 109 => 0#32 | 110 => 1#32 | 111 => 0#32
  | 112 => 0#32 | 113 => 0#32 | 114 => 0#32 | 115 => 1#32 | 116 => 0#32 | 117 => 0#32 | 118 => 0#32 | 119 => 0#32
  | 120 => 1#32 | 121 => 0#32 | 122 => 0#32 | 123 => 0#32 | 124 => 0#32 | 125 => 0#32 | 126 => 1#32 | 127 => 0#32
  | 128 => 0#32 | 129 => 0#32 | 130 => 0#32 | 131 => 0#32 | 132 => 1#32 | 133 => 0#32 | 134 => 0#32 | 135 => 0#32
  | 136 => 0#32 | 137 => 0#32 | 138 => 1#32 | 139 => 0#32 | 140 => 0#32 | 141 => 0#32 | 142 => 0#32 | 143 => 0#32
  | 144 => 1#32 | 145 => 0#32 | 146 => 0#32 | 147 => 0#32 | 148 => 0#32 | 149 => 0#32 | 150 => 1#32 | 151 => 0#32
  | 152 => 0#32 | 153 => 0#32 | 154 => 0#32 | 155 => 0#32 | 156 => 1#32 | 157 => 0#32 | 158 => 0#32 | 159 => 0#32
  | 160 => 0#32 | 161 => 0#32 | 162 => 1#32 | 163 => 0#32 | 164 => 0#32 | 165 => 0#32 | 166 => 0#32 | 167 => 0#32
  | 168 => 1#32 | 169 => 0#32 | 170 => 0#32 | 171 => 0#32 | 172 => 0#32 | 173 => 0#32 | 174 => 0#32 | 175 => 1#32
  | 176 => 0#32 | 177 => 0#32 | 178 => 0#32 | 179 => 0#32 | 180 => 0#32 | 181 => 0#32 | 182 => 1#32 | 183 => 0#32
  | 184 => 0#32 | 185 => 0#32 | 186 => 0#32 | 187 => 0#32 | 188 => 0#32 | 189 => 1#32 | 190 => 0#32 | 191 => 0#32
  | 192 => 0#32 | 193 => 0#32 | 194 => 0#32 | 195 => 0#32 | 196 => 1#32 | 197 => 0#32 | 198 => 0#32 | 199 => 0#32
  | 200 => 0#32 | 201 => 0#32 | 202 => 0#32 | 203 => 1#32 | 204 => 0#32 | 205 => 0#32 | 206 => 0#32 | 207 => 0#32
  | 208 => 0#32 | 209 => 0#32 | 210 => 1#32 | 211 => 0#32 | 212 => 0#32 | 213 => 0#32 | 214 => 0#32 | 215 => 0#32
  | 216 => 0#32 | 217 => 1#32 | 218 => 0#32 | 219 => 0#32 | 220 => 0#32 | 221 => 0#32 | 222 => 0#32 | 223 => 0#32
  | 224 => 1#32 | 225 => 0#32 | 226 => 0#32 | 227 => 0#32 | 228 => 0#32 | 229 => 0#32 | 230 => 0#32 | 231 => 0#32
  | 232 => 1#32 | 233 => 0#32 | 234 => 0#32 | 235 => 0#32 | 236 => 0#32 | 237 => 0#32 | 238 => 0#32 | 239 => 0#32
  | 240 => 1#32 | 241 => 0#32 | 242 => 0#32 | 243 => 0#32 | 244 => 0#32 | 245 => 0#32 | 246 => 0#32 | 247 => 0#32
  | 248 => 1#32 | 249 => 0#32 | 250 => 0#32 | 251 => 0#32 | 252 => 0#32 | 253 => 0#32 | 254 => 0#32 | 255 => 0#32
  | 256 => 1#32 | 257 => 0#32 | 258 => 0#32 | 259 => 0#32 | 260 => 0#32 | 261 => 0#32 | 262 => 0#32 | 263 => 0#32
  | 264 => 1#32 | 265 => 0#32 | 266 => 0#32 | 267 => 0#32 | 268 => 0#32 | 269 => 0#32 | 270 => 0#32 | 271 => 0#32
  | 272 => 1#32 | 273 => 0#32 | 274 => 0#32 | 275 => 0#32 | 276 => 0#32 | 277 => 0#32 | 278 => 0#32 | 279 => 0#32
  | 280 => 1#32 | 281 => 0#32 | 282 => 0#32 | 283 => 0#32 | 284 => 0#32 | 285 => 0#32 | 286 => 0#32 | 287 => 0#32
  | _ => 0#32

noncomputable abbrev lit3 : Fin 288 → BitVec 32 := fun
  | 0 => 1#32 | 1 => 1#32 | 2 => 1#32 | 3 => 1#32 | 4 => 1#32 | 5 => 1#32 | 6 => 1#32 | 7 => 1#32
  | 8 => 0#32 | 9 => 1#32 | 10 => 0#32 | 11 => 1#32 | 12 => 0#32 | 13 => 1#32 | 14 => 0#32 | 15 => 1#32
  | 16 => 0#32 | 17 => 1#32 | 18 => 0#32 | 19 => 1#32 | 20 => 0#32 | 21 => 1#32 | 22 => 0#32 | 23 => 1#32
  | 24 => 0#32 | 25 => 0#32 | 26 => 1#32 | 27 => 0#32 | 28 => 0#32 | 29 => 1#32 | 30 => 0#32 | 31 => 0#32
  | 32 => 1#32 | 33 => 0#32 | 34 => 0#32 | 35 => 1#32 | 36 => 0#32 | 37 => 0#32 | 38 => 1#32 | 39 => 0#32
  | 40 => 0#32 | 41 => 1#32 | 42 => 0#32 | 43 => 0#32 | 44 => 1#32 | 45 => 0#32 | 46 => 0#32 | 47 => 1#32
  | 48 => 0#32 | 49 => 0#32 | 50 => 0#32 | 51 => 1#32 | 52 => 0#32 | 53 => 0#32 | 54 => 0#32 | 55 => 1#32
  | 56 => 0#32 | 57 => 0#32 | 58 => 0#32 | 59 => 1#32 | 60 => 0#32 | 61 => 0#32 | 62 => 0#32 | 63 => 1#32
  | 64 => 0#32 | 65 => 0#32 | 66 => 0#32 | 67 => 1#32 | 68 => 0#32 | 69 => 0#32 | 70 => 0#32 | 71 => 1#32
  | 72 => 0#32 | 73 => 0#32 | 74 => 0#32 | 75 => 1#32 | 76 => 0#32 | 77 => 0#32 | 78 => 0#32 | 79 => 1#32
  | 80 => 0#32 | 81 => 0#32 | 82 => 0#32 | 83 => 0#32 | 84 => 1#32 | 85 => 0#32 | 86 => 0#32 | 87 => 0#32
  | 88 => 0#32 | 89 => 1#32 | 90 => 0#32 | 91 => 0#32 | 92 => 0#32 | 93 => 0#32 | 94 => 1#32 | 95 => 0#32
  | 96 => 0#32 | 97 => 0#32 | 98 => 0#32 | 99 => 1#32 | 100 => 0#32 | 101 => 0#32 | 102 => 0#32 | 103 => 0#32
  | 104 => 1#32 | 105 => 0#32 | 106 => 0#32 | 107 => 0#32 | 108 => 0#32 | 109 => 1#32 | 110 => 0#32 | 111 => 0#32
  | 112 => 0#32 | 113 => 0#32 | 114 => 1#32 | 115 => 0#32 | 116 => 0#32 | 117 => 0#32 | 118 => 0#32 | 119 => 1#32
  | 120 => 0#32 | 121 => 0#32 | 122 => 0#32 | 123 => 0#32 | 124 => 0#32 | 125 => 1#32 | 126 => 0#32 | 127 => 0#32
  | 128 => 0#32 | 129 => 0#32 | 130 => 0#32 | 131 => 1#32 | 132 => 0#32 | 133 => 0#32 | 134 => 0#32 | 135 => 0#32
  | 136 => 0#32 | 137 => 1#32 | 138 => 0#32 | 139 => 0#32 | 140 => 0#32 | 141 => 0#32 | 142 => 0#32 | 143 => 1#32
  | 144 => 0#32 | 145 => 0#32 | 146 => 0#32 | 147 => 0#32 | 148 => 0#32 | 149 => 1#32 | 150 => 0#32 | 151 => 0#32
  | 152 => 0#32 | 153 => 0#32 | 154 => 0#32 | 155 => 1#32 | 156 => 0#32 | 157 => 0#32 | 158 => 0#32 | 159 => 0#32
  | 160 => 0#32 | 161 => 1#32 | 162 => 0#32 | 163 => 0#32 | 164 => 0#32 | 165 => 0#32 | 166 => 0#32 | 167 => 1#32
  | 168 => 0#32 | 169 => 0#32 | 170 => 0#32 | 171 => 0#32 | 172 => 0#32 | 173 => 0#32 | 174 => 1#32 | 175 => 0#32
  | 176 => 0#32 | 177 => 0#32 | 178 => 0#32 | 179 => 0#32 | 180 => 0#32 | 181 => 1#32 | 182 => 0#32 | 183 => 0#32
  | 184 => 0#32 | 185 => 0#32 | 186 => 0#32 | 187 => 0#32 | 188 => 1#32 | 189 => 0#32 | 190 => 0#32 | 191 => 0#32
  | 192 => 0#32 | 193 => 0#32 | 194 => 0#32 | 195 => 1#32 | 196 => 0#32 | 197 => 0#32 | 198 => 0#32 | 199 => 0#32
  | 200 => 0#32 | 201 => 0#32 | 202 => 1#32 | 203 => 0#32 | 204 => 0#32 | 205 => 0#32 | 206 => 0#32 | 207 => 0#32
  | 208 => 0#32 | 209 => 1#32 | 210 => 0#32 | 211 => 0#32 | 212 => 0#32 | 213 => 0#32 | 214 => 0#32 | 215 => 0#32
  | 216 => 1#32 | 217 => 0#32 | 218 => 0#32 | 219 => 0#32 | 220 => 0#32 | 221 => 0#32 | 222 => 0#32 | 223 => 1#32
  | 224 => 0#32 | 225 => 0#32 | 226 => 0#32 | 227 => 0#32 | 228 => 0#32 | 229 => 0#32 | 230 => 0#32 | 231 => 1#32
  | 232 => 0#32 | 233 => 0#32 | 234 => 0#32 | 235 => 0#32 | 236 => 0#32 | 237 => 0#32 | 238 => 0#32 | 239 => 1#32
  | 240 => 0#32 | 241 => 0#32 | 242 => 0#32 | 243 => 0#32 | 244 => 0#32 | 245 => 0#32 | 246 => 0#32 | 247 => 1#32
  | 248 => 0#32 | 249 => 0#32 | 250 => 0#32 | 251 => 0#32 | 252 => 0#32 | 253 => 0#32 | 254 => 0#32 | 255 => 1#32
  | 256 => 0#32 | 257 => 0#32 | 258 => 0#32 | 259 => 0#32 | 260 => 0#32 | 261 => 0#32 | 262 => 0#32 | 263 => 1#32
  | 264 => 0#32 | 265 => 0#32 | 266 => 0#32 | 267 => 0#32 | 268 => 0#32 | 269 => 0#32 | 270 => 0#32 | 271 => 1#32
  | 272 => 0#32 | 273 => 0#32 | 274 => 0#32 | 275 => 0#32 | 276 => 0#32 | 277 => 0#32 | 278 => 0#32 | 279 => 1#32
  | 280 => 0#32 | 281 => 0#32 | 282 => 0#32 | 283 => 0#32 | 284 => 0#32 | 285 => 0#32 | 286 => 0#32 | 287 => 1#32
  | _ => 0#32

def fn {F : FTy → Type} [FloatOps F] (main_arg0 : IVec S288 32) (main_arg1 : IVec S288 32) (main_arg2 : IVec S288 32) (main_arg3 : IVec S288 32) (main_arg4 : FVec F S8192x4096 .f32) (main_arg5 : FVec F S8192x1024 .f32) (main_arg6 : FVec F S8192x256 .f32) (main_arg7 : FVec F S8192x64 .f32) (main_arg8 : FVec F S256x2048 .f32) : IVec S288 1 × IVec S288 1 × IVec S288 1 × IVec S288 1 :=
  let main_c : IVec S288 32 := fun i => lit0 (S288.rowMajor i)
  let main_c_0 : IVec S288 32 := fun i => lit1 (S288.rowMajor i)
  let main_c_1 : IVec S288 32 := fun i => lit2 (S288.rowMajor i)
  let main_c_2 : IVec S288 32 := fun i => lit3 (S288.rowMajor i)
  let main_v0 : IVec S288 1 := cmpi .eq main_arg0 main_c
  let main_v1 : IVec S288 1 := cmpi .eq main_arg1 main_c_0
  let main_v2 : IVec S288 1 := cmpi .eq main_arg2 main_c_1
  let main_v3 : IVec S288 1 := cmpi .eq main_arg3 main_c_2
  (main_v0, main_v1, main_v2, main_v3)
-- ==== Pre_descending_steps.lean ====
abbrev S36 : Shape := ⟨1, ![36]⟩
abbrev S8192x2048 : Shape := ⟨2, ![8192, 2048]⟩
abbrev S8192x512 : Shape := ⟨2, ![8192, 512]⟩

class Facts : Prop where

variable [Facts]

noncomputable abbrev lit0 : Fin 36 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32
  | _ => 0#32

noncomputable abbrev lit1 : Fin 36 → BitVec 32 := fun
  | 0 => 0#32 | 1 => 1#32 | 2 => 0#32 | 3 => 2#32 | 4 => 1#32 | 5 => 0#32 | 6 => 3#32 | 7 => 2#32
  | 8 => 1#32 | 9 => 0#32 | 10 => 4#32 | 11 => 3#32 | 12 => 2#32 | 13 => 1#32 | 14 => 0#32 | 15 => 5#32
  | 16 => 4#32 | 17 => 3#32 | 18 => 2#32 | 19 => 1#32 | 20 => 0#32 | 21 => 6#32 | 22 => 5#32 | 23 => 4#32
  | 24 => 3#32 | 25 => 2#32 | 26 => 1#32 | 27 => 0#32 | 28 => 7#32 | 29 => 6#32 | 30 => 5#32 | 31 => 4#32
  | 32 => 3#32 | 33 => 2#32 | 34 => 1#32 | 35 => 0#32
  | _ => 0#32

noncomputable abbrev lit2 : Fin 36 → BitVec 32 := fun
  | 0 => 1#32 | 1 => 1#32 | 2 => 0#32 | 3 => 1#32 | 4 => 0#32 | 5 => 0#32 | 6 => 1#32 | 7 => 0#32
  | 8 => 0#32 | 9 => 0#32 | 10 => 1#32 | 11 => 0#32 | 12 => 0#32 | 13 => 0#32 | 14 => 0#32 | 15 => 1#32
  | 16 => 0#32 | 17 => 0#32 | 18 => 0#32 | 19 => 0#32 | 20 => 0#32 | 21 => 1#32 | 22 => 0#32 | 23 => 0#32
  | 24 => 0#32 | 25 => 0#32 | 26 => 0#32 | 27 => 0#32 | 28 => 1#32 | 29 => 0#32 | 30 => 0#32 | 31 => 0#32
  | 32 => 0#32 | 33 => 0#32 | 34 => 0#32 | 35 => 0#32
  | _ => 0#32

noncomputable abbrev lit3 : Fin 36 → BitVec 32 := fun
  | 0 => 1#32 | 1 => 0#32 | 2 => 1#32 | 3 => 0#32 | 4 => 0#32 | 5 => 1#32 | 6 => 0#32 | 7 => 0#32
  | 8 => 0#32 | 9 => 1#32 | 10 => 0#32 | 11 => 0#32 | 12 => 0#32 | 13 => 0#32 | 14 => 1#32 | 15 => 0#32
  | 16 => 0#32 | 17 => 0#32 | 18 => 0#32 | 19 => 0#32 | 20 => 1#32 | 21 => 0#32 | 22 => 0#32 | 23 => 0#32
  | 24 => 0#32 | 25 => 0#32 | 26 => 0#32 | 27 => 1#32 | 28 => 0#32 | 29 => 0#32 | 30 => 0#32 | 31 => 0#32
  | 32 => 0#32 | 33 => 0#32 | 34 => 0#32 | 35 => 1#32
  | _ => 0#32

def fn {F : FTy → Type} [FloatOps F] (main_arg0 : IVec S36 32) (main_arg1 : IVec S36 32) (main_arg2 : IVec S36 32) (main_arg3 : IVec S36 32) (main_arg4 : FVec F S8192x2048 .f32) (main_arg5 : FVec F S8192x512 .f32) (main_arg6 : FVec F S8192x512 .f32) : IVec S36 1 × IVec S36 1 × IVec S36 1 × IVec S36 1 :=
  let main_c : IVec S36 32 := fun i => lit0 (S36.rowMajor i)
  let main_c_0 : IVec S36 32 := fun i => lit1 (S36.rowMajor i)
  let main_c_1 : IVec S36 32 := fun i => lit2 (S36.rowMajor i)
  let main_c_2 : IVec S36 32 := fun i => lit3 (S36.rowMajor i)
  let main_v0 : IVec S36 1 := cmpi .eq main_arg0 main_c
  let main_v1 : IVec S36 1 := cmpi .eq main_arg1 main_c_0
  let main_v2 : IVec S36 1 := cmpi .eq main_arg2 main_c_1
  let main_v3 : IVec S36 1 := cmpi .eq main_arg3 main_c_2
  (main_v0, main_v1, main_v2, main_v3)
-- ==== Pre_finite_causal_steps.lean ====
abbrev S288 : Shape := ⟨1, ![288]⟩
abbrev S8192x4096 : Shape := ⟨2, ![8192, 4096]⟩
abbrev S8192x1024 : Shape := ⟨2, ![8192, 1024]⟩
abbrev S8192x256 : Shape := ⟨2, ![8192, 256]⟩
abbrev S8192x64 : Shape := ⟨2, ![8192, 64]⟩
abbrev S256x2048 : Shape := ⟨2, ![256, 2048]⟩
abbrev S_ : Shape := ⟨0, ![]⟩

class Facts : Prop where
  bcast_S_S8192x4096 : S_.BroadcastsInDim S8192x4096 (![] : Fin 0 → Fin S8192x4096.rank)
  bcast_S_S8192x1024 : S_.BroadcastsInDim S8192x1024 (![] : Fin 0 → Fin S8192x1024.rank)
  bcast_S_S8192x256 : S_.BroadcastsInDim S8192x256 (![] : Fin 0 → Fin S8192x256.rank)
  bcast_S_S8192x64 : S_.BroadcastsInDim S8192x64 (![] : Fin 0 → Fin S8192x64.rank)

variable [Facts]

noncomputable abbrev lit0 : Fin 288 → BitVec 32 := fun
  | 0 => 0#32 | 1 => 1#32 | 2 => 2#32 | 3 => 3#32 | 4 => 4#32 | 5 => 5#32 | 6 => 6#32 | 7 => 7#32
  | 8 => 8#32 | 9 => 8#32 | 10 => 9#32 | 11 => 9#32 | 12 => 10#32 | 13 => 10#32 | 14 => 11#32 | 15 => 11#32
  | 16 => 12#32 | 17 => 12#32 | 18 => 13#32 | 19 => 13#32 | 20 => 14#32 | 21 => 14#32 | 22 => 15#32 | 23 => 15#32
  | 24 => 16#32 | 25 => 16#32 | 26 => 16#32 | 27 => 17#32 | 28 => 17#32 | 29 => 17#32 | 30 => 18#32 | 31 => 18#32
  | 32 => 18#32 | 33 => 19#32 | 34 => 19#32 | 35 => 19#32 | 36 => 20#32 | 37 => 20#32 | 38 => 20#32 | 39 => 21#32
  | 40 => 21#32 | 41 => 21#32 | 42 => 22#32 | 43 => 22#32 | 44 => 22#32 | 45 => 23#32 | 46 => 23#32 | 47 => 23#32
  | 48 => 24#32 | 49 => 24#32 | 50 => 24#32 | 51 => 24#32 | 52 => 25#32 | 53 => 25#32 | 54 => 25#32 | 55 => 25#32
  | 56 => 26#32 | 57 => 26#32 | 58 => 26#32 | 59 => 26#32 | 60 => 27#32 | 61 => 27#32 | 62 => 27#32 | 63 => 27#32
  | 64 => 28#32 | 65 => 28#32 | 66 => 28#32 | 67 => 28#32 | 68 => 29#32 | 69 => 29#32 | 70 => 29#32 | 71 => 29#32
  | 72 => 30#32 | 73 => 30#32 | 74 => 30#32 | 75 => 30#32 | 76 => 31#32 | 77 => 31#32 | 78 => 31#32 | 79 => 31#32
  | 80 => 32#32 | 81 => 32#32 | 82 => 32#32 | 83 => 32#32 | 84 => 32#32 | 85 => 33#32 | 86 => 33#32 | 87 => 33#32
  | 88 => 33#32 | 89 => 33#32 | 90 => 34#32 | 91 => 34#32 | 92 => 34#32 | 93 => 34#32 | 94 => 34#32 | 95 => 35#32
  | 96 => 35#32 | 97 => 35#32 | 98 => 35#32 | 99 => 35#32 | 100 => 36#32 | 101 => 36#32 | 102 => 36#32 | 103 => 36#32
  | 104 => 36#32 | 105 => 37#32 | 106 => 37#32 | 107 => 37#32 | 108 => 37#32 | 109 => 37#32 | 110 => 38#32 | 111 => 38#32
  | 112 => 38#32 | 113 => 38#32 | 114 => 38#32 | 115 => 39#32 | 116 => 39#32 | 117 => 39#32 | 118 => 39#32 | 119 => 39#32
  | 120 => 40#32 | 121 => 40#32 | 122 => 40#32 | 123 => 40#32 | 124 => 40#32 | 125 => 40#32 | 126 => 41#32 | 127 => 41#32
  | 128 => 41#32 | 129 => 41#32 | 130 => 41#32 | 131 => 41#32 | 132 => 42#32 | 133 => 42#32 | 134 => 42#32 | 135 => 42#32
  | 136 => 42#32 | 137 => 42#32 | 138 => 43#32 | 139 => 43#32 | 140 => 43#32 | 141 => 43#32 | 142 => 43#32 | 143 => 43#32
  | 144 => 44#32 | 145 => 44#32 | 146 => 44#32 | 147 => 44#32 | 148 => 44#32 | 149 => 44#32 | 150 => 45#32 | 151 => 45#32
  | 152 => 45#32 | 153 => 45#32 | 154 => 45#32 | 155 => 45#32 | 156 => 46#32 | 157 => 46#32 | 158 => 46#32 | 159 => 46#32
  | 160 => 46#32 | 161 => 46#32 | 162 => 47#32 | 163 => 47#32 | 164 => 47#32 | 165 => 47#32 | 166 => 47#32 | 167 => 47#32
  | 168 => 48#32 | 169 => 48#32 | 170 => 48#32 | 171 => 48#32 | 172 => 48#32 | 173 => 48#32 | 174 => 48#32 | 175 => 49#32
  | 176 => 49#32 | 177 => 49#32 | 178 => 49#32 | 179 => 49#32 | 180 => 49#32 | 181 => 49#32 | 182 => 50#32 | 183 => 50#32
  | 184 => 50#32 | 185 => 50#32 | 186 => 50#32 | 187 => 50#32 | 188 => 50#32 | 189 => 51#32 | 190 => 51#32 | 191 => 51#32
  | 192 => 51#32 | 193 => 51#32 | 194 => 51#32 | 195 => 51#32 | 196 => 52#32 | 197 => 52#32 | 198 => 52#32 | 199 => 52#32
  | 200 => 52#32 | 201 => 52#32 | 202 => 52#32 | 203 => 53#32 | 204 => 53#32 | 205 => 53#32 | 206 => 53#32 | 207 => 53#32
  | 208 => 53#32 | 209 => 53#32 | 210 => 54#32 | 211 => 54#32 | 212 => 54#32 | 213 => 54#32 | 214 => 54#32 | 215 => 54#32
  | 216 => 54#32 | 217 => 55#32 | 218 => 55#32 | 219 => 55#32 | 220 => 55#32 | 221 => 55#32 | 222 => 55#32 | 223 => 55#32
  | 224 => 56#32 | 225 => 56#32 | 226 => 56#32 | 227 => 56#32 | 228 => 56#32 | 229 => 56#32 | 230 => 56#32 | 231 => 56#32
  | 232 => 57#32 | 233 => 57#32 | 234 => 57#32 | 235 => 57#32 | 236 => 57#32 | 237 => 57#32 | 238 => 57#32 | 239 => 57#32
  | 240 => 58#32 | 241 => 58#32 | 242 => 58#32 | 243 => 58#32 | 244 => 58#32 | 245 => 58#32 | 246 => 58#32 | 247 => 58#32
  | 248 => 59#32 | 249 => 59#32 | 250 => 59#32 | 251 => 59#32 | 252 => 59#32 | 253 => 59#32 | 254 => 59#32 | 255 => 59#32
  | 256 => 60#32 | 257 => 60#32 | 258 => 60#32 | 259 => 60#32 | 260 => 60#32 | 261 => 60#32 | 262 => 60#32 | 263 => 60#32
  | 264 => 61#32 | 265 => 61#32 | 266 => 61#32 | 267 => 61#32 | 268 => 61#32 | 269 => 61#32 | 270 => 61#32 | 271 => 61#32
  | 272 => 62#32 | 273 => 62#32 | 274 => 62#32 | 275 => 62#32 | 276 => 62#32 | 277 => 62#32 | 278 => 62#32 | 279 => 62#32
  | 280 => 63#32 | 281 => 63#32 | 282 => 63#32 | 283 => 63#32 | 284 => 63#32 | 285 => 63#32 | 286 => 63#32 | 287 => 63#32
  | _ => 0#32

noncomputable abbrev lit1 : Fin 288 → BitVec 32 := fun
  | 0 => 0#32 | 1 => 0#32 | 2 => 0#32 | 3 => 0#32 | 4 => 0#32 | 5 => 0#32 | 6 => 0#32 | 7 => 0#32
  | 8 => 0#32 | 9 => 1#32 | 10 => 0#32 | 11 => 1#32 | 12 => 0#32 | 13 => 1#32 | 14 => 0#32 | 15 => 1#32
  | 16 => 0#32 | 17 => 1#32 | 18 => 0#32 | 19 => 1#32 | 20 => 0#32 | 21 => 1#32 | 22 => 0#32 | 23 => 1#32
  | 24 => 0#32 | 25 => 1#32 | 26 => 2#32 | 27 => 0#32 | 28 => 1#32 | 29 => 2#32 | 30 => 0#32 | 31 => 1#32
  | 32 => 2#32 | 33 => 0#32 | 34 => 1#32 | 35 => 2#32 | 36 => 0#32 | 37 => 1#32 | 38 => 2#32 | 39 => 0#32
  | 40 => 1#32 | 41 => 2#32 | 42 => 0#32 | 43 => 1#32 | 44 => 2#32 | 45 => 0#32 | 46 => 1#32 | 47 => 2#32
  | 48 => 0#32 | 49 => 1#32 | 50 => 2#32 | 51 => 3#32 | 52 => 0#32 | 53 => 1#32 | 54 => 2#32 | 55 => 3#32
  | 56 => 0#32 | 57 => 1#32 | 58 => 2#32 | 59 => 3#32 | 60 => 0#32 | 61 => 1#32 | 62 => 2#32 | 63 => 3#32
  | 64 => 0#32 | 65 => 1#32 | 66 => 2#32 | 67 => 3#32 | 68 => 0#32 | 69 => 1#32 | 70 => 2#32 | 71 => 3#32
  | 72 => 0#32 | 73 => 1#32 | 74 => 2#32 | 75 => 3#32 | 76 => 0#32 | 77 => 1#32 | 78 => 2#32 | 79 => 3#32
  | 80 => 0#32 | 81 => 1#32 | 82 => 2#32 | 83 => 3#32 | 84 => 4#32 | 85 => 0#32 | 86 => 1#32 | 87 => 2#32
  | 88 => 3#32 | 89 => 4#32 | 90 => 0#32 | 91 => 1#32 | 92 => 2#32 | 93 => 3#32 | 94 => 4#32 | 95 => 0#32
  | 96 => 1#32 | 97 => 2#32 | 98 => 3#32 | 99 => 4#32 | 100 => 0#32 | 101 => 1#32 | 102 => 2#32 | 103 => 3#32
  | 104 => 4#32 | 105 => 0#32 | 106 => 1#32 | 107 => 2#32 | 108 => 3#32 | 109 => 4#32 | 110 => 0#32 | 111 => 1#32
  | 112 => 2#32 | 113 => 3#32 | 114 => 4#32 | 115 => 0#32 | 116 => 1#32 | 117 => 2#32 | 118 => 3#32 | 119 => 4#32
  | 120 => 0#32 | 121 => 1#32 | 122 => 2#32 | 123 => 3#32 | 124 => 4#32 | 125 => 5#32 | 126 => 0#32 | 127 => 1#32
  | 128 => 2#32 | 129 => 3#32 | 130 => 4#32 | 131 => 5#32 | 132 => 0#32 | 133 => 1#32 | 134 => 2#32 | 135 => 3#32
  | 136 => 4#32 | 137 => 5#32 | 138 => 0#32 | 139 => 1#32 | 140 => 2#32 | 141 => 3#32 | 142 => 4#32 | 143 => 5#32
  | 144 => 0#32 | 145 => 1#32 | 146 => 2#32 | 147 => 3#32 | 148 => 4#32 | 149 => 5#32 | 150 => 0#32 | 151 => 1#32
  | 152 => 2#32 | 153 => 3#32 | 154 => 4#32 | 155 => 5#32 | 156 => 0#32 | 157 => 1#32 | 158 => 2#32 | 159 => 3#32
  | 160 => 4#32 | 161 => 5#32 | 162 => 0#32 | 163 => 1#32 | 164 => 2#32 | 165 => 3#32 | 166 => 4#32 | 167 => 5#32
  | 168 => 0#32 | 169 => 1#32 | 170 => 2#32 | 171 => 3#32 | 172 => 4#32 | 173 => 5#32 | 174 => 6#32 | 175 => 0#32
  | 176 => 1#32 | 177 => 2#32 | 178 => 3#32 | 179 => 4#32 | 180 => 5#32 | 181 => 6#32 | 182 => 0#32 | 183 => 1#32
  | 184 => 2#32 | 185 => 3#32 | 186 => 4#32 | 187 => 5#32 | 188 => 6#32 | 189 => 0#32 | 190 => 1#32 | 191 => 2#32
  | 192 => 3#32 | 193 => 4#32 | 194 => 5#32 | 195 => 6#32 | 196 => 0#32 | 197 => 1#32 | 198 => 2#32 | 199 => 3#32
  | 200 => 4#32 | 201 => 5#32 | 202 => 6#32 | 203 => 0#32 | 204 => 1#32 | 205 => 2#32 | 206 => 3#32 | 207 => 4#32
  | 208 => 5#32 | 209 => 6#32 | 210 => 0#32 | 211 => 1#32 | 212 => 2#32 | 213 => 3#32 | 214 => 4#32 | 215 => 5#32
  | 216 => 6#32 | 217 => 0#32 | 218 => 1#32 | 219 => 2#32 | 220 => 3#32 | 221 => 4#32 | 222 => 5#32 | 223 => 6#32
  | 224 => 0#32 | 225 => 1#32 | 226 => 2#32 | 227 => 3#32 | 228 => 4#32 | 229 => 5#32 | 230 => 6#32 | 231 => 7#32
  | 232 => 0#32 | 233 => 1#32 | 234 => 2#32 | 235 => 3#32 | 236 => 4#32 | 237 => 5#32 | 238 => 6#32 | 239 => 7#32
  | 240 => 0#32 | 241 => 1#32 | 242 => 2#32 | 243 => 3#32 | 244 => 4#32 | 245 => 5#32 | 246 => 6#32 | 247 => 7#32
  | 248 => 0#32 | 249 => 1#32 | 250 => 2#32 | 251 => 3#32 | 252 => 4#32 | 253 => 5#32 | 254 => 6#32 | 255 => 7#32
  | 256 => 0#32 | 257 => 1#32 | 258 => 2#32 | 259 => 3#32 | 260 => 4#32 | 261 => 5#32 | 262 => 6#32 | 263 => 7#32
  | 264 => 0#32 | 265 => 1#32 | 266 => 2#32 | 267 => 3#32 | 268 => 4#32 | 269 => 5#32 | 270 => 6#32 | 271 => 7#32
  | 272 => 0#32 | 273 => 1#32 | 274 => 2#32 | 275 => 3#32 | 276 => 4#32 | 277 => 5#32 | 278 => 6#32 | 279 => 7#32
  | 280 => 0#32 | 281 => 1#32 | 282 => 2#32 | 283 => 3#32 | 284 => 4#32 | 285 => 5#32 | 286 => 6#32 | 287 => 7#32
  | _ => 0#32

noncomputable abbrev lit2 : Fin 288 → BitVec 32 := fun
  | 0 => 1#32 | 1 => 1#32 | 2 => 1#32 | 3 => 1#32 | 4 => 1#32 | 5 => 1#32 | 6 => 1#32 | 7 => 1#32
  | 8 => 1#32 | 9 => 0#32 | 10 => 1#32 | 11 => 0#32 | 12 => 1#32 | 13 => 0#32 | 14 => 1#32 | 15 => 0#32
  | 16 => 1#32 | 17 => 0#32 | 18 => 1#32 | 19 => 0#32 | 20 => 1#32 | 21 => 0#32 | 22 => 1#32 | 23 => 0#32
  | 24 => 1#32 | 25 => 0#32 | 26 => 0#32 | 27 => 1#32 | 28 => 0#32 | 29 => 0#32 | 30 => 1#32 | 31 => 0#32
  | 32 => 0#32 | 33 => 1#32 | 34 => 0#32 | 35 => 0#32 | 36 => 1#32 | 37 => 0#32 | 38 => 0#32 | 39 => 1#32
  | 40 => 0#32 | 41 => 0#32 | 42 => 1#32 | 43 => 0#32 | 44 => 0#32 | 45 => 1#32 | 46 => 0#32 | 47 => 0#32
  | 48 => 1#32 | 49 => 0#32 | 50 => 0#32 | 51 => 0#32 | 52 => 1#32 | 53 => 0#32 | 54 => 0#32 | 55 => 0#32
  | 56 => 1#32 | 57 => 0#32 | 58 => 0#32 | 59 => 0#32 | 60 => 1#32 | 61 => 0#32 | 62 => 0#32 | 63 => 0#32
  | 64 => 1#32 | 65 => 0#32 | 66 => 0#32 | 67 => 0#32 | 68 => 1#32 | 69 => 0#32 | 70 => 0#32 | 71 => 0#32
  | 72 => 1#32 | 73 => 0#32 | 74 => 0#32 | 75 => 0#32 | 76 => 1#32 | 77 => 0#32 | 78 => 0#32 | 79 => 0#32
  | 80 => 1#32 | 81 => 0#32 | 82 => 0#32 | 83 => 0#32 | 84 => 0#32 | 85 => 1#32 | 86 => 0#32 | 87 => 0#32
  | 88 => 0#32 | 89 => 0#32 | 90 => 1#32 | 91 => 0#32 | 92 => 0#32 | 93 => 0#32 | 94 => 0#32 | 95 => 1#32
  | 96 => 0#32 | 97 => 0#32 | 98 => 0#32 | 99 => 0#32 | 100 => 1#32 | 101 => 0#32 | 102 => 0#32 | 103 => 0#32
  | 104 => 0#32 | 105 => 1#32 | 106 => 0#32 | 107 => 0#32 | 108 => 0#32 | 109 => 0#32 | 110 => 1#32 | 111 => 0#32
  | 112 => 0#32 | 113 => 0#32 | 114 => 0#32 | 115 => 1#32 | 116 => 0#32 | 117 => 0#32 | 118 => 0#32 | 119 => 0#32
  | 120 => 1#32 | 121 => 0#32 | 122 => 0#32 | 123 => 0#32 | 124 => 0#32 | 125 => 0#32 | 126 => 1#32 | 127 => 0#32
  | 128 => 0#32 | 129 => 0#32 | 130 => 0#32 | 131 => 0#32 | 132 => 1#32 | 133 => 0#32 | 134 => 0#32 | 135 => 0#32
  | 136 => 0#32 | 137 => 0#32 | 138 => 1#32 | 139 => 0#32 | 140 => 0#32 | 141 => 0#32 | 142 => 0#32 | 143 => 0#32
  | 144 => 1#32 | 145 => 0#32 | 146 => 0#32 | 147 => 0#32 | 148 => 0#32 | 149 => 0#32 | 150 => 1#32 | 151 => 0#32
  | 152 => 0#32 | 153 => 0#32 | 154 => 0#32 | 155 => 0#32 | 156 => 1#32 | 157 => 0#32 | 158 => 0#32 | 159 => 0#32
  | 160 => 0#32 | 161 => 0#32 | 162 => 1#32 | 163 => 0#32 | 164 => 0#32 | 165 => 0#32 | 166 => 0#32 | 167 => 0#32
  | 168 => 1#32 | 169 => 0#32 | 170 => 0#32 | 171 => 0#32 | 172 => 0#32 | 173 => 0#32 | 174 => 0#32 | 175 => 1#32
  | 176 => 0#32 | 177 => 0#32 | 178 => 0#32 | 179 => 0#32 | 180 => 0#32 | 181 => 0#32 | 182 => 1#32 | 183 => 0#32
  | 184 => 0#32 | 185 => 0#32 | 186 => 0#32 | 187 => 0#32 | 188 => 0#32 | 189 => 1#32 | 190 => 0#32 | 191 => 0#32
  | 192 => 0#32 | 193 => 0#32 | 194 => 0#32 | 195 => 0#32 | 196 => 1#32 | 197 => 0#32 | 198 => 0#32 | 199 => 0#32
  | 200 => 0#32 | 201 => 0#32 | 202 => 0#32 | 203 => 1#32 | 204 => 0#32 | 205 => 0#32 | 206 => 0#32 | 207 => 0#32
  | 208 => 0#32 | 209 => 0#32 | 210 => 1#32 | 211 => 0#32 | 212 => 0#32 | 213 => 0#32 | 214 => 0#32 | 215 => 0#32
  | 216 => 0#32 | 217 => 1#32 | 218 => 0#32 | 219 => 0#32 | 220 => 0#32 | 221 => 0#32 | 222 => 0#32 | 223 => 0#32
  | 224 => 1#32 | 225 => 0#32 | 226 => 0#32 | 227 => 0#32 | 228 => 0#32 | 229 => 0#32 | 230 => 0#32 | 231 => 0#32
  | 232 => 1#32 | 233 => 0#32 | 234 => 0#32 | 235 => 0#32 | 236 => 0#32 | 237 => 0#32 | 238 => 0#32 | 239 => 0#32
  | 240 => 1#32 | 241 => 0#32 | 242 => 0#32 | 243 => 0#32 | 244 => 0#32 | 245 => 0#32 | 246 => 0#32 | 247 => 0#32
  | 248 => 1#32 | 249 => 0#32 | 250 => 0#32 | 251 => 0#32 | 252 => 0#32 | 253 => 0#32 | 254 => 0#32 | 255 => 0#32
  | 256 => 1#32 | 257 => 0#32 | 258 => 0#32 | 259 => 0#32 | 260 => 0#32 | 261 => 0#32 | 262 => 0#32 | 263 => 0#32
  | 264 => 1#32 | 265 => 0#32 | 266 => 0#32 | 267 => 0#32 | 268 => 0#32 | 269 => 0#32 | 270 => 0#32 | 271 => 0#32
  | 272 => 1#32 | 273 => 0#32 | 274 => 0#32 | 275 => 0#32 | 276 => 0#32 | 277 => 0#32 | 278 => 0#32 | 279 => 0#32
  | 280 => 1#32 | 281 => 0#32 | 282 => 0#32 | 283 => 0#32 | 284 => 0#32 | 285 => 0#32 | 286 => 0#32 | 287 => 0#32
  | _ => 0#32

noncomputable abbrev lit3 : Fin 288 → BitVec 32 := fun
  | 0 => 1#32 | 1 => 1#32 | 2 => 1#32 | 3 => 1#32 | 4 => 1#32 | 5 => 1#32 | 6 => 1#32 | 7 => 1#32
  | 8 => 0#32 | 9 => 1#32 | 10 => 0#32 | 11 => 1#32 | 12 => 0#32 | 13 => 1#32 | 14 => 0#32 | 15 => 1#32
  | 16 => 0#32 | 17 => 1#32 | 18 => 0#32 | 19 => 1#32 | 20 => 0#32 | 21 => 1#32 | 22 => 0#32 | 23 => 1#32
  | 24 => 0#32 | 25 => 0#32 | 26 => 1#32 | 27 => 0#32 | 28 => 0#32 | 29 => 1#32 | 30 => 0#32 | 31 => 0#32
  | 32 => 1#32 | 33 => 0#32 | 34 => 0#32 | 35 => 1#32 | 36 => 0#32 | 37 => 0#32 | 38 => 1#32 | 39 => 0#32
  | 40 => 0#32 | 41 => 1#32 | 42 => 0#32 | 43 => 0#32 | 44 => 1#32 | 45 => 0#32 | 46 => 0#32 | 47 => 1#32
  | 48 => 0#32 | 49 => 0#32 | 50 => 0#32 | 51 => 1#32 | 52 => 0#32 | 53 => 0#32 | 54 => 0#32 | 55 => 1#32
  | 56 => 0#32 | 57 => 0#32 | 58 => 0#32 | 59 => 1#32 | 60 => 0#32 | 61 => 0#32 | 62 => 0#32 | 63 => 1#32
  | 64 => 0#32 | 65 => 0#32 | 66 => 0#32 | 67 => 1#32 | 68 => 0#32 | 69 => 0#32 | 70 => 0#32 | 71 => 1#32
  | 72 => 0#32 | 73 => 0#32 | 74 => 0#32 | 75 => 1#32 | 76 => 0#32 | 77 => 0#32 | 78 => 0#32 | 79 => 1#32
  | 80 => 0#32 | 81 => 0#32 | 82 => 0#32 | 83 => 0#32 | 84 => 1#32 | 85 => 0#32 | 86 => 0#32 | 87 => 0#32
  | 88 => 0#32 | 89 => 1#32 | 90 => 0#32 | 91 => 0#32 | 92 => 0#32 | 93 => 0#32 | 94 => 1#32 | 95 => 0#32
  | 96 => 0#32 | 97 => 0#32 | 98 => 0#32 | 99 => 1#32 | 100 => 0#32 | 101 => 0#32 | 102 => 0#32 | 103 => 0#32
  | 104 => 1#32 | 105 => 0#32 | 106 => 0#32 | 107 => 0#32 | 108 => 0#32 | 109 => 1#32 | 110 => 0#32 | 111 => 0#32
  | 112 => 0#32 | 113 => 0#32 | 114 => 1#32 | 115 => 0#32 | 116 => 0#32 | 117 => 0#32 | 118 => 0#32 | 119 => 1#32
  | 120 => 0#32 | 121 => 0#32 | 122 => 0#32 | 123 => 0#32 | 124 => 0#32 | 125 => 1#32 | 126 => 0#32 | 127 => 0#32
  | 128 => 0#32 | 129 => 0#32 | 130 => 0#32 | 131 => 1#32 | 132 => 0#32 | 133 => 0#32 | 134 => 0#32 | 135 => 0#32
  | 136 => 0#32 | 137 => 1#32 | 138 => 0#32 | 139 => 0#32 | 140 => 0#32 | 141 => 0#32 | 142 => 0#32 | 143 => 1#32
  | 144 => 0#32 | 145 => 0#32 | 146 => 0#32 | 147 => 0#32 | 148 => 0#32 | 149 => 1#32 | 150 => 0#32 | 151 => 0#32
  | 152 => 0#32 | 153 => 0#32 | 154 => 0#32 | 155 => 1#32 | 156 => 0#32 | 157 => 0#32 | 158 => 0#32 | 159 => 0#32
  | 160 => 0#32 | 161 => 1#32 | 162 => 0#32 | 163 => 0#32 | 164 => 0#32 | 165 => 0#32 | 166 => 0#32 | 167 => 1#32
  | 168 => 0#32 | 169 => 0#32 | 170 => 0#32 | 171 => 0#32 | 172 => 0#32 | 173 => 0#32 | 174 => 1#32 | 175 => 0#32
  | 176 => 0#32 | 177 => 0#32 | 178 => 0#32 | 179 => 0#32 | 180 => 0#32 | 181 => 1#32 | 182 => 0#32 | 183 => 0#32
  | 184 => 0#32 | 185 => 0#32 | 186 => 0#32 | 187 => 0#32 | 188 => 1#32 | 189 => 0#32 | 190 => 0#32 | 191 => 0#32
  | 192 => 0#32 | 193 => 0#32 | 194 => 0#32 | 195 => 1#32 | 196 => 0#32 | 197 => 0#32 | 198 => 0#32 | 199 => 0#32
  | 200 => 0#32 | 201 => 0#32 | 202 => 1#32 | 203 => 0#32 | 204 => 0#32 | 205 => 0#32 | 206 => 0#32 | 207 => 0#32
  | 208 => 0#32 | 209 => 1#32 | 210 => 0#32 | 211 => 0#32 | 212 => 0#32 | 213 => 0#32 | 214 => 0#32 | 215 => 0#32
  | 216 => 1#32 | 217 => 0#32 | 218 => 0#32 | 219 => 0#32 | 220 => 0#32 | 221 => 0#32 | 222 => 0#32 | 223 => 1#32
  | 224 => 0#32 | 225 => 0#32 | 226 => 0#32 | 227 => 0#32 | 228 => 0#32 | 229 => 0#32 | 230 => 0#32 | 231 => 1#32
  | 232 => 0#32 | 233 => 0#32 | 234 => 0#32 | 235 => 0#32 | 236 => 0#32 | 237 => 0#32 | 238 => 0#32 | 239 => 1#32
  | 240 => 0#32 | 241 => 0#32 | 242 => 0#32 | 243 => 0#32 | 244 => 0#32 | 245 => 0#32 | 246 => 0#32 | 247 => 1#32
  | 248 => 0#32 | 249 => 0#32 | 250 => 0#32 | 251 => 0#32 | 252 => 0#32 | 253 => 0#32 | 254 => 0#32 | 255 => 1#32
  | 256 => 0#32 | 257 => 0#32 | 258 => 0#32 | 259 => 0#32 | 260 => 0#32 | 261 => 0#32 | 262 => 0#32 | 263 => 1#32
  | 264 => 0#32 | 265 => 0#32 | 266 => 0#32 | 267 => 0#32 | 268 => 0#32 | 269 => 0#32 | 270 => 0#32 | 271 => 1#32
  | 272 => 0#32 | 273 => 0#32 | 274 => 0#32 | 275 => 0#32 | 276 => 0#32 | 277 => 0#32 | 278 => 0#32 | 279 => 1#32
  | 280 => 0#32 | 281 => 0#32 | 282 => 0#32 | 283 => 0#32 | 284 => 0#32 | 285 => 0#32 | 286 => 0#32 | 287 => 1#32
  | _ => 0#32

def fn {F : FTy → Type} [FloatOps F] (main_arg0 : IVec S288 32) (main_arg1 : IVec S288 32) (main_arg2 : IVec S288 32) (main_arg3 : IVec S288 32) (main_arg4 : FVec F S8192x4096 .f32) (main_arg5 : FVec F S8192x1024 .f32) (main_arg6 : FVec F S8192x256 .f32) (main_arg7 : FVec F S8192x64 .f32) (main_arg8 : FVec F S256x2048 .f32) : IVec S288 1 × IVec S288 1 × IVec S288 1 × IVec S288 1 × IVec S8192x4096 1 × IVec S8192x1024 1 × IVec S8192x256 1 × IVec S8192x64 1 :=
  let main_c : IVec S288 32 := fun i => lit0 (S288.rowMajor i)
  let main_c_0 : IVec S288 32 := fun i => lit1 (S288.rowMajor i)
  let main_c_1 : IVec S288 32 := fun i => lit2 (S288.rowMajor i)
  let main_c_2 : IVec S288 32 := fun i => lit3 (S288.rowMajor i)
  let main_v0 : IVec S288 1 := cmpi .eq main_arg0 main_c
  let main_v1 : IVec S288 1 := cmpi .eq main_arg1 main_c_0
  let main_v2 : IVec S288 1 := cmpi .eq main_arg2 main_c_1
  let main_v3 : IVec S288 1 := cmpi .eq main_arg3 main_c_2
  let main_v4 : FVec F S8192x4096 .f32 := Host.absf main_arg4
  let main_cst : FVec F S_ .f32 := constant S_ .f32 0x7F800000#32
  let main_v5 : FVec F S8192x4096 .f32 := broadcastInDim S8192x4096 ![] bcast_S_S8192x4096 main_cst
  let main_v6 : IVec S8192x4096 1 := cmpf .olt main_v4 main_v5
  let main_v7 : FVec F S8192x1024 .f32 := Host.absf main_arg5
  let main_cst_3 : FVec F S_ .f32 := constant S_ .f32 0x7F800000#32
  let main_v8 : FVec F S8192x1024 .f32 := broadcastInDim S8192x1024 ![] bcast_S_S8192x1024 main_cst_3
  let main_v9 : IVec S8192x1024 1 := cmpf .olt main_v7 main_v8
  let main_v10 : FVec F S8192x256 .f32 := Host.absf main_arg6
  let main_cst_4 : FVec F S_ .f32 := constant S_ .f32 0x7F800000#32
  let main_v11 : FVec F S8192x256 .f32 := broadcastInDim S8192x256 ![] bcast_S_S8192x256 main_cst_4
  let main_v12 : IVec S8192x256 1 := cmpf .olt main_v10 main_v11
  let main_v13 : FVec F S8192x64 .f32 := Host.absf main_arg7
  let main_cst_5 : FVec F S_ .f32 := constant S_ .f32 0x7F800000#32
  let main_v14 : FVec F S8192x64 .f32 := broadcastInDim S8192x64 ![] bcast_S_S8192x64 main_cst_5
  let main_v15 : IVec S8192x64 1 := cmpf .olt main_v13 main_v14
  (main_v0, main_v1, main_v2, main_v3, main_v6, main_v9, main_v12, main_v15)
-- ==== Pre_finite_descending_steps.lean ====
abbrev S36 : Shape := ⟨1, ![36]⟩
abbrev S8192x2048 : Shape := ⟨2, ![8192, 2048]⟩
abbrev S8192x512 : Shape := ⟨2, ![8192, 512]⟩
abbrev S_ : Shape := ⟨0, ![]⟩

class Facts : Prop where
  bcast_S_S8192x2048 : S_.BroadcastsInDim S8192x2048 (![] : Fin 0 → Fin S8192x2048.rank)
  bcast_S_S8192x512 : S_.BroadcastsInDim S8192x512 (![] : Fin 0 → Fin S8192x512.rank)

variable [Facts]

noncomputable abbrev lit0 : Fin 36 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32
  | _ => 0#32

noncomputable abbrev lit1 : Fin 36 → BitVec 32 := fun
  | 0 => 0#32 | 1 => 1#32 | 2 => 0#32 | 3 => 2#32 | 4 => 1#32 | 5 => 0#32 | 6 => 3#32 | 7 => 2#32
  | 8 => 1#32 | 9 => 0#32 | 10 => 4#32 | 11 => 3#32 | 12 => 2#32 | 13 => 1#32 | 14 => 0#32 | 15 => 5#32
  | 16 => 4#32 | 17 => 3#32 | 18 => 2#32 | 19 => 1#32 | 20 => 0#32 | 21 => 6#32 | 22 => 5#32 | 23 => 4#32
  | 24 => 3#32 | 25 => 2#32 | 26 => 1#32 | 27 => 0#32 | 28 => 7#32 | 29 => 6#32 | 30 => 5#32 | 31 => 4#32
  | 32 => 3#32 | 33 => 2#32 | 34 => 1#32 | 35 => 0#32
  | _ => 0#32

noncomputable abbrev lit2 : Fin 36 → BitVec 32 := fun
  | 0 => 1#32 | 1 => 1#32 | 2 => 0#32 | 3 => 1#32 | 4 => 0#32 | 5 => 0#32 | 6 => 1#32 | 7 => 0#32
  | 8 => 0#32 | 9 => 0#32 | 10 => 1#32 | 11 => 0#32 | 12 => 0#32 | 13 => 0#32 | 14 => 0#32 | 15 => 1#32
  | 16 => 0#32 | 17 => 0#32 | 18 => 0#32 | 19 => 0#32 | 20 => 0#32 | 21 => 1#32 | 22 => 0#32 | 23 => 0#32
  | 24 => 0#32 | 25 => 0#32 | 26 => 0#32 | 27 => 0#32 | 28 => 1#32 | 29 => 0#32 | 30 => 0#32 | 31 => 0#32
  | 32 => 0#32 | 33 => 0#32 | 34 => 0#32 | 35 => 0#32
  | _ => 0#32

noncomputable abbrev lit3 : Fin 36 → BitVec 32 := fun
  | 0 => 1#32 | 1 => 0#32 | 2 => 1#32 | 3 => 0#32 | 4 => 0#32 | 5 => 1#32 | 6 => 0#32 | 7 => 0#32
  | 8 => 0#32 | 9 => 1#32 | 10 => 0#32 | 11 => 0#32 | 12 => 0#32 | 13 => 0#32 | 14 => 1#32 | 15 => 0#32
  | 16 => 0#32 | 17 => 0#32 | 18 => 0#32 | 19 => 0#32 | 20 => 1#32 | 21 => 0#32 | 22 => 0#32 | 23 => 0#32
  | 24 => 0#32 | 25 => 0#32 | 26 => 0#32 | 27 => 1#32 | 28 => 0#32 | 29 => 0#32 | 30 => 0#32 | 31 => 0#32
  | 32 => 0#32 | 33 => 0#32 | 34 => 0#32 | 35 => 1#32
  | _ => 0#32

def fn {F : FTy → Type} [FloatOps F] (main_arg0 : IVec S36 32) (main_arg1 : IVec S36 32) (main_arg2 : IVec S36 32) (main_arg3 : IVec S36 32) (main_arg4 : FVec F S8192x2048 .f32) (main_arg5 : FVec F S8192x512 .f32) (main_arg6 : FVec F S8192x512 .f32) : IVec S36 1 × IVec S36 1 × IVec S36 1 × IVec S36 1 × IVec S8192x2048 1 × IVec S8192x512 1 :=
  let main_c : IVec S36 32 := fun i => lit0 (S36.rowMajor i)
  let main_c_0 : IVec S36 32 := fun i => lit1 (S36.rowMajor i)
  let main_c_1 : IVec S36 32 := fun i => lit2 (S36.rowMajor i)
  let main_c_2 : IVec S36 32 := fun i => lit3 (S36.rowMajor i)
  let main_v0 : IVec S36 1 := cmpi .eq main_arg0 main_c
  let main_v1 : IVec S36 1 := cmpi .eq main_arg1 main_c_0
  let main_v2 : IVec S36 1 := cmpi .eq main_arg2 main_c_1
  let main_v3 : IVec S36 1 := cmpi .eq main_arg3 main_c_2
  let main_v4 : FVec F S8192x2048 .f32 := Host.absf main_arg4
  let main_cst : FVec F S_ .f32 := constant S_ .f32 0x7F800000#32
  let main_v5 : FVec F S8192x2048 .f32 := broadcastInDim S8192x2048 ![] bcast_S_S8192x2048 main_cst
  let main_v6 : IVec S8192x2048 1 := cmpf .olt main_v4 main_v5
  let main_v7 : FVec F S8192x512 .f32 := Host.absf main_arg5
  let main_cst_3 : FVec F S_ .f32 := constant S_ .f32 0x7F800000#32
  let main_v8 : FVec F S8192x512 .f32 := broadcastInDim S8192x512 ![] bcast_S_S8192x512 main_cst_3
  let main_v9 : IVec S8192x512 1 := cmpf .olt main_v7 main_v8
  (main_v0, main_v1, main_v2, main_v3, main_v6, main_v9)
-- ==== Kernel.lean ====
abbrev S288 : Shape := ⟨1, ![288]⟩
abbrev S8192x4096 : Shape := ⟨2, ![8192, 4096]⟩
abbrev S8192x1024 : Shape := ⟨2, ![8192, 1024]⟩
abbrev S8192x256 : Shape := ⟨2, ![8192, 256]⟩
abbrev S8192x64 : Shape := ⟨2, ![8192, 64]⟩
abbrev S256x2048 : Shape := ⟨2, ![256, 2048]⟩
abbrev S8192x2048 : Shape := ⟨2, ![8192, 2048]⟩
abbrev S64x4096 : Shape := ⟨2, ![64, 4096]⟩
abbrev S1 : Shape := ⟨1, ![1]⟩
abbrev S64x1024 : Shape := ⟨2, ![64, 1024]⟩
abbrev S512x256 : Shape := ⟨2, ![512, 256]⟩
abbrev S512x64 : Shape := ⟨2, ![512, 64]⟩
abbrev S64x2048 : Shape := ⟨2, ![64, 2048]⟩
abbrev S1024x384 : Shape := ⟨2, ![1024, 384]⟩
abbrev S1024x1 : Shape := ⟨2, ![1024, 1]⟩
abbrev S1024x256 : Shape := ⟨2, ![1024, 256]⟩
abbrev S64x64 : Shape := ⟨2, ![64, 64]⟩
abbrev S64x256 : Shape := ⟨2, ![64, 256]⟩
abbrev S64x384 : Shape := ⟨2, ![64, 384]⟩
abbrev S512x384 : Shape := ⟨2, ![512, 384]⟩
abbrev S1024x512 : Shape := ⟨2, ![1024, 512]⟩
abbrev S1024 : Shape := ⟨1, ![1024]⟩
abbrev S256x128 : Shape := ⟨2, ![256, 128]⟩
abbrev S64x128 : Shape := ⟨2, ![64, 128]⟩

abbrev nBuf : Space → Nat
  | .hbm => 6
  | .vmem => 15
  | .smem => 4
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x256, .f32⟩
  | .hbm, ⟨3, _⟩ => ⟨S8192x64, .f32⟩
  | .hbm, ⟨4, _⟩ => ⟨S256x2048, .f32⟩
  | .hbm, ⟨5, _⟩ => ⟨S8192x2048, .f32⟩
  | .local _ .vmem, ⟨0, _⟩ => ⟨S64x4096, .f32⟩
  | .local _ .vmem, ⟨1, _⟩ => ⟨S64x4096, .f32⟩
  | .local _ .vmem, ⟨2, _⟩ => ⟨S64x1024, .f32⟩
  | .local _ .vmem, ⟨3, _⟩ => ⟨S64x1024, .f32⟩
  | .local _ .vmem, ⟨4, _⟩ => ⟨S512x256, .f32⟩
  | .local _ .vmem, ⟨5, _⟩ => ⟨S512x256, .f32⟩
  | .local _ .vmem, ⟨6, _⟩ => ⟨S512x64, .f32⟩
  | .local _ .vmem, ⟨7, _⟩ => ⟨S512x64, .f32⟩
  | .local _ .vmem, ⟨8, _⟩ => ⟨S256x2048, .f32⟩
  | .local _ .vmem, ⟨9, _⟩ => ⟨S64x2048, .f32⟩
  | .local _ .vmem, ⟨10, _⟩ => ⟨S64x2048, .f32⟩
  | .local _ .vmem, ⟨11, _⟩ => ⟨S1024x384, .bf16⟩
  | .local _ .vmem, ⟨12, _⟩ => ⟨S1024x1, .f32⟩
  | .local _ .vmem, ⟨13, _⟩ => ⟨S1024x1, .f32⟩
  | .local _ .vmem, ⟨14, _⟩ => ⟨S1024x256, .f32⟩
  | .local _ .smem, ⟨0, _⟩ => ⟨S288, .i32⟩
  | .local _ .smem, ⟨1, _⟩ => ⟨S288, .i32⟩
  | .local _ .smem, ⟨2, _⟩ => ⟨S288, .i32⟩
  | .local _ .smem, ⟨3, _⟩ => ⟨S288, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 288], ![false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_off2 (i : grid0.Coords) : Fin 1 → Nat :=
  let arg1 : BitVec 32 := BitVec.ofNat 32 (i 1).val
  let v10 : Index := Scalar.indexCast arg1
  ![v10.toNat]
def k0_off3 (i : grid0.Coords) : Fin 1 → Nat :=
  let arg1 : BitVec 32 := BitVec.ofNat 32 (i 1).val
  let v29 : Index := Scalar.indexCast arg1
  ![v29.toNat]
def k0_off4 (i : grid0.Coords) : Fin 1 → Nat :=
  let arg1 : BitVec 32 := BitVec.ofNat 32 (i 1).val
  let v24 : Index := Scalar.indexCast arg1
  ![v24.toNat]
def k0_cond4 (v25 : BitVec 32) : BitVec 1 :=
  let c1_i32_7 : BitVec 32 := 1#32
  let v26 : BitVec 1 := Scalar.cmpi .eq v25 c1_i32_7
  let v27 : BitVec 32 := Scalar.extui v26
  let c0_i32_8 : BitVec 32 := 0#32
  let v28 : BitVec 1 := Scalar.cmpi .ne v27 c0_i32_8
  v28

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : Index := Scalar.indexCast arg1
  let v2 : BitVec 32 := pf.at 0 (Rect.unit (s := S288) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : Index := Scalar.indexCast arg1
  let v2 : BitVec 32 := pf.at 0 (Rect.unit (s := S288) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S288) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_3 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S288) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : Index := Scalar.indexCast arg1
  let v2 : BitVec 32 := pf.at 0 (Rect.unit (s := S288) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | "qscale" => some (((Real.sqrt 192)⁻¹ * (Real.log 2)⁻¹ : ℝ) : EReal)
  | _ => none
-- ==== ReferenceIdeal.lean ====
abbrev S288 : Shape := ⟨1, ![288]⟩
abbrev S8192x4096 : Shape := ⟨2, ![8192, 4096]⟩
abbrev S8192x1024 : Shape := ⟨2, ![8192, 1024]⟩
abbrev S8192x256 : Shape := ⟨2, ![8192, 256]⟩
abbrev S8192x64 : Shape := ⟨2, ![8192, 64]⟩
abbrev S256x2048 : Shape := ⟨2, ![256, 2048]⟩
abbrev S2x4096x16x256 : Shape := ⟨4, ![2, 4096, 16, 256]⟩
abbrev S2x4096x16x64 : Shape := ⟨4, ![2, 4096, 16, 64]⟩
abbrev S2x4096x256 : Shape := ⟨3, ![2, 4096, 256]⟩
abbrev S2x4096x64 : Shape := ⟨3, ![2, 4096, 64]⟩
abbrev S2x4096x4096x16 : Shape := ⟨4, ![2, 4096, 4096, 16]⟩
abbrev S2x16x4096x4096 : Shape := ⟨4, ![2, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x16x4096 : Shape := ⟨3, ![2, 16, 4096]⟩
abbrev S2x16x4096x1 : Shape := ⟨4, ![2, 16, 4096, 1]⟩
abbrev S2x256x16x4096 : Shape := ⟨4, ![2, 256, 16, 4096]⟩
abbrev S256x16x128 : Shape := ⟨3, ![256, 16, 128]⟩
abbrev S16x128x2x4096 : Shape := ⟨4, ![16, 128, 2, 4096]⟩
abbrev S2x4096x16x128 : Shape := ⟨4, ![2, 4096, 16, 128]⟩
abbrev S8192x2048 : Shape := ⟨2, ![8192, 2048]⟩

abbrev nBuf : Space → Nat
  | .hbm => 53
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S288, .i32⟩
  | .hbm, ⟨3, _⟩ => ⟨S288, .i32⟩
  | .hbm, ⟨4, _⟩ => ⟨S8192x4096, .f32⟩
  | .hbm, ⟨5, _⟩ => ⟨S8192x1024, .f32⟩
  | .hbm, ⟨6, _⟩ => ⟨S8192x256, .f32⟩
  | .hbm, ⟨7, _⟩ => ⟨S8192x64, .f32⟩
  | .hbm, ⟨8, _⟩ => ⟨S256x2048, .f32⟩
  | .hbm, ⟨9, _⟩ => ⟨S2x4096x16x256, .f32⟩
  | .hbm, ⟨10, _⟩ => ⟨S2x4096x16x64, .f32⟩
  | .hbm, ⟨11, _⟩ => ⟨S2x4096x256, .f32⟩
  | .hbm, ⟨12, _⟩ => ⟨S2x4096x64, .f32⟩
  | .hbm, ⟨13, _⟩ => ⟨S2x4096x4096x16, .f32⟩
  | .hbm, ⟨14, _⟩ => ⟨S2x16x4096x4096, .f32⟩
  | .hbm, ⟨15, _⟩ => ⟨S2x4096x4096x16, .f32⟩
  | .hbm, ⟨16, _⟩ => ⟨S2x16x4096x4096, .f32⟩
  | .hbm, ⟨17, _⟩ => ⟨S2x16x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S2x16x4096x4096, .f32⟩
  | .hbm, ⟨27, _⟩ => ⟨S2x16x4096x4096, .f32⟩
  | .hbm, ⟨28, _⟩ => ⟨S_, .f32⟩
  | .hbm, ⟨29, _⟩ => ⟨S_, .f32⟩
  | .hbm, ⟨30, _⟩ => ⟨S2x16x4096x4096, .i1⟩
  | .hbm, ⟨31, _⟩ => ⟨S2x16x4096x4096, .f32⟩
  | .hbm, ⟨32, _⟩ => ⟨S2x16x4096x4096, .f32⟩
  | .hbm, ⟨33, _⟩ => ⟨S_, .f32⟩
  | .hbm, ⟨34, _⟩ => ⟨S2x16x4096, .f32⟩
  | .hbm, ⟨35, _⟩ => ⟨S_, .f32⟩
  | .hbm, ⟨36, _⟩ => ⟨S2x16x4096, .f32⟩
  | .hbm, ⟨37, _⟩ => ⟨S2x16x4096, .f32⟩
  | .hbm, ⟨38, _⟩ => ⟨S2x16x4096x1, .f32⟩
  | .hbm, ⟨39, _⟩ => ⟨S2x16x4096x4096, .f32⟩
  | .hbm, ⟨40, _⟩ => ⟨S2x16x4096x4096, .f32⟩
  | .hbm, ⟨41, _⟩ => ⟨S2x16x4096x4096, .f32⟩
  | .hbm, ⟨42, _⟩ => ⟨S_, .f32⟩
  | .hbm, ⟨43, _⟩ => ⟨S2x16x4096, .f32⟩
  | .hbm, ⟨44, _⟩ => ⟨S2x16x4096x1, .f32⟩
  | .hbm, ⟨45, _⟩ => ⟨S2x16x4096x4096, .f32⟩
  | .hbm, ⟨46, _⟩ => ⟨S2x16x4096x4096, .f32⟩
  | .hbm, ⟨47, _⟩ => ⟨S2x256x16x4096, .f32⟩
  | .hbm, ⟨48, _⟩ => ⟨S2x4096x16x256, .f32⟩
  | .hbm, ⟨49, _⟩ => ⟨S256x16x128, .f32⟩
  | .hbm, ⟨50, _⟩ => ⟨S16x128x2x4096, .f32⟩
  | .hbm, ⟨51, _⟩ => ⟨S2x4096x16x128, .f32⟩
  | .hbm, ⟨52, _⟩ => ⟨S8192x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048 : Shape := ⟨1, ![2048]⟩
abbrev S2048x10304 : Shape := ⟨2, ![2048, 10304]⟩
abbrev S8192x2048 : Shape := ⟨2, ![8192, 2048]⟩
abbrev S2048x10240 : Shape := ⟨2, ![2048, 10240]⟩
abbrev S1x2048 : Shape := ⟨2, ![1, 2048]⟩
abbrev S8192x10240 : Shape := ⟨2, ![8192, 10240]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩
abbrev S2x4096x10240 : Shape := ⟨3, ![2, 4096, 10240]⟩
abbrev S2x3x6144 : Shape := ⟨3, ![2, 3, 6144]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x10304, .f32⟩
  | .hbm, ⟨3, _⟩ => ⟨S8192x2048, .f32⟩
  | .hbm, ⟨4, _⟩ => ⟨S2048x10240, .f32⟩
  | .hbm, ⟨5, _⟩ => ⟨S2048x10240, .bf16⟩
  | .hbm, ⟨6, _⟩ => ⟨S1x2048, .f32⟩
  | .hbm, ⟨7, _⟩ => ⟨S8192x10240, .f32⟩
  | .hbm, ⟨8, _⟩ => ⟨S2x4096x10240, .f32⟩
  | .hbm, ⟨9, _⟩ => ⟨S2x3x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x4096x2048 : Shape := ⟨3, ![2, 4096, 2048]⟩
abbrev S2048 : Shape := ⟨1, ![2048]⟩
abbrev S2048x10304 : Shape := ⟨2, ![2048, 10304]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x10240 : Shape := ⟨2, ![2048, 10240]⟩
abbrev S2x4096x10240 : Shape := ⟨3, ![2, 4096, 10240]⟩
abbrev S8192x10240 : Shape := ⟨2, ![8192, 10240]⟩
abbrev S2x3x6144 : Shape := ⟨3, ![2, 3, 6144]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x10304, .f32⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2048x10240, .f32⟩
  | .hbm, ⟨20, _⟩ => ⟨S2x4096x10240, .f32⟩
  | .hbm, ⟨21, _⟩ => ⟨S8192x10240, .f32⟩
  | .hbm, ⟨22, _⟩ => ⟨S2x3x6144, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S8192x4096 : Shape := ⟨2, ![8192, 4096]⟩
abbrev S4096x2048 : Shape := ⟨2, ![4096, 2048]⟩
abbrev S8192x2048 : Shape := ⟨2, ![8192, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S2048, .f32⟩
  | .hbm, ⟨4, _⟩ => ⟨S4096x2048, .bf16⟩
  | .hbm, ⟨5, _⟩ => ⟨S1x2048, .f32⟩
  | .hbm, ⟨6, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8192x4096 : Shape := ⟨2, ![8192, 4096]⟩
abbrev S4096x2048 : Shape := ⟨2, ![4096, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2048x5120 : Shape := ⟨2, ![2048, 5120]⟩
abbrev S1x2048 : Shape := ⟨2, ![1, 2048]⟩
abbrev S8192x5120 : Shape := ⟨2, ![8192, 5120]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S2048x5120, .bf16⟩
  | .hbm, ⟨4, _⟩ => ⟨S1x2048, .f32⟩
  | .hbm, ⟨5, _⟩ => ⟨S8192x5120, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048 : Shape := ⟨1, ![2048]⟩
abbrev S2048x5120 : Shape := ⟨2, ![2048, 5120]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5120 : Shape := ⟨2, ![8192, 5120]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x5120, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S8192x2048 : Shape := ⟨2, ![8192, 2048]⟩
abbrev S8192x5120 : Shape := ⟨2, ![8192, 5120]⟩
abbrev S2048x2048 : Shape := ⟨2, ![2048, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x5120, .f32⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S8192x2048 : Shape := ⟨2, ![8192, 2048]⟩
abbrev S8192x5120 : Shape := ⟨2, ![8192, 5120]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5120, .f32⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S2048x2880 : Shape := ⟨2, ![2048, 2880]⟩
abbrev S_ : Shape := ⟨0, ![]⟩
abbrev S2048x192 : Shape := ⟨2, ![2048, 192]⟩
abbrev S2048x832 : Shape := ⟨2, ![2048, 832]⟩
abbrev S2048x2048 : Shape := ⟨2, ![2048, 2048]⟩
abbrev S2048x3072 : Shape := ⟨2, ![2048, 3072]⟩
abbrev S1x2048 : Shape := ⟨2, ![1, 2048]⟩
abbrev S8192x3072 : Shape := ⟨2, ![8192, 3072]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩
abbrev S8192x832 : Shape := ⟨2, ![8192, 832]⟩

abbrev nBuf : Space → Nat
  | .hbm => 13
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2880, .f32⟩
  | .hbm, ⟨3, _⟩ => ⟨S_, .f32⟩
  | .hbm, ⟨4, _⟩ => ⟨S2048x192, .f32⟩
  | .hbm, ⟨5, _⟩ => ⟨S2048x832, .f32⟩
  | .hbm, ⟨6, _⟩ => ⟨S2048x2048, .f32⟩
  | .hbm, ⟨7, _⟩ => ⟨S2048x3072, .f32⟩
  | .hbm, ⟨8, _⟩ => ⟨S2048x3072, .bf16⟩
  | .hbm, ⟨9, _⟩ => ⟨S1x2048, .f32⟩
  | .hbm, ⟨10, _⟩ => ⟨S8192x3072, .f32⟩
  | .hbm, ⟨11, _⟩ => ⟨S8192x832, .f32⟩
  | .hbm, ⟨12, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2048 : Shape := ⟨2, ![8192, 2048]⟩
abbrev S2048 : Shape := ⟨1, ![2048]⟩
abbrev S2048x2880 : Shape := ⟨2, ![2048, 2880]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x2880 : Shape := ⟨2, ![8192, 2880]⟩
abbrev S8192x832 : Shape := ⟨2, ![8192, 832]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2880, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2880, .f32⟩
  | .hbm, ⟨20, _⟩ => ⟨S8192x832, .f32⟩
  | .hbm, ⟨21, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S8192x2048 : Shape := ⟨2, ![8192, 2048]⟩
abbrev S8192x3072 : Shape := ⟨2, ![8192, 3072]⟩
abbrev S2048x2048 : Shape := ⟨2, ![2048, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S8192x2048 : Shape := ⟨2, ![8192, 2048]⟩
abbrev S8192x3072 : Shape := ⟨2, ![8192, 3072]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Kernel8.lean ====
abbrev S36 : Shape := ⟨1, ![36]⟩
abbrev S8192x2048 : Shape := ⟨2, ![8192, 2048]⟩
abbrev S8192x512 : Shape := ⟨2, ![8192, 512]⟩
abbrev S512x512 : Shape := ⟨2, ![512, 512]⟩
abbrev S1 : Shape := ⟨1, ![1]⟩
abbrev S512x128 : Shape := ⟨2, ![512, 128]⟩
abbrev S2048x128 : Shape := ⟨2, ![2048, 128]⟩
abbrev S2048x1 : Shape := ⟨2, ![2048, 1]⟩
abbrev S128x128 : Shape := ⟨2, ![128, 128]⟩
abbrev S2048x512 : Shape := ⟨2, ![2048, 512]⟩
abbrev S8192x128 : Shape := ⟨2, ![8192, 128]⟩
abbrev S2048 : Shape := ⟨1, ![2048]⟩

abbrev nBuf : Space → Nat
  | .hbm => 4
  | .vmem => 11
  | .smem => 4
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x512, .f32⟩
  | .hbm, ⟨3, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S2048x128, .bf16⟩
  | .local _ .vmem, ⟨9, _⟩ => ⟨S2048x1, .f32⟩
  | .local _ .vmem, ⟨10, _⟩ => ⟨S2048x128, .f32⟩
  | .local _ .smem, ⟨0, _⟩ => ⟨S36, .i32⟩
  | .local _ .smem, ⟨1, _⟩ => ⟨S36, .i32⟩
  | .local _ .smem, ⟨2, _⟩ => ⟨S36, .i32⟩
  | .local _ .smem, ⟨3, _⟩ => ⟨S36, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 36], ![false, false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_off2 (i : grid0.Coords) : Fin 1 → Nat :=
  let arg2 : BitVec 32 := BitVec.ofNat 32 (i 2).val
  let v15 : Index := Scalar.indexCast arg2
  ![v15.toNat]
def k0_off3 (i : grid0.Coords) : Fin 1 → Nat :=
  let arg2 : BitVec 32 := BitVec.ofNat 32 (i 2).val
  let v25 : Index := Scalar.indexCast arg2
  ![v25.toNat]
def k0_cond4 (v26 : BitVec 32) : BitVec 1 :=
  let c1_i32_5 : BitVec 32 := 1#32
  let v27 : BitVec 1 := Scalar.cmpi .eq v26 c1_i32_5
  let v28 : BitVec 32 := Scalar.extui v27
  let c0_i32_6 : BitVec 32 := 0#32
  let v29 : BitVec 1 := Scalar.cmpi .ne v28 c0_i32_6
  v29

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel8Ideal.lean ====
variable {F : FTy → Type} [FloatOps F] [Named F]
def κ : String → Option EReal := fun
  | "log2e" => some (((Real.log 2)⁻¹ : ℝ) : EReal)
  | "sbscale" => some (((Real.sqrt 128)⁻¹ * (Real.log 2)⁻¹ : ℝ) : EReal)
  | _ => none
-- ==== Reference8Ideal.lean ====
abbrev S36 : Shape := ⟨1, ![36]⟩
abbrev S8192x2048 : Shape := ⟨2, ![8192, 2048]⟩
abbrev S8192x512 : Shape := ⟨2, ![8192, 512]⟩
abbrev S2x4096x4x4x128 : Shape := ⟨5, ![2, 4096, 4, 4, 128]⟩
abbrev S2x4096x4x128 : Shape := ⟨4, ![2, 4096, 4, 128]⟩
abbrev S2x4x4096x4096x4 : Shape := ⟨5, ![2, 4, 4096, 4096, 4]⟩
abbrev S2x4x4x4096x4096 : Shape := ⟨5, ![2, 4, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x4x128x4x4096 : Shape := ⟨5, ![2, 4, 128, 4, 4096]⟩

abbrev nBuf : Space → Nat
  | .hbm => 72
  | .vmem => 0
  | .smem => 0
  | _ => 0

abbrev bufTy : (tb : Table) → Fin (tcTables nBuf tb) → BufTy
  | .hbm, ⟨0, _⟩ => ⟨S36, .i32⟩
  | .hbm, ⟨1, _⟩ => ⟨S36, .i32⟩
  | .hbm, ⟨2, _⟩ => ⟨S36, .i32⟩
  | .hbm, ⟨3, _⟩ => ⟨S36, .i32⟩
  | .hbm, ⟨4, _⟩ => ⟨S8192x2048, .f32⟩
  | .hbm, ⟨5, _⟩ => ⟨S8192x512, .f32⟩
  | .hbm, ⟨6, _⟩ => ⟨S8192x512, .f32⟩
  | .hbm, ⟨7, _⟩ => ⟨S2x4096x4x4x128, .f32⟩
  | .hbm, ⟨8, _⟩ => ⟨S2x4096x4x128, .f32⟩
  | .hbm, ⟨9, _⟩ => ⟨S2x4096x4x128, .f32⟩
  | .hbm, ⟨10, _⟩ => ⟨S2x4x4096x4096x4, .f32⟩
  | .hbm, ⟨11, _⟩ => ⟨S2x4x4x4096x4096, .f32⟩
  | .hbm, ⟨12, _⟩ => ⟨S_, .f32⟩
  | .hbm, ⟨13, _⟩ => ⟨S_, .f32⟩
  | .hbm, ⟨14, _⟩ => ⟨S2x4x4x4096x4096, .f32⟩
  | .hbm, ⟨15, _⟩ => ⟨S2x4x4x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S2x4x4x4096x4096, .f32⟩
  | .hbm, ⟨24, _⟩ => ⟨S2x4x4x4096x4096, .f32⟩
  | .hbm, ⟨25, _⟩ => ⟨S2x4x4x4096x4096, .f32⟩
  | .hbm, ⟨26, _⟩ => ⟨S2x4x4x4096x4096, .f32⟩
  | .hbm, ⟨27, _⟩ => ⟨S2x4x4x4096x4096, .i1⟩
  | .hbm, ⟨28, _⟩ => ⟨S2x4x4x4096x4096, .f32⟩
  | .hbm, ⟨29, _⟩ => ⟨S2x4x4x4096x4096, .f32⟩
  | .hbm, ⟨30, _⟩ => ⟨S2x4x4x4096x4096, .f32⟩
  | .hbm, ⟨31, _⟩ => ⟨S2x4x4x4096x4096, .f32⟩
  | .hbm, ⟨32, _⟩ => ⟨S2x4x4x4096x4096, .f32⟩
  | .hbm, ⟨33, _⟩ => ⟨S2x4x4x4096x4096, .f32⟩
  | .hbm, ⟨34, _⟩ => ⟨S2x4x4x4096x4096, .f32⟩
  | .hbm, ⟨35, _⟩ => ⟨S2x4x4x4096x4096, .f32⟩
  | .hbm, ⟨36, _⟩ => ⟨S2x4x4x4096x4096, .f32⟩
  | .hbm, ⟨37, _⟩ => ⟨S_, .f32⟩
  | .hbm, ⟨38, _⟩ => ⟨S_, .f32⟩
  | .hbm, ⟨39, _⟩ => ⟨S2x4x4x4096x4096, .i1⟩
  | .hbm, ⟨40, _⟩ => ⟨S2x4x4x4096x4096, .f32⟩
  | .hbm, ⟨41, _⟩ => ⟨S2x4x4x4096x4096, .f32⟩
  | .hbm, ⟨42, _⟩ => ⟨S_, .f32⟩
  | .hbm, ⟨43, _⟩ => ⟨S_, .f32⟩
  | .hbm, ⟨44, _⟩ => ⟨S2x4x4x4096x4096, .f32⟩
  | .hbm, ⟨45, _⟩ => ⟨S2x4x4x4096x4096, .f32⟩
  | .hbm, ⟨46, _⟩ => ⟨S2x4x4x4096x4096, .f32⟩
  | .hbm, ⟨47, _⟩ => ⟨S_, .f32⟩
  | .hbm, ⟨48, _⟩ => ⟨S2x4x4x4096x4096, .f32⟩
  | .hbm, ⟨49, _⟩ => ⟨S2x4x4x4096x4096, .f32⟩
  | .hbm, ⟨50, _⟩ => ⟨S2x4x4x4096x4096, .f32⟩
  | .hbm, ⟨51, _⟩ => ⟨S2x4x4x4096x4096, .f32⟩
  | .hbm, ⟨52, _⟩ => ⟨S2x4x4x4096x4096, .i1⟩
  | .hbm, ⟨53, _⟩ => ⟨S2x4x4x4096x4096, .f32⟩
  | .hbm, ⟨54, _⟩ => ⟨S2x4x4x4096x4096, .f32⟩
  | .hbm, ⟨55, _⟩ => ⟨S2x4x4x4096x4096, .f32⟩
  | .hbm, ⟨56, _⟩ => ⟨S2x4x4x4096x4096, .f32⟩
  | .hbm, ⟨57, _⟩ => ⟨S2x4x4x4096x4096, .f32⟩
  | .hbm, ⟨58, _⟩ => ⟨S2x4x4x4096x4096, .f32⟩
  | .hbm, ⟨59, _⟩ => ⟨S2x4x4x4096x4096, .f32⟩
  | .hbm, ⟨60, _⟩ => ⟨S2x4x4x4096x4096, .f32⟩
  | .hbm, ⟨61, _⟩ => ⟨S2x4x4x4096x4096, .f32⟩
  | .hbm, ⟨62, _⟩ => ⟨S2x4x4x4096x4096, .f32⟩
  | .hbm, ⟨63, _⟩ => ⟨S2x4x4x4096x4096, .f32⟩
  | .hbm, ⟨64, _⟩ => ⟨S_, .f32⟩
  | .hbm, ⟨65, _⟩ => ⟨S_, .f32⟩
  | .hbm, ⟨66, _⟩ => ⟨S2x4x4x4096x4096, .i1⟩
  | .hbm, ⟨67, _⟩ => ⟨S2x4x4x4096x4096, .f32⟩
  | .hbm, ⟨68, _⟩ => ⟨S2x4x4x4096x4096, .f32⟩
  | .hbm, ⟨69, _⟩ => ⟨S2x4x128x4x4096, .f32⟩
  | .hbm, ⟨70, _⟩ => ⟨S2x4096x4x4x128, .f32⟩
  | .hbm, ⟨71, _⟩ => ⟨S8192x2048, .f32⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v16 : Ref sig .tc := ⟨.hbm, 41, rfl⟩
abbrev main_call2_cst : Ref sig .tc := ⟨.hbm, 42, rfl⟩
abbrev main_call2_v0 : Ref sig .tc := ⟨.hbm, 43, rfl⟩
abbrev main_v17 : Ref sig .tc := ⟨.hbm, 44, rfl⟩
abbrev main_v18 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩

abbrev nD : Nat := 1
abbrev τ : Topo := Topo.v7x

variable {F : FTy → Type} [FloatOps F]
-- ==== Proof.Softmax.lean ====
/-
  The softmax of a row, taken block by block, over the extended reals.

  A kernel that reads the keys of a row in blocks carries three numbers: the greatest score so far `m`, the
  sum of the weights `2 ^ (score - m)` so far `l`, and the sum of the weighted values so far `a`.  `State` says
  that they are those of the first `n` keys; `State.step` says that one more block keeps it so.  No score and
  no value is assumed finite: a row whose greatest score is infinite has all its weights zero, before
  and after a step.
-/
module

public import Idealize.ShloMosaic.PureOps.Ideal

@[expose] public section

noncomputable section

namespace Cert.Attn

open Idealize.ShloMosaic

/-- The weight of a score `s` below the maximum `M`, in base two. -/
def wt (s M : EReal) : EReal := Ideal.exp2 (s - M)

theorem exp2_nonneg (x : EReal) : 0 ≤ Ideal.exp2 x := by
  induction x with
  | bot => simp
  | top => simp
  | coe r => rw [Ideal.exp2_coe]; exact_mod_cast Real.rpow_nonneg (by norm_num) r

theorem wt_nonneg (s M : EReal) : 0 ≤ wt s M := exp2_nonneg _

theorem wt_top (s : EReal) : wt s ⊤ = 0 := by
  unfold wt; rw [sub_eq_add_neg, EReal.neg_top, EReal.add_bot, Ideal.exp2_bot]

theorem wt_bot (M : EReal) : wt ⊥ M = 0 := by
  unfold wt; rw [sub_eq_add_neg, EReal.bot_add, Ideal.exp2_bot]

theorem wt_coe (s M : ℝ) : wt s M = ((Real.rpow 2 (s - M) : ℝ) : EReal) := by
  unfold wt; rw [← EReal.coe_sub, Ideal.exp2_coe]

/-- A score at most the maximum has a weight that is not infinite. -/
theorem wt_ne_top {s M : EReal} (h : s ≤ M) : wt s M ≠ ⊤ := by
  induction M with
  | top => rw [wt_top]; exact EReal.zero_ne_top
  | bot => rw [le_bot_iff.1 h, wt_bot]; exact EReal.zero_ne_top
  | coe M =>
    induction s with
    | top => exact absurd (top_le_iff.1 h) (EReal.coe_ne_top M)
    | bot => rw [wt_bot]; exact EReal.zero_ne_top
    | coe s => rw [wt_coe]; exact EReal.coe_ne_top _

/-- Rescaling a weight from a maximum to a greater one. -/
theorem wt_mul_wt {s M M' : EReal} (h : s ≤ M) (h' : M ≤ M') : wt s M * wt M M' = wt s M' := by
  induction M' with
  | top => rw [wt_top, wt_top, mul_zero]
  | bot => rw [le_bot_iff.1 (h.trans h'), wt_bot, wt_bot, zero_mul]
  | coe M' =>
    induction M with
    | top => exact absurd (top_le_iff.1 h') (EReal.coe_ne_top M')
    | bot => rw [le_bot_iff.1 h, wt_bot, wt_bot, zero_mul]
    | coe M =>
      induction s with
      | top => exact absurd (top_le_iff.1 h) (EReal.coe_ne_top M)
      | bot => rw [wt_bot, wt_bot, zero_mul]
      | coe s =>
        rw [wt_coe, wt_coe, wt_coe, ← EReal.coe_mul]
        congr 1
        show (2 : ℝ) ^ (s - M) * (2 : ℝ) ^ (M - M') = (2 : ℝ) ^ (s - M')
        rw [← Real.rpow_add (by norm_num)]
        congr 1
        ring

/-- A factor that is neither negative nor infinite goes under a sum. -/
theorem sum_mul_of_nonneg {ι : Type*} (I : Finset ι) (f : ι → EReal) {c : EReal} (h0 : 0 ≤ c) (ht : c ≠ ⊤) :
    (∑ i ∈ I, f i) * c = ∑ i ∈ I, f i * c := by
  classical
  induction I using Finset.induction_on with
  | empty => simp
  | insert i I hi ih =>
    rw [Finset.sum_insert hi, Finset.sum_insert hi, EReal.right_distrib_of_nonneg_of_ne_top h0 ht, ih]

/-- The scores of the first `n` keys. -/
def upTo (n : ℕ) (s : ℕ → EReal) : Set EReal := s '' {i | i < n}

/-- `m`, `l`, `a` are the greatest score, the sum of the weights and the weighted sum of the values `v` over the
    first `n` keys. -/
structure State (n : ℕ) (s v : ℕ → EReal) (m l a : EReal) : Prop where
  lub : IsLUB (upTo n s) m
  den : l = ∑ i ∈ Finset.range n, wt (s i) m
  num : a = ∑ i ∈ Finset.range n, wt (s i) m * v i

theorem State.zero (s v : ℕ → EReal) : State 0 s v ⊥ 0 0 where
  lub := by
    have : upTo 0 s = ∅ := by simp [upTo]
    rw [this]; exact isLUB_empty
  den := by simp
  num := by simp

/-- The greatest of finitely many numbers, as a fold of `max` from the bottom. -/
theorem isLUB_fold {K : ℕ} (f : Fin K → EReal) : IsLUB (Set.range f) (Finset.univ.fold max ⊥ f) := by
  have h : Finset.univ.fold max ⊥ f = Finset.univ.sup f := rfl
  rw [h]
  constructor
  · rintro _ ⟨i, rfl⟩
    exact Finset.le_sup (Finset.mem_univ i)
  · intro b hb
    exact Finset.sup_le fun i _ => hb ⟨i, rfl⟩

theorem upTo_add (n K : ℕ) (s : ℕ → EReal) : upTo (n + K) s = upTo n s ∪ Set.range fun j : Fin K => s (n + j) := by
  ext x
  simp only [upTo, Set.mem_image, Set.mem_setOf_eq, Set.mem_union, Set.mem_range]
  constructor
  · rintro ⟨i, hi, rfl⟩
    by_cases h : i < n
    · exact Or.inl ⟨i, h, rfl⟩
    · exact Or.inr ⟨⟨i - n, by omega⟩, by simp only; congr 1; omega⟩
  · rintro (⟨i, hi, rfl⟩ | ⟨j, rfl⟩)
    · exact ⟨i, by omega, rfl⟩
    · exact ⟨n + j, by omega, rfl⟩

/-- The greatest score of the keys before a block and of the block's own. -/
theorem isLUB_max {n K : ℕ} {s : ℕ → EReal} {m : EReal} (h : IsLUB (upTo n s) m) :
    IsLUB (upTo (n + K) s) (max m (Finset.univ.fold max ⊥ fun j : Fin K => s (n + j))) := by
  rw [upTo_add]; exact h.union (isLUB_fold _)

/-- One more block of `K` keys. -/
theorem State.step {n : ℕ} (K : ℕ) {s v : ℕ → EReal} {m l a m' : EReal} (h : State n s v m l a)
    (hm : m' = max m (Finset.univ.fold max ⊥ fun j : Fin K => s (n + j))) :
    State (n + K) s v m' (l * wt m m' + ∑ j : Fin K, wt (s (n + j)) m')
      (a * wt m m' + ∑ j : Fin K, wt (s (n + j)) m' * v (n + j)) := by
  have hmm : m ≤ m' := hm ▸ le_max_left _ _
  have hle : ∀ i ∈ Finset.range n, s i ≤ m := fun i hi => h.lub.1 ⟨i, Finset.mem_range.1 hi, rfl⟩
  refine ⟨hm ▸ isLUB_max h.lub, ?_, ?_⟩
  · rw [h.den, sum_mul_of_nonneg _ _ (wt_nonneg _ _) (wt_ne_top hmm), Finset.sum_range_add]
    rw [Finset.sum_range (n := K), Finset.sum_congr rfl fun i hi => wt_mul_wt (hle i hi) hmm]
  · rw [h.num, sum_mul_of_nonneg _ _ (wt_nonneg _ _) (wt_ne_top hmm), Finset.sum_range_add]
    rw [Finset.sum_range (n := K)]
    refine congrArg (· + _) (Finset.sum_congr rfl fun i hi => ?_)
    rw [mul_right_comm, wt_mul_wt (hle i hi) hmm]

/-! ### From base two to base `e` -/

/-- The reciprocal of the natural logarithm of two. -/
def invLn2 : ℝ := (Real.log 2)⁻¹

theorem invLn2_pos : 0 < invLn2 := inv_pos.2 (Real.log_pos (by norm_num))

theorem exp2_mul (x : EReal) : Ideal.exp2 (invLn2 * x) = Ideal.exp x := by
  induction x with
  | bot => rw [EReal.coe_mul_bot_of_pos invLn2_pos]; rfl
  | top => rw [EReal.coe_mul_top_of_pos invLn2_pos]; rfl
  | coe r =>
    rw [← EReal.coe_mul, Ideal.exp2_coe, Ideal.exp_coe]
    congr 1
    show (2 : ℝ) ^ (invLn2 * r) = Real.exp r
    rw [Real.rpow_def_of_pos (by norm_num), ← mul_assoc, invLn2, mul_inv_cancel₀ (Real.log_pos (by norm_num)).ne',
      one_mul]

/-- A weight in base two of scaled scores is the weight in base `e`. -/
theorem wt_scaled (s M : EReal) : wt (invLn2 * s) (invLn2 * M) = Ideal.exp (s - M) := by
  have h : (invLn2 : EReal) * s - invLn2 * M = invLn2 * (s - M) := by
    rw [sub_eq_add_neg, sub_eq_add_neg, EReal.left_distrib_of_nonneg_of_ne_top (by exact_mod_cast invLn2_pos.le)
      (EReal.coe_ne_top _), ← mul_neg]
  unfold wt
  rw [h, exp2_mul]

/-- Multiplying by a positive real keeps least upper bounds. -/
theorem isLUB_coe_mul {c : ℝ} (hc : 0 < c) {ι : Type*} {f : ι → EReal} {S : Set ι} {M : EReal} (h : IsLUB (f '' S) M) :
    IsLUB ((fun i => (c : EReal) * f i) '' S) (c * M) := by
  have hc' : ((c⁻¹ : ℝ) : EReal) * c = 1 := by
    rw [← EReal.coe_mul, inv_mul_cancel₀ hc.ne', EReal.coe_one]
  have hc'' : (c : EReal) * (c⁻¹ : ℝ) = 1 := by rw [mul_comm]; exact hc'
  have hmono : ∀ {d : ℝ}, 0 < d → ∀ {x y : EReal}, x ≤ y → (d : EReal) * x ≤ d * y := fun hd _ _ hxy =>
    mul_le_mul_of_nonneg_left hxy (by exact_mod_cast hd.le)
  constructor
  · rintro _ ⟨i, hi, rfl⟩
    exact hmono hc (h.1 ⟨i, hi, rfl⟩)
  · intro b hb
    have h1 : M ≤ ((c⁻¹ : ℝ) : EReal) * b := h.2 (by
      rintro _ ⟨i, hi, rfl⟩
      have := hmono (inv_pos.2 hc) (hb ⟨i, hi, rfl⟩)
      simpa only [← mul_assoc, hc', one_mul] using this)
    have h2 := hmono hc h1
    simpa only [← mul_assoc, hc'', one_mul] using h2

/-- What the three numbers are once all keys are read, in base `e`: `s` the scores, which the kernel scales by the
    reciprocal of `ln 2`, and `M` the greatest of them. -/
theorem State.final {n : ℕ} {s v : ℕ → EReal} {m l a M : EReal} (h : State n (fun i => invLn2 * s i) v m l a)
    (hM : IsLUB (upTo n s) M) :
    l = ∑ i ∈ Finset.range n, Ideal.exp (s i - M) ∧ a = ∑ i ∈ Finset.range n, Ideal.exp (s i - M) * v i := by
  have hm : m = invLn2 * M := h.lub.unique (isLUB_coe_mul invLn2_pos hM)
  refine ⟨?_, ?_⟩
  · rw [h.den, hm]; exact Finset.sum_congr rfl fun i _ => wt_scaled _ _
  · rw [h.num, hm]; exact Finset.sum_congr rfl fun i _ => by rw [wt_scaled]

end Cert.Attn

end
-- ==== Proof.RefValue.lean ====
/-
  The reference of the latent attention, read at an index: the masked scores, their softmax, and the head's output.
-/
module

public import proofs.«01_k».proof.Proof.Softmax
public import proofs.«01_k».proof.Proof.Gen.ReferenceIdeal.Run
public import Idealize.ShloMosaic.Lib.Pipeline.ValueKit
public import Idealize.ShloMosaic.Lib.Pointwise
public import Idealize.ShloMosaic.Lib.WordCmp

@[expose] public section

set_option maxRecDepth 16384

noncomputable section

namespace Cert.Mla

open Idealize.ShloMosaic Cert.ReferenceIdeal Cert.ReferenceIdeal.Gen

/-- The scores of every head, query and key of a prompt, those of later keys at `-inf`. -/
def SCORES (Q : FVec Ideal S8192x4096 .f32) (R : FVec Ideal S8192x1024 .f32) (C : FVec Ideal S8192x256 .f32)
    (K : FVec Ideal S8192x64 .f32) : FVec Ideal S2x16x4096x4096 .f32 :=
  select (broadcastInDim S2x16x4096x4096 ![2, 3] bcast_S4096x4096_S2x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (Host.divf (addf
        (transpose S2x16x4096x4096 [0, 3, 2, 1] (Host.dotGeneral dot_S2x4096x256_S2x4096x16x256_S2x4096x4096x16_2_3_1_12_0_0 none (shapeCast _ C shapeCasts_S8192x256_S2x4096x256) (shapeCast _ Q shapeCasts_S8192x4096_S2x4096x16x256)) transposes_S2x4096x4096x16_S2x16x4096x4096_0_3_2_1)
        (transpose S2x16x4096x4096 [0, 3, 2, 1] (Host.dotGeneral dot_S2x4096x64_S2x4096x16x64_S2x4096x4096x16_2_3_1_12_0_0 none (shapeCast _ K shapeCasts_S8192x64_S2x4096x64) (shapeCast _ R shapeCasts_S8192x1024_S2x4096x16x64)) transposes_S2x4096x4096x16_S2x16x4096x4096_0_3_2_1))
      (broadcastInDim S2x16x4096x4096 ![] bcast_S_S2x16x4096x4096 (Host.sqrt (constant S_ .f32 0x43400000#32))))
    (broadcastInDim S2x16x4096x4096 ![] bcast_S_S2x16x4096x4096 (id (constant S_ .f32 0xFF800000#32)))

/-- The greatest score of every query. -/
def GREATEST (S : FVec Ideal S2x16x4096x4096 .f32) : FVec Ideal S2x16x4096 .f32 :=
  maximumf (broadcastInDim S2x16x4096 ![] bcast_S_S2x16x4096 (constant S_ .f32 0xFF800000#32)) (Host.reduce FloatOps.maximumf S (constant S_ .f32 0xFF800000#32) reducesTo_S2x16x4096x4096_S2x16x4096_d3 h_S_)

/-- The exponentials of the scores less the greatest. -/
def EXPS (S : FVec Ideal S2x16x4096x4096 .f32) : FVec Ideal S2x16x4096x4096 .f32 :=
  Host.exp (subf S (broadcastInDim S2x16x4096x4096 ![0, 1, 2, 3] bcast_S2x16x4096x1_S2x16x4096x4096_0_1_2_3 (broadcastInDim S2x16x4096x1 ![0, 1, 2] bcast_S2x16x4096_S2x16x4096x1_0_1_2 (GREATEST S))))

/-- The softmax weights. -/
def WEIGHTS (S : FVec Ideal S2x16x4096x4096 .f32) : FVec Ideal S2x16x4096x4096 .f32 :=
  Host.divf (EXPS S) (broadcastInDim S2x16x4096x4096 ![0, 1, 2, 3] bcast_S2x16x4096x1_S2x16x4096x4096_0_1_2_3 (broadcastInDim S2x16x4096x1 ![0, 1, 2] bcast_S2x16x4096_S2x16x4096x1_0_1_2 (Host.reduceAdd (EXPS S) (constant S_ .f32 0x00000000#32) reducesTo_S2x16x4096x4096_S2x16x4096_d3 h_S_)))

/-- The reference's result. -/
def REF (Q : FVec Ideal S8192x4096 .f32) (R : FVec Ideal S8192x1024 .f32) (C : FVec Ideal S8192x256 .f32)
    (K : FVec Ideal S8192x64 .f32) (W : FVec Ideal S256x2048 .f32) : FVec Ideal S8192x2048 .f32 :=
  shapeCast _ (transpose S2x4096x16x128 [2, 3, 0, 1] (Host.dotGeneral dot_S256x16x128_S2x4096x16x256_S16x128x2x4096_0_3_2_01_1_2 none (shapeCast _ W shapeCasts_S256x2048_S256x16x128) (transpose S2x4096x16x256 [0, 3, 2, 1] (Host.dotGeneral dot_S2x4096x256_S2x16x4096x4096_S2x256x16x4096_1_3_2_12_0_0 none (shapeCast _ C shapeCasts_S8192x256_S2x4096x256) (WEIGHTS (SCORES Q R C K))) transposes_S2x256x16x4096_S2x4096x16x256_0_3_2_1)) transposes_S16x128x2x4096_S2x4096x16x128_2_3_0_1) shapeCasts_S2x4096x16x128_S8192x2048

theorem neg_inf : Ideal.ofBits .f32 0xFF800000#32 = (⊥ : EReal) := by
  simp [Ideal.ofBits, Ideal.ieee]

theorem select_le (s p : Fin 4096) (x y : EReal) :
    Scalar.select (IntOp.cmpi CmpIPredicate.sle (BitVec.ofNat 32 s.val) (BitVec.ofNat 32 p.val)) x y = if s.val ≤ p.val then x else y := by
  rw [WordCmp.cmpi_sle_ofNat (by omega) (by omega)]
  by_cases h : s.val ≤ p.val
  · rw [decide_eq_true h, if_pos h]; rfl
  · rw [decide_eq_false h, if_neg h]; rfl

/-- The score scale: the square root of 192. -/
theorem root : Ideal.sqrt (Ideal.ofBits FTy.f32 1128267776#32) = ((Real.sqrt 192 : ℝ) : EReal) := by
  rw [show Ideal.ofBits FTy.f32 1128267776#32 = ((192 : ℝ) : EReal) by
      simp [Ideal.ofBits, Ideal.ieee]
      rw [← EReal.coe_mul]
      norm_num,
    Ideal.sqrt_coe, if_neg (by norm_num)]

/-- A key's score before the mask: the latent product plus the rotary product, over the square root of 192. -/
def score (Q : FVec Ideal S8192x4096 .f32) (R : FVec Ideal S8192x1024 .f32) (C : FVec Ideal S8192x256 .f32)
    (K : FVec Ideal S8192x64 .f32) (b : Fin 2) (h : Fin 16) (p s : Fin 4096) : EReal :=
  (∑ x : Fin 256, C (ix2 ⟨b.val * 4096 + s.val, by omega⟩ x) * Q (ix2 ⟨b.val * 4096 + p.val, by omega⟩ ⟨h.val * 256 + x.val, by omega⟩)
    + ∑ x : Fin 64, K (ix2 ⟨b.val * 4096 + s.val, by omega⟩ x) * R (ix2 ⟨b.val * 4096 + p.val, by omega⟩ ⟨h.val * 64 + x.val, by omega⟩))
    * (((Real.sqrt 192)⁻¹ : ℝ) : EReal)

theorem SCORES_at (Q : FVec Ideal S8192x4096 .f32) (R : FVec Ideal S8192x1024 .f32) (C : FVec Ideal S8192x256 .f32)
    (K : FVec Ideal S8192x64 .f32) (b : Fin 2) (h : Fin 16) (p s : Fin 4096) :
    SCORES Q R C K (ix4 b h p s) = if s.val ≤ p.val then score Q R C K b h p s else ⊥ := by
  unfold score
  pointwise [SCORES]
  rw [select_le, root, Ideal.div_coe (Real.sqrt_pos.2 (by norm_num : (0 : ℝ) < 192)).ne', one_div]
  refine congrArg (fun y => if s.val ≤ p.val then _ else y) neg_inf

theorem greatest_at (S : FVec Ideal S2x16x4096x4096 .f32) (b : Fin 2) (h : Fin 16) (p : Fin 4096) (z : EReal)
    (hz : Ideal.ofBits .f32 0xFF800000#32 = z) :
    Host.reduce FloatOps.maximumf S (constant S_ .f32 0xFF800000#32) reducesTo_S2x16x4096x4096_S2x16x4096_d3 h_S_ (ix3 b h p)
      = Finset.univ.fold max z fun s : Fin 4096 => S (ix4 b h p s) := by
  subst hz
  pointwise []

theorem atLeast_bot (X : FVec Ideal S2x16x4096 .f32) (b : Fin 2) (h : Fin 16) (p : Fin 4096) :
    maximumf (broadcastInDim S2x16x4096 ![] bcast_S_S2x16x4096 (constant S_ .f32 0xFF800000#32)) X (ix3 b h p) = X (ix3 b h p) := by
  have e : maximumf (broadcastInDim S2x16x4096 ![] bcast_S_S2x16x4096 (constant S_ .f32 0xFF800000#32)) X (ix3 b h p)
      = max (Ideal.ofBits .f32 0xFF800000#32) (X (ix3 b h p)) := by
    pointwise []
  exact e.trans ((congrArg (max · _) neg_inf).trans (max_eq_right bot_le))

theorem GREATEST_at (S : FVec Ideal S2x16x4096x4096 .f32) (b : Fin 2) (h : Fin 16) (p : Fin 4096) :
    GREATEST S (ix3 b h p) = Finset.univ.fold max (⊥ : EReal) fun s : Fin 4096 => S (ix4 b h p s) :=
  (atLeast_bot _ b h p).trans (greatest_at S b h p ⊥ neg_inf)

theorem EXPS_at (S : FVec Ideal S2x16x4096x4096 .f32) (b : Fin 2) (h : Fin 16) (p s : Fin 4096) :
    EXPS S (ix4 b h p s) = Ideal.exp (S (ix4 b h p s) - GREATEST S (ix3 b h p)) := by
  pointwise [EXPS]

theorem WEIGHTS_at (S : FVec Ideal S2x16x4096x4096 .f32) (b : Fin 2) (h : Fin 16) (p s : Fin 4096) :
    WEIGHTS S (ix4 b h p s) = Ideal.div (EXPS S (ix4 b h p s)) (∑ s : Fin 4096, EXPS S (ix4 b h p s)) := by
  pointwise [WEIGHTS]

theorem REF_at (Q : FVec Ideal S8192x4096 .f32) (R : FVec Ideal S8192x1024 .f32) (C : FVec Ideal S8192x256 .f32)
    (K : FVec Ideal S8192x64 .f32) (W : FVec Ideal S256x2048 .f32) (b : Fin 2) (h : Fin 16) (p : Fin 4096) (e : Fin 128) :
    REF Q R C K W (ix2 ⟨b.val * 4096 + p.val, by omega⟩ ⟨h.val * 128 + e.val, by omega⟩)
      = ∑ d : Fin 256, W (ix2 d ⟨h.val * 128 + e.val, by omega⟩)
          * ∑ s : Fin 4096, C (ix2 ⟨b.val * 4096 + s.val, by omega⟩ d) * WEIGHTS (SCORES Q R C K) (ix4 b h p s) := by
  pointwise [REF]

theorem res_eq (m : (ℓ : Loc nD τ sig) → Buf (Elt Ideal) ℓ) (c : Dev nD) : Cert.ReferenceIdeal.Value.res_out0 m c
    = REF (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) := rfl

end Cert.Mla

end
-- ==== Proof.Launch.lean ====
/-
  The preconditions name the four tables of steps word by word; here they are read as the tables the launch is pinned to,
  for the program in floats and for the one in extended reals.
-/
module

public import proofs.«01_k».proof.Defs
public import proofs.«01_k».proof.Proof.Gen.Kernel.Flash
public import proofs.«01_k».proof.Proof.Gen.KernelIdeal.Flash
public import proofs.«01_k».proof.Proof.Gen.Pre_causal_steps
public import proofs.«01_k».proof.Proof.Gen.Pre_finite_causal_steps

@[expose] public section

set_option maxRecDepth 16384

noncomputable section

namespace Cert.Mla

open Idealize.ShloMosaic Idealize.ShloMosaic.TcCoe Idealize.SL.Sem

attribute [local instance] Cert.Pre_causal_steps.Gen.facts Cert.Pre_finite_causal_steps.Gen.facts

theorem ofBool_eq_one (p : Bool) : (BitVec.ofBool p = 1#1) ↔ p = true := by cases p <;> decide

/-- A table found equal to another entry by entry is that table. -/
theorem table_eq {s : Shape} {a b : IVec s 32} (h : cmpi .eq a b = fun _ => 1#1) : a = b := by
  funext x
  have e := congrFun h x
  simp only [cmpi, IntOp.cmpi, ofBool_eq_one, beq_iff_eq] at e
  exact e

theorem table0 : ∀ x, Pre_causal_steps.lit0 (Pre_causal_steps.S288.rowMajor x) = Kernel.Gen.pinT_0 0 x := by decide +kernel
theorem table1 : ∀ x, Pre_causal_steps.lit1 (Pre_causal_steps.S288.rowMajor x) = Kernel.Gen.pinT_1 0 x := by decide +kernel
theorem table2 : ∀ x, Pre_causal_steps.lit2 (Pre_causal_steps.S288.rowMajor x) = Kernel.Gen.pinT_2 0 x := by decide +kernel
theorem table3 : ∀ x, Pre_causal_steps.lit3 (Pre_causal_steps.S288.rowMajor x) = Kernel.Gen.pinT_3 0 x := by decide +kernel

theorem ideal0 : ∀ x, Pre_causal_steps.lit0 (Pre_causal_steps.S288.rowMajor x) = KernelIdeal.Gen.pinT_0 0 x := by decide +kernel
theorem ideal1 : ∀ x, Pre_causal_steps.lit1 (Pre_causal_steps.S288.rowMajor x) = KernelIdeal.Gen.pinT_1 0 x := by decide +kernel
theorem ideal2 : ∀ x, Pre_causal_steps.lit2 (Pre_causal_steps.S288.rowMajor x) = KernelIdeal.Gen.pinT_2 0 x := by decide +kernel
theorem ideal3 : ∀ x, Pre_causal_steps.lit3 (Pre_causal_steps.S288.rowMajor x) = KernelIdeal.Gen.pinT_3 0 x := by decide +kernel

theorem finite0 : ∀ x, Pre_finite_causal_steps.lit0 (Pre_finite_causal_steps.S288.rowMajor x) = KernelIdeal.Gen.pinT_0 0 x := by decide +kernel
theorem finite1 : ∀ x, Pre_finite_causal_steps.lit1 (Pre_finite_causal_steps.S288.rowMajor x) = KernelIdeal.Gen.pinT_1 0 x := by decide +kernel
theorem finite2 : ∀ x, Pre_finite_causal_steps.lit2 (Pre_finite_causal_steps.S288.rowMajor x) = KernelIdeal.Gen.pinT_2 0 x := by decide +kernel
theorem finite3 : ∀ x, Pre_finite_causal_steps.lit3 (Pre_finite_causal_steps.S288.rowMajor x) = KernelIdeal.Gen.pinT_3 0 x := by decide +kernel

theorem pinned (m : (ℓ : Loc Kernel.nD Kernel.τ Kernel.sig) → Buf (Elt Bits) ℓ) (h : Pre_Kernel m) : Kernel.Gen.Pinned 0 m :=
  ⟨fun c => (table_eq (h c).1).trans (funext table0), fun c => (table_eq (h c).2.1).trans (funext table1),
    fun c => (table_eq (h c).2.2.1).trans (funext table2), fun c => (table_eq (h c).2.2.2).trans (funext table3)⟩

theorem pinned_ideal (m : (ℓ : Loc KernelIdeal.nD KernelIdeal.τ KernelIdeal.sig) → Buf (Elt Ideal) ℓ) (h : Pre_KernelIdeal m) :
    KernelIdeal.Gen.Pinned 0 m :=
  ⟨fun c => (table_eq (h c).1).trans (funext ideal0), fun c => (table_eq (h c).2.1).trans (funext ideal1),
    fun c => (table_eq (h c).2.2.1).trans (funext ideal2), fun c => (table_eq (h c).2.2.2).trans (funext ideal3)⟩

theorem pinned_finite (m : (ℓ : Loc KernelIdeal.nD KernelIdeal.τ KernelIdeal.sig) → Buf (Elt Ideal) ℓ)
    (h : Pre_KernelIdeal_finite_causal_steps m) : KernelIdeal.Gen.Pinned 0 m :=
  ⟨fun c => (table_eq (h c).1).trans (funext finite0), fun c => (table_eq (h c).2.1).trans (funext finite1),
    fun c => (table_eq (h c).2.2.1).trans (funext finite2), fun c => (table_eq (h c).2.2.2.1).trans (funext finite3)⟩

/-- A number whose absolute value is less than infinity is a real one. -/
theorem real_of_lt {s : Shape} {x y : FVec Ideal s .f32} (hy : ∀ i, y i = ⊤) (h : cmpf .olt (Host.absf x) y = fun _ => 1#1) (i : s.Idx) :
    ∃ r : ℝ, x i = r := by
  have e := congrFun h i
  have e' : Ideal.cmp .olt (max (x i) (-x i)) (y i) = 1#1 := e
  have lt : max (x i) (-x i) < y i := of_decide_eq_true ((ofBool_eq_one _).1 e')
  rw [hy i] at lt
  have h1 : (x i : EReal) ≠ ⊤ := ((le_max_left _ _).trans_lt lt).ne
  have h2 : (x i : EReal) ≠ ⊥ := fun hb => ((le_max_right _ _).trans_lt lt).ne ((congrArg (fun z : EReal => -z) hb).trans EReal.neg_bot)
  exact ⟨EReal.toReal (x i), (EReal.coe_toReal h1 h2).symm⟩

theorem infinity : Ideal.ofBits .f32 0x7F800000#32 = (⊤ : EReal) := by
  simp [Ideal.ofBits, Ideal.ieee]

/-- The queries and keys are real numbers. -/
theorem finite (m : (ℓ : Loc KernelIdeal.nD KernelIdeal.τ KernelIdeal.sig) → Buf (Elt Ideal) ℓ)
    (h : Pre_KernelIdeal_finite_causal_steps m) (c : Dev KernelIdeal.nD) :
    (∀ i, ∃ r : ℝ, m ((c.tc : Thread KernelIdeal.nD KernelIdeal.τ).loc KernelIdeal.main_arg4) i = (r : EReal))
    ∧ (∀ i, ∃ r : ℝ, m ((c.tc : Thread KernelIdeal.nD KernelIdeal.τ).loc KernelIdeal.main_arg5) i = (r : EReal))
    ∧ (∀ i, ∃ r : ℝ, m ((c.tc : Thread KernelIdeal.nD KernelIdeal.τ).loc KernelIdeal.main_arg6) i = (r : EReal))
    ∧ (∀ i, ∃ r : ℝ, m ((c.tc : Thread KernelIdeal.nD KernelIdeal.τ).loc KernelIdeal.main_arg7) i = (r : EReal)) :=
  ⟨real_of_lt (fun _ => infinity) (h c).2.2.2.2.1, real_of_lt (fun _ => infinity) (h c).2.2.2.2.2.1,
    real_of_lt (fun _ => infinity) (h c).2.2.2.2.2.2.1, real_of_lt (fun _ => infinity) (h c).2.2.2.2.2.2.2⟩

end Cert.Mla

end
-- ==== Proof.Body.lean ====
/-
  What the body of the latent attention kernel computes at one grid point, read at an index: the scaled queries of the
  sixteen heads put one after another, the scores against a block of keys, the three numbers it carries for each row,
  and a head's rows of the result.
-/
module

public import proofs.«01_k».proof.Proof.Softmax
public import proofs.«01_k».proof.Proof.Gen.KernelIdeal.Skeleton
public import Idealize.ShloMosaic.Lib.Pipeline.ValueKit
public import Idealize.ShloMosaic.Lib.Pointwise
public import Idealize.ShloMosaic.Lib.WordCmp

@[expose] public section

set_option maxRecDepth 16384

noncomputable section

namespace Cert.Mla

open Idealize.ShloMosaic Cert.KernelIdeal Cert.KernelIdeal.Gen Cert.Attn

/-! ### Constants -/

/-- The score scale `192 ^ (-1/2)`. -/
def rsq : ℝ := (Real.sqrt 192)⁻¹

theorem rsq_pos : 0 < rsq := inv_pos.2 (Real.sqrt_pos.2 (by norm_num))

theorem qscale_eq : Named.named (F := Ideal) κ "qscale" (φ := .f32) 0x3DD53B95#32 = ((rsq * invLn2 : ℝ) : EReal) := rfl

theorem mask_eq : Named.named (F := Ideal) κ "mask" (φ := .f32) 0xF149F2CA#32 = (⊥ : EReal) := rfl

theorem neg_inf_eq : Ideal.ofBits .f32 0xFF800000#32 = (⊥ : EReal) := by
  simp [Ideal.ofBits, Ideal.ieee]

theorem start_max (r : Fin 1024) : k0_pay2 (F := Ideal) (ix2 r 0) = ⊥ := by
  pointwise [k0_pay2]
  rfl

theorem start_den (r : Fin 1024) : k0_pay3 (F := Ideal) (ix2 r 0) = 0 := by
  pointwise [k0_pay3]

theorem start_num (r : Fin 1024) (d : Fin 256) : k0_pay4 (F := Ideal) (ix2 r d) = 0 := by
  pointwise [k0_pay4]

/-! ### The queries -/

/-- One head's sixty-four rows of the queries: its latent half, its rotary half, and the padding. -/
def headRows (a : Vec Ideal S64x256 .f32) (b : Vec Ideal S64x64 .f32) : FVec Ideal S64x384 .f32 :=
  concatenate S64x384 1 [⟨S64x256, a⟩, ⟨S64x64, b⟩, ⟨S64x64, k0_pay17 (F := Ideal)⟩] concatenates_S64x256_S64x64_S64x64_S64x384_d1

/-- The queries of the sixteen heads, one head's rows after another's, scaled. -/
def queries (A : Fin 16 → Vec Ideal S64x256 .f32) (B : Fin 16 → Vec Ideal S64x64 .f32) : FVec Ideal S1024x384 .bf16 :=
  k0_pay1 (F := Ideal) (k0_pay26 (F := Ideal) (k0_pay17 (F := Ideal)) (headRows (A 0) (B 0)) (headRows (A 1) (B 1)) (headRows (A 2) (B 2)) (headRows (A 3) (B 3))
    (headRows (A 4) (B 4)) (headRows (A 5) (B 5)) (headRows (A 6) (B 6)) (headRows (A 7) (B 7))
    (A 8) (B 8) (A 9) (B 9) (A 10) (B 10) (A 11) (B 11) (A 12) (B 12) (A 13) (B 13) (A 14) (B 14) (A 15) (B 15))

theorem queries_at (A : Fin 16 → Vec Ideal S64x256 .f32) (B : Fin 16 → Vec Ideal S64x64 .f32) (h : Fin 16) (t : Fin 64) (k : Fin 384) :
    queries A B (ix2 ⟨64 * h.val + t.val, by omega⟩ k) = headRows (A h) (B h) (ix2 t k) * ((rsq * invLn2 : ℝ) : EReal) := by
  have e := concatenate_ofFn_apply (t := S1024x384) (s₁ := S64x384) (0 : Fin 2) (N := 16)
    (fun n => headRows (A n) (B n))
    concatenates_S64x384_S64x384_S64x384_S64x384_S64x384_S64x384_S64x384_S64x384_S64x384_S64x384_S64x384_S64x384_S64x384_S64x384_S64x384_S64x384_S1024x384_d0
    rfl 64 rfl (ix2 ⟨64 * h.val + t.val, by omega⟩ k) h (by show (64 * h.val + t.val) / 64 = h.val; omega) (ix2 t k)
    (by show t.val = (64 * h.val + t.val) % 64; omega)
    (by intro b hb; match b, hb with
        | 0, hb => exact absurd rfl hb
        | 1, _ => rfl)
  unfold queries k0_pay1
  rw [shapeCast_self]
  exact congrArg (· * ((rsq * invLn2 : ℝ) : EReal)) e

theorem headRows_lat (a : Vec Ideal S64x256 .f32) (b : Vec Ideal S64x64 .f32) (t : Fin 64) (k : Fin 256) :
    headRows a b (ix2 t ⟨k.val, by omega⟩) = a (ix2 t k) := by
  pointwise [headRows, k0_pay17]

theorem headRows_rope (a : Vec Ideal S64x256 .f32) (b : Vec Ideal S64x64 .f32) (t : Fin 64) (k : Fin 64) :
    headRows a b (ix2 t ⟨256 + k.val, by omega⟩) = b (ix2 t k) := by
  pointwise [headRows, k0_pay17]

/-! ### The keys -/

theorem keys_lat (c : Vec Ideal S512x256 .f32) (k : Vec Ideal S512x64 .f32) (j : Fin 512) (d : Fin 256) :
    k0_pay5 (F := Ideal) c k (ix2 j ⟨d.val, by omega⟩) = c (ix2 j d) := by
  pointwise [k0_pay5]

theorem keys_rope (c : Vec Ideal S512x256 .f32) (k : Vec Ideal S512x64 .f32) (j : Fin 512) (d : Fin 64) :
    k0_pay5 (F := Ideal) c k (ix2 j ⟨256 + d.val, by omega⟩) = k (ix2 j d) := by
  pointwise [k0_pay5]

theorem keys_pad (c : Vec Ideal S512x256 .f32) (k : Vec Ideal S512x64 .f32) (j : Fin 512) (d : Fin 64) :
    k0_pay5 (F := Ideal) c k (ix2 j ⟨320 + d.val, by omega⟩) = 0 := by
  pointwise [k0_pay5]
  rw [dif_neg (by omega), dif_neg (by omega)]

theorem sum_pieces (f : Fin 384 → EReal) :
    ∑ x, f x = (∑ i : Fin 256, f ⟨i.val, by omega⟩) + ((∑ i : Fin 64, f ⟨256 + i.val, by omega⟩) + ∑ i : Fin 64, f ⟨320 + i.val, by omega⟩) := by
  refine (Fin.sum_univ_add (a := 256) (b := 128) f).trans ?_
  refine congrArg₂ (· + ·) rfl ((Fin.sum_univ_add (a := 64) (b := 64) _).trans (congrArg₂ (· + ·) rfl (Finset.sum_congr rfl fun i _ => congrArg f (Fin.ext ?_))))
  simp only [Fin.val_natAdd]; omega

/-! ### The scores of a block of keys -/

theorem scores_at (c : Vec Ideal S512x256 .f32) (k : Vec Ideal S512x64 .f32) (q : Vec Ideal S1024x384 .bf16) (r : Fin 1024) (j : Fin 512) :
    k0_pay9 (F := Ideal) c k q (ix2 r j)
      = (∑ i : Fin 256, q (ix2 r ⟨i.val, by omega⟩) * c (ix2 j i)) + ∑ i : Fin 64, q (ix2 r ⟨256 + i.val, by omega⟩) * k (ix2 j i) := by
  pointwise [k0_pay9]
  show (∑ x : Fin 384, q (ix2 r x) * k0_pay5 (F := Ideal) c k (ix2 j x)) = _
  rw [sum_pieces]
  simp only [keys_lat, keys_rope, keys_pad, mul_zero, Finset.sum_const_zero, add_zero]

theorem andi_63 (r : Fin 1024) : IntOp.andi (BitVec.ofNat 32 r.val) 63#32 = BitVec.ofNat 32 (r.val % 64) := by
  revert r; decide +kernel

/-- The masked scores: those of keys after the query are at `-inf`. -/
theorem masked_at (c : Vec Ideal S512x256 .f32) (k : Vec Ideal S512x64 .f32) (q : Vec Ideal S1024x384 .bf16) (u v : ℕ) (hu : u < 64) (hv : v < 8)
    (r : Fin 1024) (j : Fin 512) :
    k0_pay27 (F := Ideal) (k0_pay5 (F := Ideal) c k) (BitVec.ofNat 32 u) (BitVec.ofNat 32 v) q (ix2 r j)
      = if 512 * v + j.val ≤ 64 * u + r.val % 64 then k0_pay9 (F := Ideal) c k q (ix2 r j) else ⊥ := by
  rw [← show matmul dot_S1024x384_S512x384_S1024x512_1_1_0_0_n_n none q (k0_pay5 (F := Ideal) c k) (constant (F := Ideal) S1024x512 .f32 0x00000000#32)
    = k0_pay9 (F := Ideal) c k q from rfl]
  generalize hS : matmul dot_S1024x384_S512x384_S1024x512_1_1_0_0_n_n none q (k0_pay5 (F := Ideal) c k) (constant (F := Ideal) S1024x512 .f32 0x00000000#32) = S
  pointwise [k0_pay27, hS]
  have e1 : IntOp.addi (Scalar.muli (BitVec.ofNat 32 v) 512#32) (BitVec.ofNat 32 j.val) = BitVec.ofNat 32 (512 * v + j.val) := by
    simp [IntOp.addi, Scalar.muli, IntOp.muli, Nat.mul_comm, BitVec.ofNat_add, BitVec.ofNat_mul]
  have e2 : IntOp.addi (Scalar.muli (BitVec.ofNat 32 u) 64#32) (BitVec.ofNat 32 (r.val % 64)) = BitVec.ofNat 32 (64 * u + r.val % 64) := by
    simp [IntOp.addi, Scalar.muli, IntOp.muli, Nat.mul_comm, BitVec.ofNat_add, BitVec.ofNat_mul]
  rw [andi_63, e1, e2, WordCmp.cmpi_sle_ofNat (by omega) (by omega)]
  by_cases h : 512 * v + j.val ≤ 64 * u + r.val % 64
  · rw [decide_eq_true h, if_pos h]; rfl
  · rw [decide_eq_false h, if_neg h]; rfl

/-! ### The carried numbers after a block of keys -/

theorem max_at (c : Vec Ideal S512x256 .f32) (k : Vec Ideal S512x64 .f32) (q : Vec Ideal S1024x384 .bf16) (m : Vec Ideal S1024x1 .f32) (r : Fin 1024) :
    k0_pay10 (F := Ideal) c k q m (ix2 r 0)
      = max (m (ix2 r 0)) (Finset.univ.fold max (⊥ : EReal) fun j : Fin 512 => k0_pay9 (F := Ideal) c k q (ix2 r j)) := by
  generalize hS : k0_pay9 (F := Ideal) c k q = S
  pointwise [k0_pay10, hS]
  rw [neg_inf_eq]

theorem den_at (c : Vec Ideal S512x256 .f32) (k : Vec Ideal S512x64 .f32) (q : Vec Ideal S1024x384 .bf16) (m l : Vec Ideal S1024x1 .f32) (r : Fin 1024) :
    k0_pay14 (F := Ideal) c k q m l (ix2 r 0) = l (ix2 r 0) * wt (m (ix2 r 0)) (k0_pay10 (F := Ideal) c k q m (ix2 r 0))
      + ∑ j : Fin 512, wt (k0_pay9 (F := Ideal) c k q (ix2 r j)) (k0_pay10 (F := Ideal) c k q m (ix2 r 0)) := by
  unfold wt
  generalize hM : k0_pay10 (F := Ideal) c k q m = M
  generalize hS : k0_pay9 (F := Ideal) c k q = S
  pointwise [k0_pay14, k0_pay12, k0_pay11, hM, hS]
  rfl

theorem num_at (c : Vec Ideal S512x256 .f32) (k : Vec Ideal S512x64 .f32) (q : Vec Ideal S1024x384 .bf16) (m : Vec Ideal S1024x1 .f32)
    (a : Vec Ideal S1024x256 .f32) (r : Fin 1024) (d : Fin 256) :
    k0_pay15 (F := Ideal) c k q m a (ix2 r d) = a (ix2 r d) * wt (m (ix2 r 0)) (k0_pay10 (F := Ideal) c k q m (ix2 r 0))
      + ∑ j : Fin 512, wt (k0_pay9 (F := Ideal) c k q (ix2 r j)) (k0_pay10 (F := Ideal) c k q m (ix2 r 0)) * c (ix2 j d) := by
  unfold wt
  simp only [← keys_lat c k]
  generalize hM : k0_pay10 (F := Ideal) c k q m = M
  generalize hS : k0_pay9 (F := Ideal) c k q = S
  generalize hK : k0_pay5 (F := Ideal) c k = K
  pointwise [k0_pay15, k0_pay12, k0_pay11, hM, hS, hK]
  rfl

/-! ### The same with the mask -/

theorem maskedMax_at (K : FVec Ideal S512x384 .bf16) (u v : Elt Ideal .i32) (q : Vec Ideal S1024x384 .bf16) (m : Vec Ideal S1024x1 .f32) (r : Fin 1024) :
    k0_pay28 (F := Ideal) K u v q m (ix2 r 0)
      = max (m (ix2 r 0)) (Finset.univ.fold max (⊥ : EReal) fun j : Fin 512 => k0_pay27 (F := Ideal) K u v q (ix2 r j)) := by
  generalize hS : k0_pay27 (F := Ideal) K u v q = S
  pointwise [k0_pay28, hS]
  rw [neg_inf_eq]

theorem maskedDen_at (K : FVec Ideal S512x384 .bf16) (u v : Elt Ideal .i32) (q : Vec Ideal S1024x384 .bf16) (m l : Vec Ideal S1024x1 .f32) (r : Fin 1024) :
    k0_pay31 (F := Ideal) K u v q m l (ix2 r 0) = l (ix2 r 0) * wt (m (ix2 r 0)) (k0_pay28 (F := Ideal) K u v q m (ix2 r 0))
      + ∑ j : Fin 512, wt (k0_pay27 (F := Ideal) K u v q (ix2 r j)) (k0_pay28 (F := Ideal) K u v q m (ix2 r 0)) := by
  unfold wt
  generalize hM : k0_pay28 (F := Ideal) K u v q m = M
  generalize hS : k0_pay27 (F := Ideal) K u v q = S
  pointwise [k0_pay31, k0_pay30, k0_pay29, hM, hS]
  rfl

theorem maskedNum_at (K : FVec Ideal S512x384 .bf16) (u v : Elt Ideal .i32) (q : Vec Ideal S1024x384 .bf16) (m : Vec Ideal S1024x1 .f32)
    (a : Vec Ideal S1024x256 .f32) (r : Fin 1024) (d : Fin 256) :
    k0_pay32 (F := Ideal) K u v q m a (ix2 r d) = a (ix2 r d) * wt (m (ix2 r 0)) (k0_pay28 (F := Ideal) K u v q m (ix2 r 0))
      + ∑ j : Fin 512, wt (k0_pay27 (F := Ideal) K u v q (ix2 r j)) (k0_pay28 (F := Ideal) K u v q m (ix2 r 0)) * K (ix2 j ⟨d.val, by omega⟩) := by
  unfold wt
  generalize hM : k0_pay28 (F := Ideal) K u v q m = M
  generalize hS : k0_pay27 (F := Ideal) K u v q = S
  pointwise [k0_pay32, k0_pay30, k0_pay29, hM, hS]
  rfl

/-! ### The result: a head's rows times its columns of the value matrix -/

theorem ratio_at (a : FVec Ideal S1024x256 .f32) (l : FVec Ideal S1024x1 .f32) (r : Fin 1024) (d : Fin 256) :
    k0_pay33 (F := Ideal) a l (ix2 r d) = Ideal.div (a (ix2 r d)) (l (ix2 r 0)) := by
  pointwise [k0_pay33]

/-- Sixty-four rows of `o` from row `n`, times one head's columns. -/
def headOut (n : ℕ) (h : S1024x256.Slices ![n, 0] S64x256) (o : FVec Ideal S1024x256 .bf16) (w : FVec Ideal S256x128 .bf16) : FVec Ideal S64x128 .f32 :=
  matmul dot_S64x256_S256x128_S64x128_1_0_0_1_n_n none (extractStridedSlice S64x256 ![n, 0] o h) w
    (constant (F := Ideal) S64x128 .f32 0x00000000#32)

theorem headOut_at (n : ℕ) (h : S1024x256.Slices ![n, 0] S64x256) (hn : n + 64 ≤ 1024) (o : FVec Ideal S1024x256 .bf16) (w : FVec Ideal S256x128 .bf16) (t : Fin 64) (d : Fin 128) :
    headOut n h o w (ix2 t d) = ∑ k : Fin 256, o (ix2 ⟨n + t.val, by omega⟩ k) * w (ix2 k d) := by
  pointwise [headOut]

end Cert.Mla

end
-- ==== Proof.Paths.lean ====
/-
  What the body leaves in its four buffers and in its block of the result, at a point of each of the four kinds: whether it
  starts a block of queries, and whether it is the last one for it.
-/
module

public import proofs.«01_k».proof.Proof.Body
public import proofs.«01_k».proof.Proof.Gen.KernelIdeal.Flash
public import Idealize.ShloMosaic.Lib.Pipeline.Value
public import Idealize.ShloMosaic.Lib.Pipeline.ValueKit

@[expose] public section

set_option maxRecDepth 16384

noncomputable section

namespace Cert.Mla

open Idealize.ShloMosaic Idealize.ShloMosaic.TcCoe Cert.KernelIdeal Cert.KernelIdeal.Gen

/-! ### Loads and stores of a whole buffer -/

theorem hz2 : (![0, 0] : Fin 2 → ℕ) = fun _ => 0 := by funext a; fin_cases a <;> rfl

/-- A store of the whole buffer, last, leaves its payload. -/
theorem read_store {s : Shape} {e : EltTy} {sp : Space} (v : View sig .tc sp s e) (f) {off : Fin s.rank → ℕ} (h : off = fun _ => 0)
    (inb : ∀ a, off a + s.size a ≤ s.size a) (w : s.Idx → Elt Ideal e) (L : List (View.Piece (Elt Ideal) s e)) :
    v.read (Elt Ideal) (v.writes (Elt Ideal) f (⟨Rect.unit off s.size inb, w⟩ :: L)) = w := by
  rw [View.read_writes_eq_canon _ _ _ fun y => ⟨_, List.mem_cons_self, View.mem_set_unit_zero h inb y⟩, View.canon_cons_unit_zero h]

/-- A load of the whole buffer reads it. -/
theorem load_whole {s : Shape} {e : EltTy} {sp : Space} (v : View sig .tc sp s e) (f) {off : Fin s.rank → ℕ} (h : off = fun _ => 0)
    (inb : ∀ a, off a + s.size a ≤ s.size a) :
    View.readAt (Elt Ideal) v (Rect.unit off s.size inb).toLoadRect f = v.read (Elt Ideal) f := by
  rw [View.readAt_eq_ld, View.ld_unit_zero h]

/-- A load of the whole buffer after a store of it, last, reads that store's payload. -/
theorem load_back {s : Shape} {e : EltTy} {sp : Space} (v : View sig .tc sp s e) {off : Fin s.rank → ℕ} (h : off = fun _ => 0)
    (inb : ∀ a, off a + s.size a ≤ s.size a) (w : s.Idx → Elt Ideal e) (L : List (View.Piece (Elt Ideal) s e)) :
    v.readCov (⟨Rect.unit off s.size inb, w⟩ :: L) (Rect.unit off s.size inb).toLoadRect = w := by
  rw [View.readCov_eq_canon_ld _ _ _ fun y => ⟨_, List.mem_cons_self, View.mem_set_unit_zero h inb y⟩, View.canon_cons_unit_zero h,
    View.ld_unit_zero h]

theorem load_q (c : Dev nD) (f : Buf (Elt Ideal) ((c : Thread nD τ).loc cc0_scratch0)) :
    View.readAt (Elt Ideal) scM0_0.view (Rect.unit (s := S1024x384) ![0, 0] S1024x384.size inb_S1024x384_S1024x384_0_0).toLoadRect f = scM0_0.view.read (Elt Ideal) f :=
  load_whole _ _ hz2 _

theorem load_m (c : Dev nD) (f : Buf (Elt Ideal) ((c : Thread nD τ).loc cc0_scratch1)) :
    View.readAt (Elt Ideal) scM0_1.view (Rect.unit (s := S1024x1) ![0, 0] S1024x1.size inb_S1024x1_S1024x1_0_0).toLoadRect f = scM0_1.view.read (Elt Ideal) f :=
  load_whole _ _ hz2 _

theorem load_l (c : Dev nD) (f : Buf (Elt Ideal) ((c : Thread nD τ).loc cc0_scratch2)) :
    View.readAt (Elt Ideal) scM0_2.view (Rect.unit (s := S1024x1) ![0, 0] S1024x1.size inb_S1024x1_S1024x1_0_0).toLoadRect f = scM0_2.view.read (Elt Ideal) f :=
  load_whole _ _ hz2 _

theorem load_a (c : Dev nD) (f : Buf (Elt Ideal) ((c : Thread nD τ).loc cc0_scratch3)) :
    View.readAt (Elt Ideal) scM0_3.view (Rect.unit (s := S1024x256) ![0, 0] S1024x256.size inb_S1024x256_S1024x256_0_0).toLoadRect f = scM0_3.view.read (Elt Ideal) f :=
  load_whole _ _ hz2 _

theorem load_c (a8 : Memref sig .tc .vmem S512x256 .f32) (x2 : S512x256.Idx → Elt Ideal .f32) :
    View.readAt (Elt Ideal) a8.view (Rect.unit (s := S512x256) ![0, 0] S512x256.size inb_S512x256_S512x256_0_0).toLoadRect (a8.view.rep x2) = x2 :=
  (load_whole _ _ hz2 _).trans (View.read_rep _ _)

theorem load_k (a9 : Memref sig .tc .vmem S512x64 .f32) (x3 : S512x64.Idx → Elt Ideal .f32) :
    View.readAt (Elt Ideal) a9.view (Rect.unit (s := S512x64) ![0, 0] S512x64.size inb_S512x64_S512x64_0_0).toLoadRect (a9.view.rep x3) = x3 :=
  (load_whole _ _ hz2 _).trans (View.read_rep _ _)

/-! ### A point in the middle: one unmasked step -/

section
variable (c : Dev nD) (i : grid0.Coords) (a6 : Memref sig .tc .vmem S64x4096 .f32) (h6 : a6.IsWhole) (a7 : Memref sig .tc .vmem S64x1024 .f32) (h7 : a7.IsWhole)
  (a8 : Memref sig .tc .vmem S512x256 .f32) (h8 : a8.IsWhole) (a9 : Memref sig .tc .vmem S512x64 .f32) (h9 : a9.IsWhole)
  (a10 : Memref sig .tc .vmem S256x2048 .f32) (h10 : a10.IsWhole) (a11 : Memref sig .tc .vmem S64x2048 .f32) (h11 : a11.IsWhole)
  (T0 T1 T2 T3 : S288.Idx → Elt Ideal .i32)
  (x0 : S64x4096.Idx → Elt Ideal .f32) (x1 : S64x1024.Idx → Elt Ideal .f32) (x2 : S512x256.Idx → Elt Ideal .f32) (x3 : S512x64.Idx → Elt Ideal .f32)
  (x4 : S256x2048.Idx → Elt Ideal .f32)
  (y0 : Buf (Elt Ideal) ((c : Thread nD τ).loc cc0_scratch0)) (y1 : Buf (Elt Ideal) ((c : Thread nD τ).loc cc0_scratch1))
  (y2 : Buf (Elt Ideal) ((c : Thread nD τ).loc cc0_scratch2)) (y3 : Buf (Elt Ideal) ((c : Thread nD τ).loc cc0_scratch3))

/-- The queries, the greatest scores, the sums of the weights and the weighted sums in their buffers. -/
def Holds (q : FVec Ideal S1024x384 .bf16) (m l : FVec Ideal S1024x1 .f32) (a : FVec Ideal S1024x256 .f32)
    (y0 : Buf (Elt Ideal) ((c : Thread nD τ).loc cc0_scratch0)) (y1 : Buf (Elt Ideal) ((c : Thread nD τ).loc cc0_scratch1))
    (y2 : Buf (Elt Ideal) ((c : Thread nD τ).loc cc0_scratch2)) (y3 : Buf (Elt Ideal) ((c : Thread nD τ).loc cc0_scratch3)) : Prop :=
  scM0_0.view.read (Elt Ideal) y0 = q ∧ scM0_1.view.read (Elt Ideal) y1 = m ∧ scM0_2.view.read (Elt Ideal) y2 = l ∧ scM0_3.view.read (Elt Ideal) y3 = a

/-- The query and key word of the mask. -/
abbrev qword := kernelRun0_C.sl.r_3 i T0
abbrev kword := kernelRun0_C.sl.r_4 i T1

theorem leaves_D {q m l a} (H : Holds c q m l a y0 y1 y2 y3) (hc0 hc1 hc2 hc3) :
    let R := kernelRun0_D c i a6 h6 a7 h7 a8 h8 a9 h9 a10 h10 a11 h11 T0 T1 T2 T3 x0 x1 x2 x3 x4 y0 y1 y2 y3 hc0 hc1 hc2 hc3
    Holds c q (k0_pay10 x2 x3 q m) (k0_pay14 x2 x3 q m l) (k0_pay15 x2 x3 q m a) R.1 R.2.1 R.2.2.1 R.2.2.2.1 := by
  obtain ⟨rfl, rfl, rfl, rfl⟩ := H
  unfold kernelRun0_D
  dsimp only
  unfold kernelRun0_D.sl.HS1_1 kernelRun0_D.sl.HS2_1 kernelRun0_D.sl.HS3_1
  refine ⟨rfl, ?_, ?_, ?_⟩ <;> refine (read_store _ _ hz2 _ _ _).trans ?_ <;>
    rw [load_c, load_k, load_q, load_m]
  · exact shapeCast_self _ _
  · rw [load_l]
  · rw [load_a]

theorem leaves_C {q m l a} (H : Holds c q m l a y0 y1 y2 y3) (hc0 hc1 hc2 hc3) :
    let R := kernelRun0_C c i a6 h6 a7 h7 a8 h8 a9 h9 a10 h10 a11 h11 T0 T1 T2 T3 x0 x1 x2 x3 x4 y0 y1 y2 y3 hc0 hc1 hc2 hc3
    Holds c q (k0_pay28 (k0_pay5 x2 x3) (qword i T0) (kword i T1) q m) (k0_pay31 (k0_pay5 x2 x3) (qword i T0) (kword i T1) q m l)
      (k0_pay32 (k0_pay5 x2 x3) (qword i T0) (kword i T1) q m a) R.2.1 R.2.2.1 R.2.2.2.1 R.2.2.2.2.1 := by
  obtain ⟨rfl, rfl, rfl, rfl⟩ := H
  unfold kernelRun0_C
  dsimp only
  unfold kernelRun0_C.sl.HS1_1 kernelRun0_C.sl.HS2_1 kernelRun0_C.sl.HS3_1 kernelRun0_C.sl.r_5 kernelRun0_C.sl.r_6 kernelRun0_C.sl.r_7
  refine ⟨rfl, ?_, ?_, ?_⟩ <;> refine (read_store _ _ hz2 _ _ _).trans ?_ <;>
    rw [load_c, load_k, load_q, load_m]
  · exact shapeCast_self _ _
  · rw [load_l]; exact shapeCast_self _ _
  · rw [load_a]; exact shapeCast_self _ _

/-! ### The queries a walk starts with -/

/-- A head's columns of the latent queries. -/
def latHead (x0 : Vec Ideal S64x4096 .f32) (h : Fin 16) : Vec Ideal S64x256 .f32 := fun y => x0 (ix2 (y 0) ⟨256 * h.val + (y 1).val, by have := (y 1).isLt; have : S64x256.size 1 = 256 := rfl; omega⟩)

/-- A head's columns of the rotary queries. -/
def ropeHead (x1 : Vec Ideal S64x1024 .f32) (h : Fin 16) : Vec Ideal S64x64 .f32 := fun y => x1 (ix2 (y 0) ⟨64 * h.val + (y 1).val, by have := (y 1).isLt; have : S64x64.size 1 = 64 := rfl; omega⟩)

theorem lat_inb (h : Fin 16) : ∀ a, (![0, 256 * h.val] : Fin 2 → ℕ) a + S64x256.size a ≤ S64x4096.size a := by revert h; decide
theorem rope_inb (h : Fin 16) : ∀ a, (![0, 64 * h.val] : Fin 2 → ℕ) a + S64x64.size a ≤ S64x1024.size a := by revert h; decide

def loadLat (h : Fin 16) : Vec Ideal S64x256 .f32 :=
  View.readAt (Elt Ideal) a6.view (Rect.unit (s := S64x4096) ![0, 256 * h.val] S64x256.size (lat_inb h)).toLoadRect (a6.view.rep x0)

def loadRope (h : Fin 16) : Vec Ideal S64x64 .f32 :=
  View.readAt (Elt Ideal) a7.view (Rect.unit (s := S64x1024) ![0, 64 * h.val] S64x64.size (rope_inb h)).toLoadRect (a7.view.rep x1)

theorem loadLat_eq : loadLat a6 x0 = latHead x0 := by
  funext h y
  unfold loadLat
  rw [View.readAt_eq_ld, View.read_rep, View.ld_unit]
  refine congrArg x0 (funext fun a => Fin.ext ?_)
  fin_cases a
  · exact Nat.zero_add _
  · rfl

theorem loadRope_eq : loadRope a7 x1 = ropeHead x1 := by
  funext h y
  unfold loadRope
  rw [View.readAt_eq_ld, View.read_rep, View.ld_unit]
  refine congrArg x1 (funext fun a => Fin.ext ?_)
  fin_cases a
  · exact Nat.zero_add _
  · rfl

theorem start_B : k0_pay1 (kernelRun0_B.sl.r_1 a6 a7 x0 x1) = queries (latHead x0) (ropeHead x1) := by
  rw [← loadLat_eq a6 x0, ← loadRope_eq a7 x1]
  rfl

theorem start_A : k0_pay1 (kernelRun0_A.sl.r_1 a6 a7 x0 x1) = queries (latHead x0) (ropeHead x1) := start_B a6 a7 x0 x1

theorem back_qB : kernelRun0_B.sl.v29 a6 a7 x0 x1 = queries (latHead x0) (ropeHead x1) :=
  (load_back _ hz2 _ _ _).trans (start_B a6 a7 x0 x1)

theorem back_qA : kernelRun0_A.sl.v44_1 a6 a7 x0 x1 = queries (latHead x0) (ropeHead x1) :=
  (load_back _ hz2 _ _ _).trans (start_A a6 a7 x0 x1)

theorem leaves_B (hc0 hc1 hc2 hc3) :
    let R := kernelRun0_B c i a6 h6 a7 h7 a8 h8 a9 h9 a10 h10 a11 h11 T0 T1 T2 T3 x0 x1 x2 x3 x4 hc0 hc1 hc2 hc3
    Holds c (queries (latHead x0) (ropeHead x1)) (k0_pay10 x2 x3 (queries (latHead x0) (ropeHead x1)) (k0_pay2 (F := Ideal)))
      (k0_pay14 x2 x3 (queries (latHead x0) (ropeHead x1)) (k0_pay2 (F := Ideal)) (k0_pay3 (F := Ideal)))
      (k0_pay15 x2 x3 (queries (latHead x0) (ropeHead x1)) (k0_pay2 (F := Ideal)) (k0_pay4 (F := Ideal)))
      R.1 R.2.1 R.2.2.1 R.2.2.2.1 := by
  unfold kernelRun0_B
  dsimp only
  unfold kernelRun0_B.sl.HS0_1 kernelRun0_B.sl.HS1_2 kernelRun0_B.sl.HS2_2 kernelRun0_B.sl.HS3_2
  refine ⟨(read_store _ _ hz2 _ _ _).trans (start_B a6 a7 x0 x1), ?_, ?_, ?_⟩ <;> refine (read_store _ _ hz2 _ _ _).trans ?_ <;>
    rw [load_c, load_k, back_qB, show kernelRun0_B.sl.v30 = k0_pay2 (F := Ideal) from load_back _ hz2 _ _ _]
  · exact shapeCast_self _ _
  · rw [show kernelRun0_B.sl.v31 = k0_pay3 (F := Ideal) from load_back _ hz2 _ _ _]
  · rw [show kernelRun0_B.sl.v32_1 = k0_pay4 (F := Ideal) from load_back _ hz2 _ _ _]

theorem leaves_A (hc0 hc1 hc2 hc3) :
    let R := kernelRun0_A c i a6 h6 a7 h7 a8 h8 a9 h9 a10 h10 a11 h11 T0 T1 T2 T3 x0 x1 x2 x3 x4 hc0 hc1 hc2 hc3
    Holds c (queries (latHead x0) (ropeHead x1))
      (k0_pay28 (k0_pay5 x2 x3) (qword i T0) (kword i T1) (queries (latHead x0) (ropeHead x1)) (k0_pay2 (F := Ideal)))
      (k0_pay31 (k0_pay5 x2 x3) (qword i T0) (kword i T1) (queries (latHead x0) (ropeHead x1)) (k0_pay2 (F := Ideal)) (k0_pay3 (F := Ideal)))
      (k0_pay32 (k0_pay5 x2 x3) (qword i T0) (kword i T1) (queries (latHead x0) (ropeHead x1)) (k0_pay2 (F := Ideal)) (k0_pay4 (F := Ideal)))
      R.2.1 R.2.2.1 R.2.2.2.1 R.2.2.2.2.1 := by
  unfold kernelRun0_A
  dsimp only
  unfold kernelRun0_A.sl.HS0_1 kernelRun0_A.sl.HS1_2 kernelRun0_A.sl.HS2_2 kernelRun0_A.sl.HS3_2 kernelRun0_A.sl.r_6 kernelRun0_A.sl.r_7 kernelRun0_A.sl.r_8
  refine ⟨(read_store _ _ hz2 _ _ _).trans (start_A a6 a7 x0 x1), ?_, ?_, ?_⟩ <;> refine (read_store _ _ hz2 _ _ _).trans ?_ <;>
    rw [load_c, load_k, back_qA, show kernelRun0_A.sl.v45 = k0_pay2 (F := Ideal) from load_back _ hz2 _ _ _]
  · exact shapeCast_self _ _
  · rw [show kernelRun0_A.sl.v46 = k0_pay3 (F := Ideal) from load_back _ hz2 _ _ _]; exact shapeCast_self _ _
  · rw [show kernelRun0_A.sl.v47_1 = k0_pay4 (F := Ideal) from load_back _ hz2 _ _ _]; exact shapeCast_self _ _

end

end Cert.Mla

end
-- ==== Proof.Outputs.lean ====
/-
  What the body leaves in its block of the result at the last point of a block of queries: the weighted sums over the sums
  of the weights, head by head times the head's columns of the value matrix.
-/
module

public import proofs.«01_k».proof.Proof.Paths

@[expose] public section

set_option maxRecDepth 16384

noncomputable section

namespace Cert.Mla

open Idealize.ShloMosaic Idealize.ShloMosaic.TcCoe Cert.KernelIdeal Cert.KernelIdeal.Gen

/-- A block of the result: column `y 1` belongs to head `y 1 / 128`, whose rows start at 64 times the head. -/
def result (a : FVec Ideal S1024x256 .f32) (l : FVec Ideal S1024x1 .f32) (x4 : Vec Ideal S256x2048 .f32) : FVec Ideal S64x2048 .f32 := fun y =>
  ∑ k : Fin 256, Ideal.div (a (ix2 ⟨64 * ((y 1).val / 128) + (y 0).val, by have := (y 0).isLt; have := (y 1).isLt; have : S64x2048.size 0 = 64 := rfl; have : S64x2048.size 1 = 2048 := rfl; omega⟩ k))
    (l (ix2 ⟨64 * ((y 1).val / 128) + (y 0).val, by have := (y 0).isLt; have := (y 1).isLt; have : S64x2048.size 0 = 64 := rfl; have : S64x2048.size 1 = 2048 := rfl; omega⟩ 0)) * x4 (ix2 k (y 1))

theorem result_at (a : FVec Ideal S1024x256 .f32) (l : FVec Ideal S1024x1 .f32) (x4 : Vec Ideal S256x2048 .f32) (h : Fin 16) (t : Fin 64) (d : Fin 128) :
    result a l x4 (ix2 t ⟨128 * h.val + d.val, by omega⟩)
      = ∑ k : Fin 256, Ideal.div (a (ix2 ⟨64 * h.val + t.val, by omega⟩ k)) (l (ix2 ⟨64 * h.val + t.val, by omega⟩ 0)) * x4 (ix2 k ⟨128 * h.val + d.val, by omega⟩) := by
  have e : (⟨64 * ((128 * h.val + d.val) / 128) + t.val, by omega⟩ : Fin 1024) = ⟨64 * h.val + t.val, by omega⟩ := Fin.ext (by simp only; omega)
  show (∑ k : Fin 256, Ideal.div (a (ix2 (⟨64 * ((128 * h.val + d.val) / 128) + t.val, _⟩ : Fin 1024) k)) (l (ix2 (⟨64 * ((128 * h.val + d.val) / 128) + t.val, _⟩ : Fin 1024) 0)) * x4 (ix2 k ⟨128 * h.val + d.val, _⟩)) = _
  rw [e]

theorem wuv_inb (h : Fin 16) : ∀ a, (![0, 128 * h.val] : Fin 2 → ℕ) a + S256x128.size a ≤ S256x2048.size a := by revert h; decide
theorem out_inb (h : Fin 16) : ∀ a, (![0, 128 * h.val] : Fin 2 → ℕ) a + S64x128.size a ≤ S64x2048.size a := by revert h; decide
theorem rows_slices (h : Fin 16) : S1024x256.Slices ![64 * h.val, 0] S64x256 := ⟨rfl, by revert h; decide⟩

/-- One head's store of the result. -/
theorem piece_at (a10 : Memref sig .tc .vmem S256x2048 .f32) (x4 : Vec Ideal S256x2048 .f32) {a : FVec Ideal S1024x256 .f32} {l : FVec Ideal S1024x1 .f32}
    (o : FVec Ideal S1024x256 .bf16) (ho : o = k0_pay33 a l) (h : Fin 16) (j : S64x128.Idx) :
    headOut (64 * h.val) (rows_slices h) o (truncf .bf16 (View.readAt (Elt Ideal) a10.view
        (Rect.unit (s := S256x2048) ![0, 128 * h.val] S256x128.size (wuv_inb h)).toLoadRect (a10.view.rep x4)) bitsLt_bf16_f32) j
      = result a l x4 ((Rect.unit (s := S64x2048) ![0, 128 * h.val] S64x128.size (out_inb h)).emb j) := by
  obtain ⟨t, d, rfl⟩ : ∃ (t : Fin 64) (d : Fin 128), j = ix2 t d := ⟨j 0, j 1, by funext a; fin_cases a <;> rfl⟩
  have hy : (Rect.unit (s := S64x2048) ![0, 128 * h.val] S64x128.size (out_inb h)).emb (ix2 t d) = ix2 t ⟨128 * h.val + d.val, by omega⟩ := by
    funext a
    refine Fin.ext ?_
    rw [Rect.emb_apply]
    fin_cases a <;> simp
  rw [hy, result_at, headOut_at _ _ (by omega), ho]
  refine Finset.sum_congr rfl fun k _ => congrArg₂ (· * ·) (ratio_at a l _ k) ?_
  rw [View.readAt_eq_ld, View.read_rep, View.ld_unit]
  refine congrArg x4 (funext fun a => Fin.ext ?_)
  fin_cases a
  · exact Nat.zero_add _
  · rfl

section
variable (c : Dev nD) (i : grid0.Coords) (a6 : Memref sig .tc .vmem S64x4096 .f32) (h6 : a6.IsWhole) (a7 : Memref sig .tc .vmem S64x1024 .f32) (h7 : a7.IsWhole)
  (a8 : Memref sig .tc .vmem S512x256 .f32) (h8 : a8.IsWhole) (a9 : Memref sig .tc .vmem S512x64 .f32) (h9 : a9.IsWhole)
  (a10 : Memref sig .tc .vmem S256x2048 .f32) (h10 : a10.IsWhole) (a11 : Memref sig .tc .vmem S64x2048 .f32) (h11 : a11.IsWhole)
  (T0 T1 T2 T3 : S288.Idx → Elt Ideal .i32)
  (x0 : S64x4096.Idx → Elt Ideal .f32) (x1 : S64x1024.Idx → Elt Ideal .f32) (x2 : S512x256.Idx → Elt Ideal .f32) (x3 : S512x64.Idx → Elt Ideal .f32)
  (x4 : S256x2048.Idx → Elt Ideal .f32)
  (y0 : Buf (Elt Ideal) ((c : Thread nD τ).loc cc0_scratch0)) (y1 : Buf (Elt Ideal) ((c : Thread nD τ).loc cc0_scratch1))
  (y2 : Buf (Elt Ideal) ((c : Thread nD τ).loc cc0_scratch2)) (y3 : Buf (Elt Ideal) ((c : Thread nD τ).loc cc0_scratch3))

theorem ratio_C {q m l a} (H : Holds c q m l a y0 y1 y2 y3) :
    kernelRun0_C.sl.v33 c i a8 a9 T0 T1 x2 x3 y0 y1 y2 y3
      = k0_pay33 (k0_pay32 (k0_pay5 x2 x3) (qword i T0) (kword i T1) q m a) (k0_pay31 (k0_pay5 x2 x3) (qword i T0) (kword i T1) q m l) := by
  obtain ⟨rfl, rfl, rfl, rfl⟩ := H
  have ea : kernelRun0_C.sl.v29 c i a8 a9 T0 T1 x2 x3 y0 y1 y3 = k0_pay32 (k0_pay5 x2 x3) (qword i T0) (kword i T1) (scM0_0.view.read (Elt Ideal) y0) (scM0_1.view.read (Elt Ideal) y1) (scM0_3.view.read (Elt Ideal) y3) := by
    refine (load_back _ hz2 _ _ _).trans ((shapeCast_self _ _).trans ?_)
    unfold kernelRun0_C.sl.r_7
    rw [load_c, load_k, load_q, load_m, load_a]
  have el : kernelRun0_C.sl.v30 c i a8 a9 T0 T1 x2 x3 y0 y1 y2 = k0_pay31 (k0_pay5 x2 x3) (qword i T0) (kword i T1) (scM0_0.view.read (Elt Ideal) y0) (scM0_1.view.read (Elt Ideal) y1) (scM0_2.view.read (Elt Ideal) y2) := by
    refine (load_back _ hz2 _ _ _).trans ((shapeCast_self _ _).trans ?_)
    unfold kernelRun0_C.sl.r_6
    rw [load_c, load_k, load_q, load_m, load_l]
  unfold kernelRun0_C.sl.v33 kernelRun0_C.sl.v32 kernelRun0_C.sl.v31
  rw [ea, el]
  rfl

theorem out_C {q m l a} (H : Holds c q m l a y0 y1 y2 y3) (hc0 hc1 hc2 hc3) :
    out0_C_5 c i a6 h6 a7 h7 a8 h8 a9 h9 a10 h10 a11 h11 T0 T1 T2 T3 x0 x1 x2 x3 x4 y0 y1 y2 y3 hc0 hc1 hc2 hc3
      = result (k0_pay32 (k0_pay5 x2 x3) (qword i T0) (kword i T1) q m a) (k0_pay31 (k0_pay5 x2 x3) (qword i T0) (kword i T1) q m l) x4 := by
  have p := piece_at a10 x4 _ (ratio_C c i a8 a9 T0 T1 x2 x3 y0 y1 y2 y3 H)
  have hcov := cover0_C_5 c i a6 h6 a7 h7 a8 h8 a9 h9 a10 h10 a11 h11 T0 T1 T2 T3 x0 x1 x2 x3 x4 y0 y1 y2 y3 hc0 hc1 hc2 hc3
  funext y
  unfold out0_C_5
  rw [View.read_writes_eq_canon _ _ _ hcov]
  refine View.canon_apply_of_pieces _ _ (fun pc hp j => ?_) y (hcov y)
  unfold kernelRun0_C at hp
  dsimp only at hp
  simp only [kernelRun0_C.sl.HO5_16, List.mem_cons, List.mem_nil_iff, or_false] at hp
  rcases hp with rfl | rfl | rfl | rfl | rfl | rfl | rfl | rfl | rfl | rfl | rfl | rfl | rfl | rfl | rfl | rfl
  exacts [p 15 j, p 14 j, p 13 j, p 12 j, p 11 j, p 10 j, p 9 j, p 8 j, p 7 j, p 6 j, p 5 j, p 4 j, p 3 j, p 2 j, p 1 j, p 0 j]

theorem ratio_A : kernelRun0_A.sl.v33 i a6 a7 a8 a9 T0 T1 x0 x1 x2 x3
    = k0_pay33 (k0_pay32 (k0_pay5 x2 x3) (qword i T0) (kword i T1) (queries (latHead x0) (ropeHead x1)) (k0_pay2 (F := Ideal)) (k0_pay4 (F := Ideal)))
        (k0_pay31 (k0_pay5 x2 x3) (qword i T0) (kword i T1) (queries (latHead x0) (ropeHead x1)) (k0_pay2 (F := Ideal)) (k0_pay3 (F := Ideal))) := by
  have ea : kernelRun0_A.sl.v29 i a6 a7 a8 a9 T0 T1 x0 x1 x2 x3 = k0_pay32 (k0_pay5 x2 x3) (qword i T0) (kword i T1) (queries (latHead x0) (ropeHead x1)) (k0_pay2 (F := Ideal)) (k0_pay4 (F := Ideal)) := by
    refine (load_back _ hz2 _ _ _).trans ((shapeCast_self _ _).trans ?_)
    unfold kernelRun0_A.sl.r_8
    rw [load_c, load_k, back_qA, show kernelRun0_A.sl.v45 = k0_pay2 (F := Ideal) from load_back _ hz2 _ _ _,
      show kernelRun0_A.sl.v47_1 = k0_pay4 (F := Ideal) from load_back _ hz2 _ _ _]
    rfl
  have el : kernelRun0_A.sl.v30 i a6 a7 a8 a9 T0 T1 x0 x1 x2 x3 = k0_pay31 (k0_pay5 x2 x3) (qword i T0) (kword i T1) (queries (latHead x0) (ropeHead x1)) (k0_pay2 (F := Ideal)) (k0_pay3 (F := Ideal)) := by
    refine (load_back _ hz2 _ _ _).trans ((shapeCast_self _ _).trans ?_)
    unfold kernelRun0_A.sl.r_7
    rw [load_c, load_k, back_qA, show kernelRun0_A.sl.v45 = k0_pay2 (F := Ideal) from load_back _ hz2 _ _ _,
      show kernelRun0_A.sl.v46 = k0_pay3 (F := Ideal) from load_back _ hz2 _ _ _]
    rfl
  unfold kernelRun0_A.sl.v33 kernelRun0_A.sl.v32_1 kernelRun0_A.sl.v31
  rw [ea, el]
  rfl

theorem out_A (hc0 hc1 hc2 hc3) :
    out0_A_5 c i a6 h6 a7 h7 a8 h8 a9 h9 a10 h10 a11 h11 T0 T1 T2 T3 x0 x1 x2 x3 x4 hc0 hc1 hc2 hc3
      = result (k0_pay32 (k0_pay5 x2 x3) (qword i T0) (kword i T1) (queries (latHead x0) (ropeHead x1)) (k0_pay2 (F := Ideal)) (k0_pay4 (F := Ideal)))
          (k0_pay31 (k0_pay5 x2 x3) (qword i T0) (kword i T1) (queries (latHead x0) (ropeHead x1)) (k0_pay2 (F := Ideal)) (k0_pay3 (F := Ideal))) x4 := by
  have p := piece_at a10 x4 _ (ratio_A i a6 a7 a8 a9 T0 T1 x0 x1 x2 x3)
  have hcov := cover0_A_5 c i a6 h6 a7 h7 a8 h8 a9 h9 a10 h10 a11 h11 T0 T1 T2 T3 x0 x1 x2 x3 x4 hc0 hc1 hc2 hc3
  funext y
  unfold out0_A_5
  rw [View.read_writes_eq_canon _ _ _ hcov]
  refine View.canon_apply_of_pieces _ _ (fun pc hp j => ?_) y (hcov y)
  unfold kernelRun0_A at hp
  dsimp only at hp
  simp only [kernelRun0_A.sl.HO5_16, List.mem_cons, List.mem_nil_iff, or_false] at hp
  rcases hp with rfl | rfl | rfl | rfl | rfl | rfl | rfl | rfl | rfl | rfl | rfl | rfl | rfl | rfl | rfl | rfl
  exacts [p 15 j, p 14 j, p 13 j, p 12 j, p 11 j, p 10 j, p 9 j, p 8 j, p 7 j, p 6 j, p 5 j, p 4 j, p 3 j, p 2 j, p 1 j, p 0 j]

end

end Cert.Mla

end
-- ==== Proof.Walk.lean ====
/-
  The walk over the grid of the latent attention kernel, decided from the tables the precondition pins: which block of
  queries and which block of keys a point reads, where a query block's walk starts, that it moves one block of keys
  at a time, and where it ends.
-/
module

public import proofs.«01_k».proof.Proof.Gen.KernelIdeal.Flash

@[expose] public section

set_option maxRecDepth 16384

noncomputable section

namespace Cert.Mla

open Idealize.ShloMosaic Cert.KernelIdeal Cert.KernelIdeal.Gen

/-- The block of 64 query rows, of the 128 of both prompts, a point reads. -/
abbrev qblk (ch : Fin 1) (t : Fin (cfgA ch).N) : ℕ := ((cfgA ch).win (0 : Fin 6)).index t (0 : Fin 2)

/-- The block of 512 key rows, of the 16 of both prompts, a point reads. -/
abbrev kblk (ch : Fin 1) (t : Fin (cfgA ch).N) : ℕ := ((cfgA ch).win (2 : Fin 6)).index t (0 : Fin 2)

theorem N_eq : ∀ ch : Fin 1, (cfgA ch).N = 576 := by decide +kernel

theorem idx1 : ∀ (ch : Fin 1) (t : Fin (cfgA ch).N), ((cfgA ch).win (1 : Fin 6)).index t (0 : Fin 2) = qblk ch t := by decide +kernel
theorem idx5 : ∀ (ch : Fin 1) (t : Fin (cfgA ch).N), ((cfgA ch).win (5 : Fin 6)).index t (0 : Fin 2) = qblk ch t := by decide +kernel
theorem idx3 : ∀ (ch : Fin 1) (t : Fin (cfgA ch).N), ((cfgA ch).win (3 : Fin 6)).index t (0 : Fin 2) = kblk ch t := by decide +kernel
theorem idx4 : ∀ (ch : Fin 1) (t : Fin (cfgA ch).N), ((cfgA ch).win (4 : Fin 6)).index t (0 : Fin 2) = 0 := by decide +kernel

theorem same_prompt : ∀ (ch : Fin 1) (t : Fin (cfgA ch).N), qblk ch t < 128 ∧ kblk ch t / 8 = qblk ch t / 64 := by decide +kernel

/-- A query block's walk starts at its prompt's first keys. -/
theorem first_block : ∀ (ch : Fin 1) (t : Fin (cfgA ch).N), P0_0 ch t → kblk ch t % 8 = 0 := by decide +kernel

/-- Keys that no query of the block may miss. -/
theorem all_seen : ∀ (ch : Fin 1) (t : Fin (cfgA ch).N), ¬ P0_1 ch t → 512 * (kblk ch t % 8 + 1) ≤ 64 * (qblk ch t % 64) + 1 := by
  decide +kernel

/-- The last block of keys ends after the last query. -/
theorem last_block : ∀ (ch : Fin 1) (t : Fin (cfgA ch).N), P0_1 ch t → 64 * (qblk ch t % 64 + 1) ≤ 512 * (kblk ch t % 8 + 1) := by
  decide +kernel

/-- The point before. -/
def before (ch : Fin 1) (t : Fin (cfgA ch).N) : Fin (cfgA ch).N := ⟨t.val - 1, by omega⟩

/-- A point that doesn't start a walk goes on with the walk of the point before, one block of keys further. -/
theorem goes_on : ∀ (ch : Fin 1) (t : Fin (cfgA ch).N), ¬ P0_0 ch t →
    0 < t.val ∧ ¬ P0_1 ch (before ch t) ∧ qblk ch (before ch t) = qblk ch t ∧ kblk ch (before ch t) + 1 = kblk ch t := by
  decide +kernel

/-- The words the mask is computed from. -/
theorem words : ∀ (ch : Fin 1) (t : Fin (cfgA ch).N),
    kernelRun0_C.sl.r_3 (crd ch t) (pinT_0 ch) = BitVec.ofNat 32 (qblk ch t % 64)
    ∧ kernelRun0_C.sl.r_4 (crd ch t) (pinT_1 ch) = BitVec.ofNat 32 (kblk ch t % 8) := by
  decide +kernel

end Cert.Mla

end
-- ==== Proof.Ends.lean ====
/-
  Where the walk over a block of queries ends, and that no window moves along the columns.
-/
module

public import proofs.«01_k».proof.Proof.Walk

@[expose] public section

set_option maxRecDepth 16384

noncomputable section

namespace Cert.Mla

open Idealize.ShloMosaic Cert.KernelIdeal Cert.KernelIdeal.Gen

theorem col0 : ∀ (ch : Fin 1) (t : Fin (cfgA ch).N), ((cfgA ch).win (0 : Fin 6)).index t (1 : Fin 2) = 0 := by decide +kernel
theorem col1 : ∀ (ch : Fin 1) (t : Fin (cfgA ch).N), ((cfgA ch).win (1 : Fin 6)).index t (1 : Fin 2) = 0 := by decide +kernel
theorem col2 : ∀ (ch : Fin 1) (t : Fin (cfgA ch).N), ((cfgA ch).win (2 : Fin 6)).index t (1 : Fin 2) = 0 := by decide +kernel
theorem col3 : ∀ (ch : Fin 1) (t : Fin (cfgA ch).N), ((cfgA ch).win (3 : Fin 6)).index t (1 : Fin 2) = 0 := by decide +kernel
theorem col4 : ∀ (ch : Fin 1) (t : Fin (cfgA ch).N), ((cfgA ch).win (4 : Fin 6)).index t (1 : Fin 2) = 0 := by decide +kernel
theorem col5 : ∀ (ch : Fin 1) (t : Fin (cfgA ch).N), ((cfgA ch).win (5 : Fin 6)).index t (1 : Fin 2) = 0 := by decide +kernel

/-- The last point of a block of queries: in its prompt the walks of the blocks before take `4 a (a + 1)` points for every
    eight of them, and one of `a + 1` points each for the rest. -/
def lastPt (ch : Fin 1) (q : Fin 128) : Fin (cfgA ch).N :=
  ⟨(q.val / 64) * 288 + (4 * (q.val % 64 / 8) * (q.val % 64 / 8 + 1) + (q.val % 8 + 1) * (q.val % 64 / 8 + 1) - 1), by
    rw [N_eq ch]; revert q; decide +kernel⟩

theorem last_of : ∀ (ch : Fin 1) (q : Fin 128), P0_1 ch (lastPt ch q) ∧ qblk ch (lastPt ch q) = q.val
    ∧ ((cfgA ch).win (5 : Fin 6)).flush (lastPt ch q) = true := by decide +kernel

/-- Only a last point writes its block of the result back. -/
theorem last_of_flush : ∀ (ch : Fin 1) (t : Fin (cfgA ch).N), ((cfgA ch).win (5 : Fin 6)).flush t = true → P0_1 ch t := by decide +kernel

end Cert.Mla

end
-- ==== Proof.Blocks.lean ====
/-
  The blocks a point reads, entry by entry, off the arrays at launch.
-/
module

public import proofs.«01_k».proof.Proof.Ends
public import Idealize.ShloMosaic.Lib.Pipeline.Value
public import Idealize.ShloMosaic.Lib.Pipeline.ValueKit

@[expose] public section

set_option maxRecDepth 16384

noncomputable section

namespace Cert.Mla

open Idealize.ShloMosaic Idealize.ShloMosaic.TcCoe Cert.KernelIdeal Cert.KernelIdeal.Gen

variable (ch : Fin 1) (m : (ℓ : Loc nD τ sig) → Buf (Elt Ideal) ℓ) (ρ : Dev nD → PrngReg) (c : Dev nD) (t : Fin (cfgA ch).N)

theorem lat_block (i : Fin 64) (x : Fin 4096) :
    iblk ch m ρ c (0 : Fin 6) t (ix2 i x) = m ((c.tc : Thread nD τ).loc main_arg4) (ix2 ⟨64 * qblk ch t + i.val, by have := (same_prompt ch t).1; omega⟩ x) := by
  blk_ext [iblk, col0 ch t]
  exact congrArg (· + i.val) (Nat.mul_comm _ _)

theorem rope_block (i : Fin 64) (x : Fin 1024) :
    iblk ch m ρ c (1 : Fin 6) t (ix2 i x) = m ((c.tc : Thread nD τ).loc main_arg5) (ix2 ⟨64 * qblk ch t + i.val, by have := (same_prompt ch t).1; omega⟩ x) := by
  blk_ext [iblk, col1 ch t, idx1 ch t]

theorem key_block (j : Fin 512) (d : Fin 256) :
    iblk ch m ρ c (2 : Fin 6) t (ix2 j d) = m ((c.tc : Thread nD τ).loc main_arg6) (ix2 ⟨512 * kblk ch t + j.val, by have := same_prompt ch t; omega⟩ d) := by
  blk_ext [iblk, col2 ch t]
  exact congrArg (· + j.val) (Nat.mul_comm _ _)

theorem ropeKey_block (j : Fin 512) (d : Fin 64) :
    iblk ch m ρ c (3 : Fin 6) t (ix2 j d) = m ((c.tc : Thread nD τ).loc main_arg7) (ix2 ⟨512 * kblk ch t + j.val, by have := same_prompt ch t; omega⟩ d) := by
  blk_ext [iblk, col3 ch t, idx3 ch t]

theorem values_block (d : Fin 256) (e : Fin 2048) :
    iblk ch m ρ c (4 : Fin 6) t (ix2 d e) = m ((c.tc : Thread nD τ).loc main_arg8) (ix2 d e) := by
  blk_ext [iblk, col4 ch t, idx4 ch t]

end Cert.Mla

end
-- ==== Proof.Step.lean ====
/-
  One block of keys: the scores the body takes against it are the reference's, scaled, and the three numbers it carries for
  each row stay those of the keys read so far.
-/
module

public import proofs.«01_k».proof.Proof.Paths
public import proofs.«01_k».proof.Proof.RefValue
public import proofs.«01_k».proof.Proof.Blocks

@[expose] public section

set_option maxRecDepth 16384

noncomputable section

namespace Cert.Mla

open Idealize.ShloMosaic Idealize.ShloMosaic.TcCoe Cert.KernelIdeal Cert.KernelIdeal.Gen Cert.Attn

/-! ### The scale -/

theorem sum_scaled {n : ℕ} (a c : Fin n → EReal) {q : ℝ} (hq : 0 ≤ q) :
    ∑ i, a i * (q : EReal) * c i = (∑ i, a i * c i) * (q : EReal) := by
  rw [sum_mul_of_nonneg _ _ (by exact_mod_cast hq) (EReal.coe_ne_top q)]
  exact Finset.sum_congr rfl fun i _ => by rw [mul_right_comm]

/-- The kernel's score, taken over queries scaled beforehand, is the reference's score in base two. -/
theorem scaled_score (a : Fin 256 → EReal) (b : Fin 64 → EReal) (c : Fin 256 → EReal) (k : Fin 64 → EReal) :
    (∑ i, a i * ((rsq * invLn2 : ℝ) : EReal) * c i) + ∑ i, b i * ((rsq * invLn2 : ℝ) : EReal) * k i
      = (invLn2 : EReal) * (((∑ i, c i * a i) + ∑ i, k i * b i) * (rsq : EReal)) := by
  have hq : (0 : ℝ) ≤ rsq * invLn2 := (mul_pos rsq_pos invLn2_pos).le
  rw [sum_scaled a c hq, sum_scaled b k hq, ← EReal.right_distrib_of_nonneg_of_ne_top (by exact_mod_cast hq) (EReal.coe_ne_top _),
    EReal.coe_mul, mul_comm (invLn2 : EReal), ← mul_assoc]
  simp only [mul_comm]

/-! ### The rows of the reference -/

section
variable (m : (ℓ : Loc nD τ sig) → Buf (Elt Ideal) ℓ) (c : Dev nD)

/-- The arguments: the latent and the rotary queries, the latent and the rotary keys, the value matrix. -/
abbrev argQ : FVec Ideal S8192x4096 .f32 := m ((c.tc : Thread nD τ).loc main_arg4)
abbrev argR : FVec Ideal S8192x1024 .f32 := m ((c.tc : Thread nD τ).loc main_arg5)
abbrev argC : FVec Ideal S8192x256 .f32 := m ((c.tc : Thread nD τ).loc main_arg6)
abbrev argK : FVec Ideal S8192x64 .f32 := m ((c.tc : Thread nD τ).loc main_arg7)
abbrev argW : FVec Ideal S256x2048 .f32 := m ((c.tc : Thread nD τ).loc main_arg8)

/-- The masked scores of a query of a head, by key. -/
def row (b : Fin 2) (h : Fin 16) (p : Fin 4096) (i : ℕ) : EReal :=
  if hi : i < 4096 then SCORES (argQ m c) (argR m c) (argC m c) (argK m c) (ix4 b h p ⟨i, hi⟩) else ⊥

/-- A column of the latent keys, by key. -/
def vals (b : Fin 2) (d : Fin 256) (i : ℕ) : EReal :=
  if hi : i < 4096 then argC m c (ix2 ⟨b.val * 4096 + i, by omega⟩ d) else 0

end

/-! ### A point's rows -/

variable (ch : Fin 1) (m : (ℓ : Loc nD τ sig) → Buf (Elt Ideal) ℓ) (ρ : Dev nD → PrngReg) (c : Dev nD) (t : Fin (cfgA ch).N)

/-- The prompt, and the place in it, of a row of a point's block of queries. -/
def prompt : Fin 2 := ⟨qblk ch t / 64, by have := (same_prompt ch t).1; omega⟩
def query (i : Fin 64) : Fin 4096 := ⟨64 * (qblk ch t % 64) + i.val, by omega⟩

/-- The scaled queries of a point's block. -/
def scaledQ : FVec Ideal S1024x384 .bf16 := queries (latHead (iblk ch m ρ c (0 : Fin 6) t)) (ropeHead (iblk ch m ρ c (1 : Fin 6) t))

theorem score_eq (h : Fin 16) (i : Fin 64) (j : Fin 512) :
    k0_pay9 (F := Ideal) (iblk ch m ρ c (2 : Fin 6) t) (iblk ch m ρ c (3 : Fin 6) t) (scaledQ ch m ρ c t) (ix2 ⟨64 * h.val + i.val, by omega⟩ j)
      = invLn2 * score (argQ m c) (argR m c) (argC m c) (argK m c) (prompt ch t) h (query ch t i) ⟨512 * (kblk ch t % 8) + j.val, by omega⟩ := by
  have sp := same_prompt ch t
  have eq : (⟨64 * qblk ch t + i.val, by omega⟩ : Fin 8192) = ⟨(prompt ch t).val * 4096 + (query ch t i).val, by omega⟩ :=
    Fin.ext (by simp only [prompt, query]; omega)
  have ek : (⟨512 * kblk ch t + j.val, by omega⟩ : Fin 8192) = ⟨(prompt ch t).val * 4096 + (512 * (kblk ch t % 8) + j.val), by have := (prompt ch t).isLt; omega⟩ :=
    Fin.ext (by simp only [prompt]; omega)
  have el : ∀ x : Fin 256, latHead (iblk ch m ρ c (0 : Fin 6) t) h (ix2 i x)
      = argQ m c (ix2 ⟨(prompt ch t).val * 4096 + (query ch t i).val, by omega⟩ ⟨h.val * 256 + x.val, by omega⟩) := fun x => by
    refine (lat_block ch m ρ c t i ⟨256 * h.val + x.val, by omega⟩).trans ?_
    rw [eq]
    refine congrArg (fun z => argQ m c (ix2 _ z)) (Fin.ext ?_)
    simp only; omega
  have er : ∀ x : Fin 64, ropeHead (iblk ch m ρ c (1 : Fin 6) t) h (ix2 i x)
      = argR m c (ix2 ⟨(prompt ch t).val * 4096 + (query ch t i).val, by omega⟩ ⟨h.val * 64 + x.val, by omega⟩) := fun x => by
    refine (rope_block ch m ρ c t i ⟨64 * h.val + x.val, by omega⟩).trans ?_
    rw [eq]
    refine congrArg (fun z => argR m c (ix2 _ z)) (Fin.ext ?_)
    simp only; omega
  rw [scores_at]
  simp only [scaledQ, queries_at, headRows_lat, headRows_rope, el, er]
  rw [scaled_score]
  unfold score
  refine congrArg (fun z : EReal => invLn2 * (z * _)) (congrArg₂ (· + ·) (Finset.sum_congr rfl fun x _ => ?_) (Finset.sum_congr rfl fun x _ => ?_))
  · rw [key_block, ek]
  · rw [ropeKey_block, ek]

theorem vals_eq (j : Fin 512) (d : Fin 256) :
    iblk ch m ρ c (2 : Fin 6) t (ix2 j d) = vals m c (prompt ch t) d (512 * (kblk ch t % 8) + j.val) := by
  have sp := same_prompt ch t
  have ek : (⟨512 * kblk ch t + j.val, by omega⟩ : Fin 8192) = ⟨(prompt ch t).val * 4096 + (512 * (kblk ch t % 8) + j.val), by have := (prompt ch t).isLt; omega⟩ :=
    Fin.ext (by simp only [prompt]; omega)
  rw [key_block, ek, vals, dif_pos (by omega)]

/-- Where no key of the block is later than a query, the scores are the reference's row. -/
theorem seen_eq (hs : 512 * (kblk ch t % 8 + 1) ≤ 64 * (qblk ch t % 64) + 1) (h : Fin 16) (i : Fin 64) (j : Fin 512) :
    k0_pay9 (F := Ideal) (iblk ch m ρ c (2 : Fin 6) t) (iblk ch m ρ c (3 : Fin 6) t) (scaledQ ch m ρ c t) (ix2 ⟨64 * h.val + i.val, by omega⟩ j)
      = invLn2 * row m c (prompt ch t) h (query ch t i) (512 * (kblk ch t % 8) + j.val) := by
  rw [score_eq, row, dif_pos (by omega), SCORES_at, if_pos (by simp only [query]; omega)]

/-- With the mask they always are. -/
theorem masked_eq (h : Fin 16) (i : Fin 64) (j : Fin 512) :
    k0_pay27 (F := Ideal) (k0_pay5 (F := Ideal) (iblk ch m ρ c (2 : Fin 6) t) (iblk ch m ρ c (3 : Fin 6) t)) (qword (crd ch t) (pinT_0 ch)) (kword (crd ch t) (pinT_1 ch))
        (scaledQ ch m ρ c t) (ix2 ⟨64 * h.val + i.val, by omega⟩ j)
      = invLn2 * row m c (prompt ch t) h (query ch t i) (512 * (kblk ch t % 8) + j.val) := by
  rw [show qword (crd ch t) (pinT_0 ch) = _ from (words ch t).1, show kword (crd ch t) (pinT_1 ch) = _ from (words ch t).2,
    masked_at _ _ _ _ _ (by omega) (by omega), score_eq, row, dif_pos (by omega), SCORES_at]
  have e : (64 * h.val + i.val) % 64 = i.val := by omega
  by_cases hle : 512 * (kblk ch t % 8) + j.val ≤ 64 * (qblk ch t % 64) + i.val
  · rw [if_pos (show 512 * (kblk ch t % 8) + j.val ≤ 64 * (qblk ch t % 64) + (64 * h.val + i.val) % 64 by omega),
      if_pos (show 512 * (kblk ch t % 8) + j.val ≤ (query ch t i).val from hle)]
  · rw [if_neg (show ¬ 512 * (kblk ch t % 8) + j.val ≤ 64 * (qblk ch t % 64) + (64 * h.val + i.val) % 64 by omega),
      if_neg (show ¬ 512 * (kblk ch t % 8) + j.val ≤ (query ch t i).val from hle)]
    exact (EReal.coe_mul_bot_of_pos invLn2_pos).symm

/-! ### The three numbers -/

/-- For every head, query and latent column: the greatest score, the sum of weights and the weighted sum over the first `n`
    keys of the prompt. -/
def Carried (n : ℕ) (M L : FVec Ideal S1024x1 .f32) (A : FVec Ideal S1024x256 .f32) : Prop :=
  ∀ (h : Fin 16) (i : Fin 64) (d : Fin 256), State n (fun k => invLn2 * row m c (prompt ch t) h (query ch t i) k) (vals m c (prompt ch t) d)
    (M (ix2 ⟨64 * h.val + i.val, by omega⟩ 0)) (L (ix2 ⟨64 * h.val + i.val, by omega⟩ 0)) (A (ix2 ⟨64 * h.val + i.val, by omega⟩ d))

theorem carried_start : Carried ch m c t 0 (k0_pay2 (F := Ideal)) (k0_pay3 (F := Ideal)) (k0_pay4 (F := Ideal)) := fun h i d => by
  rw [start_max, start_den, start_num]
  exact State.zero _ _

theorem carried_seen {M L : FVec Ideal S1024x1 .f32} {A : FVec Ideal S1024x256 .f32}
    (hs : 512 * (kblk ch t % 8 + 1) ≤ 64 * (qblk ch t % 64) + 1) (H : Carried ch m c t (512 * (kblk ch t % 8)) M L A) :
    Carried ch m c t (512 * (kblk ch t % 8 + 1))
      (k0_pay10 (F := Ideal) (iblk ch m ρ c (2 : Fin 6) t) (iblk ch m ρ c (3 : Fin 6) t) (scaledQ ch m ρ c t) M)
      (k0_pay14 (F := Ideal) (iblk ch m ρ c (2 : Fin 6) t) (iblk ch m ρ c (3 : Fin 6) t) (scaledQ ch m ρ c t) M L)
      (k0_pay15 (F := Ideal) (iblk ch m ρ c (2 : Fin 6) t) (iblk ch m ρ c (3 : Fin 6) t) (scaledQ ch m ρ c t) M A) := fun h i d => by
  have hm := max_at (iblk ch m ρ c (2 : Fin 6) t) (iblk ch m ρ c (3 : Fin 6) t) (scaledQ ch m ρ c t) M ⟨64 * h.val + i.val, by omega⟩
  simp only [seen_eq ch m ρ c t hs] at hm
  have st := (H h i d).step 512 hm
  rw [den_at, num_at]
  simp only [seen_eq ch m ρ c t hs, vals_eq]
  exact st

theorem carried_masked {M L : FVec Ideal S1024x1 .f32} {A : FVec Ideal S1024x256 .f32}
    (H : Carried ch m c t (512 * (kblk ch t % 8)) M L A) :
    Carried ch m c t (512 * (kblk ch t % 8 + 1))
      (k0_pay28 (F := Ideal) (k0_pay5 (F := Ideal) (iblk ch m ρ c (2 : Fin 6) t) (iblk ch m ρ c (3 : Fin 6) t)) (qword (crd ch t) (pinT_0 ch)) (kword (crd ch t) (pinT_1 ch)) (scaledQ ch m ρ c t) M)
      (k0_pay31 (F := Ideal) (k0_pay5 (F := Ideal) (iblk ch m ρ c (2 : Fin 6) t) (iblk ch m ρ c (3 : Fin 6) t)) (qword (crd ch t) (pinT_0 ch)) (kword (crd ch t) (pinT_1 ch)) (scaledQ ch m ρ c t) M L)
      (k0_pay32 (F := Ideal) (k0_pay5 (F := Ideal) (iblk ch m ρ c (2 : Fin 6) t) (iblk ch m ρ c (3 : Fin 6) t)) (qword (crd ch t) (pinT_0 ch)) (kword (crd ch t) (pinT_1 ch)) (scaledQ ch m ρ c t) M A) := fun h i d => by
  have hm := maskedMax_at (k0_pay5 (F := Ideal) (iblk ch m ρ c (2 : Fin 6) t) (iblk ch m ρ c (3 : Fin 6) t)) (qword (crd ch t) (pinT_0 ch)) (kword (crd ch t) (pinT_1 ch))
    (scaledQ ch m ρ c t) M ⟨64 * h.val + i.val, by omega⟩
  rw [Finset.fold_congr (fun j _ => masked_eq ch m ρ c t h i j)] at hm
  have st := (H h i d).step 512 hm
  rw [maskedDen_at, maskedNum_at, Finset.sum_congr rfl (fun j _ => congrArg (wt · _) (masked_eq ch m ρ c t h i j)),
    Finset.sum_congr rfl (fun j _ => congrArg₂ (fun x y => wt x _ * y) (masked_eq ch m ρ c t h i j) ((keys_lat _ _ j d).trans (vals_eq ch m ρ c t j d)))]
  exact st

end Cert.Mla

end
-- ==== Proof.Carry.lean ====
/-
  After every point the four buffers hold the block's scaled queries and the three numbers of the keys read so far; a last
  point leaves its block of the result.  By induction along the grid.
-/
module

public import proofs.«01_k».proof.Proof.Outputs
public import proofs.«01_k».proof.Proof.Step

@[expose] public section

set_option maxRecDepth 16384

noncomputable section

namespace Cert.Mla

open Idealize.ShloMosaic Idealize.ShloMosaic.TcCoe Cert.KernelIdeal Cert.KernelIdeal.Gen Cert.Attn

variable (ch : Fin 1) (m : (ℓ : Loc nD τ sig) → Buf (Elt Ideal) ℓ) (ρ : Dev nD → PrngReg) (c : Dev nD)

/-- What is so after a point. -/
def After (t : Fin (cfgA ch).N) : Prop := ∃ (M L : FVec Ideal S1024x1 .f32) (A : FVec Ideal S1024x256 .f32),
  Holds c (scaledQ ch m ρ c t) M L A (traj0 ch m ρ c t.val t.isLt).2.1 (traj0 ch m ρ c t.val t.isLt).2.2.1
    (traj0 ch m ρ c t.val t.isLt).2.2.2.1 (traj0 ch m ρ c t.val t.isLt).2.2.2.2
  ∧ Carried ch m c t (512 * (kblk ch t % 8 + 1)) M L A
  ∧ (P0_1 ch t → (traj0 ch m ρ c t.val t.isLt).1 = result A L (iblk ch m ρ c (4 : Fin 6) t))

/-- The queries of a walk are those of the point before. -/
theorem scaledQ_before (t : Fin (cfgA ch).N) (q0 : ¬ P0_0 ch t) : scaledQ ch m ρ c (before ch t) = scaledQ ch m ρ c t := by
  have e := (goes_on ch t q0).2.2.1
  have e0 : latHead (iblk ch m ρ c (0 : Fin 6) (before ch t)) = latHead (iblk ch m ρ c (0 : Fin 6) t) := by
    funext h y
    refine (lat_block ch m ρ c _ _ _).trans ((lat_block ch m ρ c t _ _).trans ?_).symm
    simp only [e]
  have e1 : ropeHead (iblk ch m ρ c (1 : Fin 6) (before ch t)) = ropeHead (iblk ch m ρ c (1 : Fin 6) t) := by
    funext h y
    refine (rope_block ch m ρ c _ _ _).trans ((rope_block ch m ρ c t _ _).trans ?_).symm
    simp only [e]
  unfold scaledQ
  rw [e0, e1]

/-- So are its three numbers. -/
theorem carried_before (t : Fin (cfgA ch).N) (q0 : ¬ P0_0 ch t) {M L : FVec Ideal S1024x1 .f32} {A : FVec Ideal S1024x256 .f32}
    (H : Carried ch m c (before ch t) (512 * (kblk ch (before ch t) % 8 + 1)) M L A) : Carried ch m c t (512 * (kblk ch t % 8)) M L A := by
  have g := (goes_on ch t q0).2.2
  have sp := same_prompt ch t
  have sp' := same_prompt ch (before ch t)
  have ek : kblk ch (before ch t) % 8 + 1 = kblk ch t % 8 := by omega
  have ep : prompt ch (before ch t) = prompt ch t := Fin.ext (by simp only [prompt]; omega)
  intro h i d
  have eq : query ch (before ch t) i = query ch t i := Fin.ext (by simp only [query]; omega)
  have := H h i d
  rw [ek, ep, eq] at this
  exact this

theorem prev_eq (t : Fin (cfgA ch).N) (h : 0 < t.val) : prev0 ch m ρ c t = traj0 ch m ρ c (before ch t).val (before ch t).isLt := by
  unfold prev0
  rw [dif_neg (by omega)]
  rfl

/-- A point of each kind. -/
theorem after_start_last (t : Fin (cfgA ch).N) (q0 : P0_0 ch t) (q1 : P0_1 ch t) : After ch m ρ c t := by
  have H0 : Carried ch m c t (512 * (kblk ch t % 8)) (k0_pay2 (F := Ideal)) (k0_pay3 (F := Ideal)) (k0_pay4 (F := Ideal)) := by
    rw [first_block ch t q0]; exact carried_start ch m c t
  refine ⟨_, _, _, ?_, carried_masked ch m ρ c t H0, fun _ => ?_⟩
  · rw [traj0_eq, step0_A ch m ρ c t _ q0 q1]
    have r := leaves_A c (crd ch t) (ms0_0 ch t) (hs0_0 ch t) (ms0_1 ch t) (hs0_1 ch t) (ms0_2 ch t) (hs0_2 ch t) (ms0_3 ch t) (hs0_3 ch t) (ms0_4 ch t) (hs0_4 ch t)
      (ms0_5 ch t) (hs0_5 ch t) (pinT_0 ch) (pinT_1 ch) (pinT_2 ch) (pinT_3 ch) (iblk ch m ρ c (0 : Fin 6) t) (iblk ch m ρ c (1 : Fin 6) t)
      (iblk ch m ρ c (2 : Fin 6) t) (iblk ch m ρ c (3 : Fin 6) t) (iblk ch m ρ c (4 : Fin 6) t)
      (hypsR0_A ch t q0 q1).1 (hypsR0_A ch t q0 q1).2.1 (hypsR0_A ch t q0 q1).2.2.1 (hypsR0_A ch t q0 q1).2.2.2.1
    dsimp only at r ⊢
    exact r
  · rw [traj0_eq, step0_A ch m ρ c t _ q0 q1]
    have r := out_A c (crd ch t) (ms0_0 ch t) (hs0_0 ch t) (ms0_1 ch t) (hs0_1 ch t) (ms0_2 ch t) (hs0_2 ch t) (ms0_3 ch t) (hs0_3 ch t) (ms0_4 ch t) (hs0_4 ch t)
      (ms0_5 ch t) (hs0_5 ch t) (pinT_0 ch) (pinT_1 ch) (pinT_2 ch) (pinT_3 ch) (iblk ch m ρ c (0 : Fin 6) t) (iblk ch m ρ c (1 : Fin 6) t)
      (iblk ch m ρ c (2 : Fin 6) t) (iblk ch m ρ c (3 : Fin 6) t) (iblk ch m ρ c (4 : Fin 6) t)
      (hypsR0_A ch t q0 q1).1 (hypsR0_A ch t q0 q1).2.1 (hypsR0_A ch t q0 q1).2.2.1 (hypsR0_A ch t q0 q1).2.2.2.1
    dsimp only
    exact r

theorem after_start (t : Fin (cfgA ch).N) (q0 : P0_0 ch t) (q1 : ¬ P0_1 ch t) : After ch m ρ c t := by
  have H0 : Carried ch m c t (512 * (kblk ch t % 8)) (k0_pay2 (F := Ideal)) (k0_pay3 (F := Ideal)) (k0_pay4 (F := Ideal)) := by
    rw [first_block ch t q0]; exact carried_start ch m c t
  refine ⟨_, _, _, ?_, carried_seen ch m ρ c t (all_seen ch t q1) H0, fun h => absurd h q1⟩
  rw [traj0_eq, step0_B ch m ρ c t _ q0 q1]
  have r := leaves_B c (crd ch t) (ms0_0 ch t) (hs0_0 ch t) (ms0_1 ch t) (hs0_1 ch t) (ms0_2 ch t) (hs0_2 ch t) (ms0_3 ch t) (hs0_3 ch t) (ms0_4 ch t) (hs0_4 ch t)
      (ms0_5 ch t) (hs0_5 ch t) (pinT_0 ch) (pinT_1 ch) (pinT_2 ch) (pinT_3 ch) (iblk ch m ρ c (0 : Fin 6) t) (iblk ch m ρ c (1 : Fin 6) t)
      (iblk ch m ρ c (2 : Fin 6) t) (iblk ch m ρ c (3 : Fin 6) t) (iblk ch m ρ c (4 : Fin 6) t)
      (hypsR0_B ch t q0 q1).1 (hypsR0_B ch t q0 q1).2.1 (hypsR0_B ch t q0 q1).2.2.1 (hypsR0_B ch t q0 q1).2.2.2.1
  dsimp only at r ⊢
  exact r

theorem after_last (t : Fin (cfgA ch).N) (q0 : ¬ P0_0 ch t) (q1 : P0_1 ch t) (ih : After ch m ρ c (before ch t)) : After ch m ρ c t := by
  obtain ⟨M, L, A, hH, hC, _⟩ := ih
  rw [scaledQ_before ch m ρ c t q0, ← prev_eq ch m ρ c t (goes_on ch t q0).1] at hH
  refine ⟨_, _, _, ?_, carried_masked ch m ρ c t (carried_before ch m c t q0 hC), fun _ => ?_⟩
  · rw [traj0_eq, step0_C ch m ρ c t _ q0 q1]
    have r := leaves_C c (crd ch t) (ms0_0 ch t) (hs0_0 ch t) (ms0_1 ch t) (hs0_1 ch t) (ms0_2 ch t) (hs0_2 ch t) (ms0_3 ch t) (hs0_3 ch t) (ms0_4 ch t) (hs0_4 ch t)
      (ms0_5 ch t) (hs0_5 ch t) (pinT_0 ch) (pinT_1 ch) (pinT_2 ch) (pinT_3 ch) (iblk ch m ρ c (0 : Fin 6) t) (iblk ch m ρ c (1 : Fin 6) t)
      (iblk ch m ρ c (2 : Fin 6) t) (iblk ch m ρ c (3 : Fin 6) t) (iblk ch m ρ c (4 : Fin 6) t)
      (prev0 ch m ρ c t).2.1 (prev0 ch m ρ c t).2.2.1 (prev0 ch m ρ c t).2.2.2.1 (prev0 ch m ρ c t).2.2.2.2 hH
      (hypsR0_C ch t q0 q1).1 (hypsR0_C ch t q0 q1).2.1 (hypsR0_C ch t q0 q1).2.2.1 (hypsR0_C ch t q0 q1).2.2.2.1
    dsimp only at r ⊢
    exact r
  · rw [traj0_eq, step0_C ch m ρ c t _ q0 q1]
    have r := out_C c (crd ch t) (ms0_0 ch t) (hs0_0 ch t) (ms0_1 ch t) (hs0_1 ch t) (ms0_2 ch t) (hs0_2 ch t) (ms0_3 ch t) (hs0_3 ch t) (ms0_4 ch t) (hs0_4 ch t)
      (ms0_5 ch t) (hs0_5 ch t) (pinT_0 ch) (pinT_1 ch) (pinT_2 ch) (pinT_3 ch) (iblk ch m ρ c (0 : Fin 6) t) (iblk ch m ρ c (1 : Fin 6) t)
      (iblk ch m ρ c (2 : Fin 6) t) (iblk ch m ρ c (3 : Fin 6) t) (iblk ch m ρ c (4 : Fin 6) t)
      (prev0 ch m ρ c t).2.1 (prev0 ch m ρ c t).2.2.1 (prev0 ch m ρ c t).2.2.2.1 (prev0 ch m ρ c t).2.2.2.2 hH
      (hypsR0_C ch t q0 q1).1 (hypsR0_C ch t q0 q1).2.1 (hypsR0_C ch t q0 q1).2.2.1 (hypsR0_C ch t q0 q1).2.2.2.1
    dsimp only
    exact r

theorem after_middle (t : Fin (cfgA ch).N) (q0 : ¬ P0_0 ch t) (q1 : ¬ P0_1 ch t) (ih : After ch m ρ c (before ch t)) : After ch m ρ c t := by
  obtain ⟨M, L, A, hH, hC, _⟩ := ih
  rw [scaledQ_before ch m ρ c t q0, ← prev_eq ch m ρ c t (goes_on ch t q0).1] at hH
  refine ⟨_, _, _, ?_, carried_seen ch m ρ c t (all_seen ch t q1) (carried_before ch m c t q0 hC), fun h => absurd h q1⟩
  rw [traj0_eq, step0_D ch m ρ c t _ q0 q1]
  have r := leaves_D c (crd ch t) (ms0_0 ch t) (hs0_0 ch t) (ms0_1 ch t) (hs0_1 ch t) (ms0_2 ch t) (hs0_2 ch t) (ms0_3 ch t) (hs0_3 ch t) (ms0_4 ch t) (hs0_4 ch t)
      (ms0_5 ch t) (hs0_5 ch t) (pinT_0 ch) (pinT_1 ch) (pinT_2 ch) (pinT_3 ch) (iblk ch m ρ c (0 : Fin 6) t) (iblk ch m ρ c (1 : Fin 6) t)
      (iblk ch m ρ c (2 : Fin 6) t) (iblk ch m ρ c (3 : Fin 6) t) (iblk ch m ρ c (4 : Fin 6) t)
      (prev0 ch m ρ c t).2.1 (prev0 ch m ρ c t).2.2.1 (prev0 ch m ρ c t).2.2.2.1 (prev0 ch m ρ c t).2.2.2.2 hH
      (hypsR0_D ch t q0 q1).1 (hypsR0_D ch t q0 q1).2.1 (hypsR0_D ch t q0 q1).2.2.1 (hypsR0_D ch t q0 q1).2.2.2.1
  dsimp only at r ⊢
  exact r

theorem after_all : ∀ (n : ℕ) (hn : n < (cfgA ch).N), After ch m ρ c ⟨n, hn⟩ := by
  intro n
  induction n with
  | zero =>
    intro hn
    by_cases q0 : P0_0 ch ⟨0, hn⟩
    · by_cases q1 : P0_1 ch ⟨0, hn⟩
      · exact after_start_last ch m ρ c _ q0 q1
      · exact after_start ch m ρ c _ q0 q1
    · exact absurd (goes_on ch _ q0).1 (lt_irrefl 0)
  | succ n ih =>
    intro hn
    have hb : After ch m ρ c (before ch ⟨n + 1, hn⟩) := ih (by omega)
    by_cases q0 : P0_0 ch ⟨n + 1, hn⟩
    · by_cases q1 : P0_1 ch ⟨n + 1, hn⟩
      · exact after_start_last ch m ρ c _ q0 q1
      · exact after_start ch m ρ c _ q0 q1
    · by_cases q1 : P0_1 ch ⟨n + 1, hn⟩
      · exact after_last ch m ρ c _ q0 q1 hb
      · exact after_middle ch m ρ c _ q0 q1 hb

end Cert.Mla

end
-- ==== Proof.Normal.lean ====
/-
  Dividing once by the sum of the weights, as the kernel does after its last block of keys, or dividing every weight before
  the weighted sum, as a softmax does: the same where the row's greatest score is a real number.
-/
module

public import proofs.«01_k».proof.Proof.Softmax

@[expose] public section

noncomputable section

namespace Cert.Attn

open Idealize.ShloMosaic

theorem coe_sum {ι : Type*} (I : Finset ι) (f : ι → ℝ) : ((∑ i ∈ I, f i : ℝ) : EReal) = ∑ i ∈ I, (f i : EReal) := by
  classical
  induction I using Finset.induction_on with
  | empty => simp
  | insert i I hi ih => rw [Finset.sum_insert hi, Finset.sum_insert hi, EReal.coe_add, ih]

/-- The greatest of finitely many numbers is one of them. -/
theorem greatest_mem {N : ℕ} (hN : 0 < N) {s : ℕ → EReal} {M : EReal} (hM : IsLUB (upTo N s) M) : ∃ i < N, s i = M := by
  have hne : (upTo N s).Nonempty := ⟨s 0, 0, hN, rfl⟩
  have hfin : (upTo N s).Finite := (Set.finite_lt_nat N).image s
  have := hne.csSup_mem hfin
  rw [hM.sSup_eq] at this
  exact this

/-- The greatest score is real where the first is, and the others are real or masked. -/
theorem greatest_real {N : ℕ} (hN : 0 < N) {s : ℕ → EReal} {M : EReal} (hM : IsLUB (upTo N s) M)
    (hs : ∀ i, s i = ⊥ ∨ ∃ r : ℝ, s i = r) (h0 : ∃ r : ℝ, s 0 = r) : ∃ r : ℝ, M = r := by
  obtain ⟨i, _, hi⟩ := greatest_mem hN hM
  obtain ⟨r, h0⟩ := h0
  rcases hs i with h | ⟨x, h⟩
  · have : (r : EReal) ≤ ⊥ := by rw [← h0, ← h, hi]; exact hM.1 ⟨0, hN, rfl⟩
    exact absurd (le_bot_iff.1 this) (EReal.coe_ne_bot r)
  · exact ⟨x, by rw [← hi, h]⟩

/-- A weight is a real number, not a negative one. -/
theorem weight_real (M : ℝ) {x : EReal} (hx : x = ⊥ ∨ ∃ r : ℝ, x = r) : ∃ e : ℝ, 0 ≤ e ∧ Ideal.exp (x - M) = e := by
  rcases hx with rfl | ⟨r, rfl⟩
  · refine ⟨0, le_rfl, ?_⟩
    rw [sub_eq_add_neg, EReal.bot_add, Ideal.exp_bot, EReal.coe_zero]
  · refine ⟨Real.exp (r - M), (Real.exp_pos _).le, ?_⟩
    rw [← EReal.coe_sub, Ideal.exp_coe]

/-- The two orders of dividing. -/
theorem div_sum {N : ℕ} (hN : 0 < N) {s v : ℕ → EReal} {M : EReal} (hM : IsLUB (upTo N s) M)
    (hs : ∀ i, s i = ⊥ ∨ ∃ r : ℝ, s i = r) (h0 : ∃ r : ℝ, s 0 = r) :
    Ideal.div (∑ i ∈ Finset.range N, Ideal.exp (s i - M) * v i) (∑ i ∈ Finset.range N, Ideal.exp (s i - M))
      = ∑ i ∈ Finset.range N, v i * Ideal.div (Ideal.exp (s i - M)) (∑ j ∈ Finset.range N, Ideal.exp (s j - M)) := by
  obtain ⟨M, rfl⟩ := greatest_real hN hM hs h0
  choose e he0 he using fun i => weight_real M (hs i)
  have hpos : 0 < e 0 := by
    obtain ⟨r, h0⟩ := h0
    have h := he 0
    rw [h0, ← EReal.coe_sub, Ideal.exp_coe] at h
    rw [← EReal.coe_eq_coe_iff.1 h]
    exact Real.exp_pos _
  have hL : 0 < ∑ i ∈ Finset.range N, e i :=
    hpos.trans_le (Finset.single_le_sum (fun i _ => he0 i) (Finset.mem_range.2 hN))
  simp only [he]
  rw [← coe_sum, Ideal.div_coe hL.ne', sum_mul_of_nonneg _ _ (by exact_mod_cast (one_div_pos.2 hL).le) (EReal.coe_ne_top _)]
  refine Finset.sum_congr rfl fun i _ => ?_
  rw [Ideal.div_coe hL.ne', mul_comm (e i : EReal), mul_assoc]

/-- A row whose keys from `n` on are masked: what the three numbers of its first `n` keys give is the softmax of all. -/
theorem State.softmax {n N : ℕ} (hn : n ≤ N) (hN : 0 < N) {s v : ℕ → EReal} {m l a M : EReal}
    (h : State n (fun i => invLn2 * s i) v m l a) (hM : IsLUB (upTo N s) M) (hs : ∀ i, s i = ⊥ ∨ ∃ r : ℝ, s i = r)
    (h0 : ∃ r : ℝ, s 0 = r) (late : ∀ i, n ≤ i → s i = ⊥) :
    Ideal.div a l = ∑ i ∈ Finset.range N, v i * Ideal.div (Ideal.exp (s i - M)) (∑ j ∈ Finset.range N, Ideal.exp (s j - M)) := by
  have hM' : IsLUB (upTo n s) M := by
    constructor
    · rintro _ ⟨i, hi, rfl⟩
      exact hM.1 ⟨i, lt_of_lt_of_le hi hn, rfl⟩
    · intro b hb
      refine hM.2 ?_
      rintro _ ⟨i, hi, rfl⟩
      by_cases hin : i < n
      · exact hb ⟨i, hin, rfl⟩
      · rw [late i (by omega)]; exact bot_le
  have zero : ∀ i ∈ Finset.range N, i ∉ Finset.range n → Ideal.exp (s i - M) = 0 := fun i _ hi => by
    rw [late i (by simpa using hi), sub_eq_add_neg, EReal.bot_add, Ideal.exp_bot]
  obtain ⟨hl, ha⟩ := h.final hM'
  rw [hl, ha, Finset.sum_subset (Finset.range_mono hn) zero,
    Finset.sum_subset (Finset.range_mono hn) fun i hi hi' => by rw [zero i hi hi', zero_mul]]
  exact div_sum hN hM hs h0

end Cert.Attn

end
-- ==== Proof.RowValue.lean ====
/-
  With real queries and keys, the weighted sum of a whole row of keys over its sum of weights is the reference's weighted
  sum of the softmax.
-/
module

public import proofs.«01_k».proof.Proof.Normal
public import proofs.«01_k».proof.Proof.Step

@[expose] public section

set_option maxRecDepth 16384

noncomputable section

namespace Cert.Mla

open Idealize.ShloMosaic Idealize.ShloMosaic.TcCoe Cert.KernelIdeal Cert.KernelIdeal.Gen Cert.Attn

/-- An array of real numbers. -/
def Real' {s : Shape} (x : FVec Ideal s .f32) : Prop := ∀ i, ∃ r : ℝ, x i = (r : EReal)

theorem real_dot {n : ℕ} {a b : Fin n → EReal} (ha : ∀ i, ∃ r : ℝ, a i = r) (hb : ∀ i, ∃ r : ℝ, b i = r) : ∃ r : ℝ, ∑ i, a i * b i = r := by
  choose f hf using ha
  choose g hg using hb
  refine ⟨∑ i, f i * g i, ?_⟩
  rw [coe_sum]
  exact Finset.sum_congr rfl fun i _ => by rw [hf, hg, EReal.coe_mul]

theorem real_score {Q : FVec Ideal S8192x4096 .f32} {R : FVec Ideal S8192x1024 .f32} {C : FVec Ideal S8192x256 .f32} {K : FVec Ideal S8192x64 .f32}
    (hQ : Real' Q) (hR : Real' R) (hC : Real' C) (hK : Real' K) (b : Fin 2) (h : Fin 16) (p s : Fin 4096) : ∃ r : ℝ, score Q R C K b h p s = r := by
  obtain ⟨x, hx⟩ := real_dot (fun x : Fin 256 => hC (ix2 ⟨b.val * 4096 + s.val, by omega⟩ x)) (fun x : Fin 256 => hQ (ix2 ⟨b.val * 4096 + p.val, by omega⟩ ⟨h.val * 256 + x.val, by omega⟩))
  obtain ⟨y, hy⟩ := real_dot (fun x : Fin 64 => hK (ix2 ⟨b.val * 4096 + s.val, by omega⟩ x)) (fun x : Fin 64 => hR (ix2 ⟨b.val * 4096 + p.val, by omega⟩ ⟨h.val * 64 + x.val, by omega⟩))
  refine ⟨(x + y) * (Real.sqrt 192)⁻¹, ?_⟩
  unfold score
  rw [hx, hy, EReal.coe_mul, EReal.coe_add]

variable (m : (ℓ : Loc nD τ sig) → Buf (Elt Ideal) ℓ) (c : Dev nD)

theorem row_at (b : Fin 2) (h : Fin 16) (p s : Fin 4096) :
    row m c b h p s.val = SCORES (argQ m c) (argR m c) (argC m c) (argK m c) (ix4 b h p s) := by
  rw [row, dif_pos s.isLt]

theorem row_late (b : Fin 2) (h : Fin 16) (p : Fin 4096) (i : ℕ) (hi : p.val < i) : row m c b h p i = ⊥ := by
  unfold row
  by_cases h4 : i < 4096
  · rw [dif_pos h4, SCORES_at, if_neg (by simp only; omega)]
  · rw [dif_neg h4]

theorem row_real (hQ : Real' (argQ m c)) (hR : Real' (argR m c)) (hC : Real' (argC m c)) (hK : Real' (argK m c))
    (b : Fin 2) (h : Fin 16) (p : Fin 4096) (i : ℕ) (hi : i ≤ p.val) : ∃ r : ℝ, row m c b h p i = r := by
  rw [row, dif_pos (by omega), SCORES_at, if_pos hi]
  exact real_score hQ hR hC hK b h p _

theorem row_greatest (b : Fin 2) (h : Fin 16) (p : Fin 4096) :
    IsLUB (upTo 4096 (row m c b h p)) (GREATEST (SCORES (argQ m c) (argR m c) (argC m c) (argK m c)) (ix3 b h p)) := by
  have e : upTo 4096 (row m c b h p) = Set.range fun s : Fin 4096 => SCORES (argQ m c) (argR m c) (argC m c) (argK m c) (ix4 b h p s) := by
    ext x
    constructor
    · rintro ⟨i, hi, rfl⟩
      exact ⟨⟨i, hi⟩, (row_at m c b h p ⟨i, hi⟩).symm⟩
    · rintro ⟨s, rfl⟩
      exact ⟨s.val, s.isLt, row_at m c b h p s⟩
  rw [e, GREATEST_at]
  exact isLUB_fold _

/-- The row's weighted sum over its sum of weights. -/
theorem row_value (hQ : Real' (argQ m c)) (hR : Real' (argR m c)) (hC : Real' (argC m c)) (hK : Real' (argK m c))
    (b : Fin 2) (h : Fin 16) (p : Fin 4096) (d : Fin 256) {n : ℕ} (hn : p.val < n) (hn' : n ≤ 4096) {M l a : EReal}
    (H : State n (fun k => invLn2 * row m c b h p k) (vals m c b d) M l a) :
    Ideal.div a l = ∑ s : Fin 4096, argC m c (ix2 ⟨b.val * 4096 + s.val, by omega⟩ d)
      * WEIGHTS (SCORES (argQ m c) (argR m c) (argC m c) (argK m c)) (ix4 b h p s) := by
  rw [H.softmax hn' (by norm_num) (row_greatest m c b h p)
    (fun i => if hi : i ≤ p.val then Or.inr (row_real m c hQ hR hC hK b h p i hi) else Or.inl (row_late m c b h p i (by omega)))
    (row_real m c hQ hR hC hK b h p 0 (Nat.zero_le _)) (fun i hi => row_late m c b h p i (by omega)),
    Finset.sum_range]
  refine Finset.sum_congr rfl fun s _ => congrArg₂ (· * ·) ?_ ?_
  · rw [vals, dif_pos s.isLt]
  · rw [WEIGHTS_at, EXPS_at, row_at, Finset.sum_range]
    refine congrArg (Ideal.div _) (Finset.sum_congr rfl fun j _ => ?_)
    rw [EXPS_at, row_at]

end Cert.Mla

end
-- ==== Proof.Attention.lean ====
/-
  The result array of the latent attention kernel is the reference's: block by block at the last points, which cover it; and
  the run, read at it.
-/
module

public import proofs.«01_k».proof.Proof.Carry
public import proofs.«01_k».proof.Proof.RowValue
public import proofs.«01_k».proof.Proof.Launch

@[expose] public section

set_option maxRecDepth 16384

noncomputable section

namespace Cert.Mla

open Idealize.ShloMosaic Idealize.ShloMosaic.TcCoe Idealize.SL.Sem Cert.KernelIdeal Cert.KernelIdeal.Gen Cert.Attn
open Idealize.ShloMosaic.Pipeline (Dat)

attribute [local instance] Cert.Pre_causal_steps.Gen.facts Cert.Pre_finite_causal_steps.Gen.facts

/-- What the result array is shown to hold. -/
abbrev val (m : (ℓ : Loc nD τ sig) → Buf (Elt Ideal) ℓ) (c : Dev nD) : Buf (Elt Ideal) ((c : Thread nD τ).loc main_v0) :=
  REF (argQ m c) (argR m c) (argC m c) (argK m c) (argW m c)

/-- The queries and keys are real. -/
def Finite (m : (ℓ : Loc nD τ sig) → Buf (Elt Ideal) ℓ) : Prop :=
  ∀ c, Real' (argQ m c) ∧ Real' (argR m c) ∧ Real' (argC m c) ∧ Real' (argK m c)

variable (ch : Fin 1) (m : (ℓ : Loc nD τ sig) → Buf (Elt Ideal) ℓ) (ρ : Dev nD → PrngReg) (c : Dev nD)

/-- A last point's block of the result, at a head's column. -/
theorem block_head (hf : Finite m) (t : Fin (cfgA ch).N) (q1 : P0_1 ch t) (i : Fin 64) (h : Fin 16) (e : Fin 128) :
    (traj0 ch m ρ c t.val t.isLt).1 (ix2 i ⟨128 * h.val + e.val, by omega⟩)
      = REF (argQ m c) (argR m c) (argC m c) (argK m c) (argW m c)
          (ix2 ⟨(prompt ch t).val * 4096 + (query ch t i).val, by omega⟩ ⟨h.val * 128 + e.val, by omega⟩) := by
  have sp := same_prompt ch t
  have lb := last_block ch t q1
  obtain ⟨M, L, A, _, hC, hO⟩ : After ch m ρ c t := after_all ch m ρ c t.val t.isLt
  rw [hO q1, result_at, REF_at]
  refine Finset.sum_congr rfl fun d _ => ?_
  obtain ⟨hQ, hR, hCC, hK⟩ := hf c
  rw [row_value m c hQ hR hCC hK (prompt ch t) h (query ch t i) d (by simp only [query]; omega) (by omega) (hC h i d), values_block, mul_comm]
  refine congrArg (fun z => argW m c (ix2 d z) * _) (Fin.ext ?_)
  simp only; omega

theorem block_out (hf : Finite m) (t : Fin (cfgA ch).N) (q1 : P0_1 ch t) (i : Fin 64) (k : Fin 2048) :
    (traj0 ch m ρ c t.val t.isLt).1 (ix2 i k) = val m c (ix2 ⟨64 * qblk ch t + i.val, by have := (same_prompt ch t).1; omega⟩ k) := by
  have ek : k = ⟨128 * (⟨k.val / 128, by omega⟩ : Fin 16).val + (⟨k.val % 128, by omega⟩ : Fin 128).val, by simp only; omega⟩ := Fin.ext (by simp only; omega)
  have b := block_head ch m ρ c hf t q1 i ⟨k.val / 128, by omega⟩ ⟨k.val % 128, by omega⟩
  rw [← ek] at b
  refine b.trans (congrArg (val m c) ?_)
  have er : (⟨(prompt ch t).val * 4096 + (query ch t i).val, by omega⟩ : Fin 8192) = ⟨64 * qblk ch t + i.val, by have := (same_prompt ch t).1; omega⟩ :=
    Fin.ext (by simp only [prompt, query]; omega)
  have ec : (⟨(⟨k.val / 128, by omega⟩ : Fin 16).val * 128 + (⟨k.val % 128, by omega⟩ : Fin 128).val, by simp only; omega⟩ : Fin 2048) = k :=
    Fin.ext (by simp only; omega)
  rw [er, ec]

theorem read_out (t : Fin (cfgA ch).N) (i : Fin 64) (k : Fin 2048) :
    (((cfgA ch).win (5 : Fin 6)).blk t).view.read (Elt Ideal) (val m c) (ix2 i k)
      = val m c (ix2 ⟨64 * qblk ch t + i.val, by have := (same_prompt ch t).1; omega⟩ k) := by
  blk_ext [col5 ch t, idx5 ch t]

theorem flushed_eq (hf : Finite m) (t : Fin (cfgA ch).N) (q1 : P0_1 ch t) :
    (dats ch m ρ 0 c).flushed (5 : Fin 6) t = (((cfgA ch).win (5 : Fin 6)).blk t).view.read (Elt Ideal) (val m c) := by
  show ((cfgA ch).win (5 : Fin 6)).cut ((cfgA ch).grid.coords t) ((dats ch m ρ 0 c).after (5 : Fin 6) t) = _
  rw [after0_5]
  funext (y : S64x2048.Idx)
  obtain ⟨i, k, rfl⟩ : ∃ (i : Fin 64) (k : Fin 2048), y = ix2 i k := ⟨y 0, y 1, by funext a; fin_cases a <;> rfl⟩
  exact (block_out ch m ρ c hf t q1 i k).trans (read_out ch m c t i k).symm

/-- The last points' blocks cover the result. -/
theorem cover (i : S8192x2048.Idx) :
    ∃ t : Fin (cfgA ch).N, ((cfgA ch).win (5 : Fin 6)).flush t = true ∧ i ∈ (((cfgA ch).win (5 : Fin 6)).blk t).view.set := by
  have hi : (i 0).val < 8192 := (i 0).isLt
  obtain ⟨_, hq, hfl⟩ := last_of ch ⟨(i 0).val / 64, by omega⟩
  generalize lastPt ch ⟨(i 0).val / 64, by omega⟩ = t0 at hq hfl
  refine ⟨t0, hfl, ?_⟩
  show i ∈ ((View.whole main_v0).slice (((cfgA ch).win (5 : Fin 6)).rect t0)).set
  erw [View.set_slice_whole]
  refine (Pipeline.Window.mem_rect_iff ((cfgA ch).win (5 : Fin 6)) t0 i (by rfl)).mpr fun a => ?_
  have e : ∀ (ch : Fin 1) (t : Fin (cfgA ch).N), ((cfgA ch).win (5 : Fin 6)).size (0 : Fin 2) = 64
      ∧ ((cfgA ch).win (5 : Fin 6)).xsize ((cfgA ch).grid.coords t) (0 : Fin 2) = 64
      ∧ ((cfgA ch).win (5 : Fin 6)).xsize ((cfgA ch).grid.coords t) (1 : Fin 2) = 2048 := by
    decide +kernel
  obtain ⟨e0, x0, x1⟩ := e ch t0
  have c5 := col5 ch t0
  have i5 := (idx5 ch t0).trans hq
  match a with
  | (0 : Fin 2) =>
    rw [e0, x0, i5]
    show (i 0).val / 64 * 64 ≤ (i 0).val ∧ (i 0).val < (i 0).val / 64 * 64 + 64
    omega
  | (1 : Fin 2) =>
    rw [x1, c5, Nat.zero_mul, Nat.zero_add]
    exact ⟨Nat.zero_le _, (i 1).isLt⟩

theorem final_o (hf : Finite m) : (dats ch m ρ 0 c).arrAt (5 : Fin 6) (cfgA ch).N = val m c :=
  (dats ch m ρ 0 c).arrAt_eq_of_cover (5 : Fin 6) (val m c) (fun t h => flushed_eq ch m ρ c hf t (last_of_flush ch t h)) (cover ch)

/-- The run, read: the result array at the reference's value, the arguments unchanged. -/
theorem run (h : Pre_KernelIdeal_finite_causal_steps m) : θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  have hp := pinned_finite m h
  (θ_run defs _ _).mono (fun _ hr c => ⟨((hr c).1 (5 : Fin 6)).trans (final_o 0 m ρ c (finite m h)),
      ((hr c).2 0).trans (hp.1 c).symm, ((hr c).2 1).trans (hp.2.1 c).symm, ((hr c).2 2).trans (hp.2.2.1 c).symm, ((hr c).2 3).trans (hp.2.2.2 c).symm,
      ((hr c).1 (0 : Fin 6)).trans ((dats 0 m ρ 0 c).arrAt_in (0 : Fin 6) rfl _), ((hr c).1 (1 : Fin 6)).trans ((dats 0 m ρ 0 c).arrAt_in (1 : Fin 6) rfl _),
      ((hr c).1 (2 : Fin 6)).trans ((dats 0 m ρ 0 c).arrAt_in (2 : Fin 6) rfl _), ((hr c).1 (3 : Fin 6)).trans ((dats 0 m ρ 0 c).arrAt_in (3 : Fin 6) rfl _),
      ((hr c).1 (4 : Fin 6)).trans ((dats 0 m ρ 0 c).arrAt_in (4 : Fin 6) rfl _)⟩)
    (run_main 0 m ρ hp)

end Cert.Mla

end
-- ==== Proof.InProj.lean ====
/-
  The SSD in-projection: what the kernel's array of products holds after the run. The scratch holds the normalised
  rows of the current block of rows, written at the first column block and kept for the others; each point stores the
  product of that scratch with its block of columns.
-/
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.InProj

open Idealize.ShloMosaic Idealize.ShloMosaic.TcCoe

section
open Cert.Reference2Ideal Cert.Reference2Ideal.Gen

/-- The reference's products of the normalised rows with the columns kept, from the three arguments. -/
abbrev REF (X : FVec Ideal S2x4096x2048 .f32) (nw : FVec Ideal S2048 .f32)
    (W : FVec Ideal S2048x10304 .f32) : FVec Ideal S2x4096x10240 .f32 :=
  Host.dotGeneral dot_S2x4096x2048_S2048x10240_S2x4096x10240_2_0_01_1_n_n none
    (mulf (mulf X (broadcastInDim S2x4096x2048 ![0, 1, 2] bcast_S2x4096x1_S2x4096x2048_0_1_2
        (Host.rsqrt (addf (Host.divf (broadcastInDim S2x4096x1 ![0, 1] bcast_S2x4096_S2x4096x1_0_1
            (Host.reduceAdd (mulf X X) (constant S_ .f32 0x00000000#32) reducesTo_S2x4096x2048_S2x4096_d2 h_S_))
          (broadcastInDim S2x4096x1 ![] bcast_S_S2x4096x1 (constant S_ .f32 0x45000000#32)))
          (broadcastInDim S2x4096x1 ![] bcast_S_S2x4096x1 (constant S_ .f32 0x358637BD#32))))))
      (broadcastInDim S2x4096x2048 ![0, 1, 2] bcast_S1x1x2048_S2x4096x2048_0_1_2
        (broadcastInDim S1x1x2048 ![2] bcast_S2048_S1x1x2048_2 nw)))
    (extractStridedSlice S2048x10240 ![0, 0] W slices_S2048x10304_S2048x10240_0_0)

/-- The reference's value at an index: the row's product with the column, the row scaled by its root mean square. -/
theorem REF_at (X : FVec Ideal S2x4096x2048 .f32) (nw : FVec Ideal S2048 .f32) (W : FVec Ideal S2048x10304 .f32)
    (b : Fin 2) (l : Fin 4096) (n : Fin 10240) : REF X nw W (ix3 b l n)
      = ∑ x : Fin 2048, X (ix3 b l x) * Ideal.rsqrt (Ideal.div (∑ x : Fin 2048, X (ix3 b l x) * X (ix3 b l x)) (Ideal.ofBits FTy.f32 1157627904#32)
          + Ideal.ofBits FTy.f32 897988541#32) * nw (ix1 x) * W (ix2 x ⟨n.val, by omega⟩) := by
  pointwise [REF]

end

open Cert.Kernel2Ideal Cert.Kernel2Ideal.Gen

variable (m : (ℓ : Loc nD τ sig) → Buf (Elt Ideal) ℓ)

/-- The blocks' places: rows by `t / 20`, columns by `t % 20`. -/
theorem idx : ∀ t : Fin cfg0.N, win0_0.index t = ![t.val / 20, 0] ∧ win0_1.index t = ![0, 0]
    ∧ win0_2.index t = ![0, t.val % 20] ∧ win0_3.index t = ![t.val / 20, t.val % 20] ∧ t.val / 20 < 8 :=
  (by decide +kernel : ∀ t : Fin grid0.N, _)

/-- Two points of the same row block read the same rows. -/
theorem rows_eq (c : Dev nD) (s t : Fin cfg0.N) (h : s.val / 20 = t.val / 20) : iblk m c 0 s = iblk m c 0 t := by
  funext y
  have e : win0_0.index s = win0_0.index t := by rw [(idx s).1, (idx t).1, h]
  blk_ext [iblk, e]

/-- The row of weights is the same at every point. -/
theorem weights_eq (c : Dev nD) (s t : Fin cfg0.N) : iblk m c 1 s = iblk m c 1 t := by
  funext y
  have e : win0_1.index s = win0_1.index t := by rw [(idx s).2.1, (idx t).2.1]
  blk_ext [iblk, e]

/-- After every point the scratch holds the normalised rows of that point's row block. -/
theorem scratch_eq (c : Dev nD) : ∀ (n : ℕ) (hn : n < cfg0.N),
    (outsAt0 m c n hn).2 = k0_pay1 (iblk m c 0 ⟨n, hn⟩) (iblk m c 1 ⟨n, hn⟩) := by
  intro n
  induction n with
  | zero => intro hn; rw [outsAt0_A m c ⟨0, hn⟩ rfl]; frame_out
  | succ n ih =>
    intro hn
    by_cases h : (n + 1) % 20 = 0
    · rw [outsAt0_A m c ⟨n + 1, hn⟩ h]; frame_out
    · rw [outsAt0_B m c ⟨n + 1, hn⟩ h]
      refine (ih (Nat.lt_of_succ_lt hn)).trans ?_
      rw [rows_eq m c ⟨n, Nat.lt_of_succ_lt hn⟩ ⟨n + 1, hn⟩ (by dsimp only; omega),
        weights_eq m c ⟨n, Nat.lt_of_succ_lt hn⟩ ⟨n + 1, hn⟩]

/-- What every point leaves in the output's buffer: the product of the normalised rows with its columns. -/
theorem out_eq (c : Dev nD) (t : Fin cfg0.N) :
    (outsAt0 m c t.val t.isLt).1 = k0_pay2 (k0_pay1 (iblk m c 0 t) (iblk m c 1 t)) (iblk m c 2 t) := by
  by_cases h : t.val % 20 = 0
  · rw [outsAt0_A m c t h]; frame_out
  · rw [outsAt0_B m c t h]; frame_out
    rw [scratch_eq m c (t.val - 1),
      rows_eq m c ⟨t.val - 1, by omega⟩ t (by dsimp only; omega), weights_eq m c ⟨t.val - 1, by omega⟩ t]
    simp only [read_unread_whole]

/-- The same with the two batches' rows one after another. -/
abbrev REF2 (X : FVec Ideal Cert.Reference2Ideal.S2x4096x2048 .f32) (nw : FVec Ideal Cert.Reference2Ideal.S2048 .f32)
    (W : FVec Ideal Cert.Reference2Ideal.S2048x10304 .f32) : FVec Ideal S8192x10240 .f32 :=
  shapeCast S8192x10240 (REF X nw W) Cert.Reference2Ideal.Gen.shapeCasts_S2x4096x10240_S8192x10240

/-- The product a point stores, in terms of its blocks. -/
theorem pay_at (x : FVec Ideal S1024x2048 .f32) (w : FVec Ideal S1x2048 .f32) (v : FVec Ideal S2048x512 .bf16)
    (r : Fin 1024) (n : Fin 512) : k0_pay2 (k0_pay1 x w) v (ix2 r n)
      = ∑ d : Fin 2048, x (ix2 r d) * Ideal.rsqrt (Ideal.div (∑ d : Fin 2048, x (ix2 r d) * x (ix2 r d)) (Ideal.ofBits FTy.f32 1157627904#32)
          + Ideal.ofBits FTy.f32 897988541#32) * w (ix2 0 d) * v (ix2 d n) := by
  pointwise [k0_pay2, k0_pay1]

/-- The rows the region reads: the prompt's, the batches one after another. -/
theorem V_rows (c : Dev nD) : V m c main_v0
    = shapeCast S8192x2048 (m ((c : Thread nD τ).loc main_arg0)) shapeCasts_S2x4096x2048_S8192x2048 := by
  change StableHlo.after hostOps0 _ _ = _
  after_results
  rfl

/-- The weights the region reads. -/
theorem V_weights (c : Dev nD) : V m c main_v3
    = shapeCast S1x2048 (m ((c : Thread nD τ).loc main_arg1)) shapeCasts_S2048_S1x2048 := by
  change StableHlo.after hostOps0 _ _ = _
  after_results
  rfl

/-- The columns the region reads: the first 10240 of the matrix. -/
theorem V_cols (c : Dev nD) : V m c main_v2
    = truncf (F := Ideal) FTy.bf16 (extractStridedSlice S2048x10240 ![0, 0] (m ((c : Thread nD τ).loc main_arg2))
        slices_S2048x10304_S2048x10240_0_0) bitsLt_bf16_f32 := by
  change StableHlo.after hostOps0 _ _ = _
  after_results

/-- Laying the batches one after another moves the rows to these places. -/
theorem joined_at {φ : Type} {n : ℕ} (X : (⟨3, ![2, 4096, n]⟩ : Shape).Idx → φ) (h : (⟨3, ![2, 4096, n]⟩ : Shape).ShapeCasts ⟨2, ![8192, n]⟩)
    (R : Fin 8192) (d : Fin n) (b : Fin 2) (l : Fin 4096) (hR : R.val = 4096 * b.val + l.val) :
    shapeCast ⟨2, ![8192, n]⟩ X h (ix2 R d) = X (ix3 b l d) := by
  unfold shapeCast
  congr 1
  apply Shape.reshapeEquiv_eq_of_rowMajor
  rw [Shape.rowMajor_val_three, Shape.rowMajor_val_two]
  simp [hR, Nat.mul_comm b.val]

/-- The rows of a point's block. -/
theorem rows_at (c : Dev nD) (t : Fin cfg0.N) (r : Fin 1024) (d : Fin 2048) (b : Fin 2) (l : Fin 4096)
    (h : 1024 * (t.val / 20) + r.val = 4096 * b.val + l.val) :
    iblk m c 0 t (ix2 r d) = m ((c : Thread nD τ).loc main_arg0) (ix3 b l d) := by
  have e : iblk m c 0 t (ix2 r d) = V m c main_v0 (ix2 ⟨1024 * (t.val / 20) + r.val, by have := (idx t).2.2.2.2; omega⟩ d) := by
    blk_ext! [iblk, idx t]
  rw [e, V_rows m c]
  exact joined_at _ _ _ _ b l h

/-- The weights of a point's block. -/
theorem weights_at (c : Dev nD) (t : Fin cfg0.N) (d : Fin 2048) :
    iblk m c 1 t (ix2 0 d) = m ((c : Thread nD τ).loc main_arg1) (ix1 d) := by
  have e : iblk m c 1 t (ix2 0 d) = V m c main_v3 (ix2 0 d) := by
    blk_ext! [iblk, idx t]
  rw [e, V_weights m c]
  unfold shapeCast
  congr 1
  apply Shape.reshapeEquiv_eq_of_rowMajor
  refine (Shape.rowMajor_val_one (d := ![2048]) (ix1 d)).trans ((Shape.rowMajor_val_two (d := ![1, 2048]) (ix2 0 d)).trans ?_).symm
  simp

/-- The columns of a point's block. -/
theorem cols_at (c : Dev nD) (t : Fin cfg0.N) (d : Fin 2048) (n : Fin 512) (k : Fin 10304) (h : k.val = 512 * (t.val % 20) + n.val) :
    iblk m c 2 t (ix2 d n) = m ((c : Thread nD τ).loc main_arg2) (ix2 d k) := by
  have e : iblk m c 2 t (ix2 d n) = V m c main_v2 (ix2 d ⟨512 * (t.val % 20) + n.val, by omega⟩) := by
    blk_ext! [iblk, idx t]
  rw [e, V_cols m c]
  pointwise
  exact congrArg (fun k => m ((c : Thread nD τ).loc main_arg2) (ix2 d k)) (Fin.ext h.symm)

/-- What a point stores is the reference's array over that point's block. -/
theorem point (c : Dev nD) (t : Fin cfg0.N) (r : Fin 1024) (n : Fin 512) :
    k0_pay2 (k0_pay1 (iblk m c 0 t) (iblk m c 1 t)) (iblk m c 2 t) (ix2 r n)
      = REF2 (m ((c : Thread nD τ).loc main_arg0)) (m ((c : Thread nD τ).loc main_arg1)) (m ((c : Thread nD τ).loc main_arg2))
          (ix2 ⟨1024 * (t.val / 20) + r.val, by have := (idx t).2.2.2.2; omega⟩ ⟨512 * (t.val % 20) + n.val, by omega⟩) := by
  obtain ⟨b, l, h⟩ : ∃ (b : Fin 2) (l : Fin 4096), 1024 * (t.val / 20) + r.val = 4096 * b.val + l.val :=
    ⟨⟨(1024 * (t.val / 20) + r.val) / 4096, by have := (idx t).2.2.2.2; omega⟩, ⟨(1024 * (t.val / 20) + r.val) % 4096, by omega⟩, by dsimp only; omega⟩
  rw [pay_at]
  refine Eq.trans ?_ (joined_at _ _ _ _ b l h).symm
  rw [REF_at]
  simp only [rows_at m c t r _ b l h, weights_at m c t, cols_at m c t _ n ⟨512 * (t.val % 20) + n.val, by omega⟩ rfl]

/-- The kernel's array after the run. -/
theorem final (c : Dev nD) : (dats m 0 c).arrAt 3 (cfgs 0).N
    = REF2 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out_eq m c t]
  obtain ⟨r, n, rfl⟩ : ∃ (r : Fin 1024) (n : Fin 512), y = ix2 r n := ⟨y 0, y 1, eq_ix2 y⟩
  refine (point m c t r n).trans ?_
  symm
  blk_ext! [idx t]

/-- The rows of the state before the convolution: the last three positions, the columns after the gate's. -/
abbrev LAST (X : FVec Ideal Cert.Reference2Ideal.S2x4096x2048 .f32) (nw : FVec Ideal Cert.Reference2Ideal.S2048 .f32)
    (W : FVec Ideal Cert.Reference2Ideal.S2048x10304 .f32) : FVec Ideal S2x3x6144 .f32 :=
  extractStridedSlice S2x3x6144 ![0, 4093, 4096] (REF X nw W) slices_S2x4096x10240_S2x3x6144_0_4093_4096

/-- The operations after the region leave the reference's last rows. -/
theorem last (c : Dev nD) : Pipeline.afterTail₀ cfgs (dats m) 0 (V0 m) [hostOps1] c main_v6
    = LAST (m ((c : Thread nD τ).loc main_arg0)) (m ((c : Thread nD τ).loc main_arg1)) (m ((c : Thread nD τ).loc main_arg2)) := by
  unfold Pipeline.afterTail₀
  change StableHlo.after hostOps1 _ _ = _
  after_results
  have e : Pipeline.withArrays (cfgs 0).spec c (V0 m c) (fun w => (dats m 0 c).arrAt w (cfgs 0).N) (Proc.tc.devRef main_v4) = _ :=
    (Pipeline.withArrays_arr (cfgs 0).spec (by decide) c (V0 m c) (fun w => (dats m 0 c).arrAt w (cfgs 0).N) 3).trans (final m c)
  rw [e]
  unfold LAST
  congr 1
  exact shapeCast_shapeCast (REF _ _ _) _ _

/-- The kernel's program, run: its two results are the reference's, and the arguments end as they were. -/
theorem run (ρ : Dev nD → PrngReg) : θ_run defs (onTc (τ := τ) (main (F := Ideal))) ⟨m, fun _ => 0, ρ⟩ (fun r => ∀ c : Dev nD,
      r.2.mem ((c : Thread nD τ).loc main_v4)
        = REF2 (m ((c : Thread nD τ).loc main_arg0)) (m ((c : Thread nD τ).loc main_arg1)) (m ((c : Thread nD τ).loc main_arg2))
      ∧ r.2.mem ((c : Thread nD τ).loc main_v6)
        = LAST (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h.2 c).1 3).trans (final m c),
      ((h.2 c).2 main_v6 (Pipeline.mem_restRefs_of main_v6 (by decide) (by decide))).trans (last m c), h.1 c⟩)
    (θ_run_and (unchanged m ρ) (run_main m ρ))

end Cert.InProj

end
-- ==== Proof.Rows.lean ====
/-
  What the proofs of the projections share: a vector laid out as one row, a square root of a mean of squares, and a sum
  over the columns of a row taken 512 columns at a time.
-/
module

public import Idealize.ShloMosaic.Lib.Pipeline.ValueKit
public import Idealize.ShloMosaic.PureOps.Ideal

@[expose] public section

noncomputable section

namespace Cert.Rows

open Idealize.ShloMosaic

/-- A vector laid out as one row is read at the column. -/
theorem asRow_at {φ : Type} {n : ℕ} (x : (⟨1, ![n]⟩ : Shape).Idx → φ) (h : (⟨1, ![n]⟩ : Shape).ShapeCasts ⟨2, ![1, n]⟩) (d : Fin n) :
    shapeCast ⟨2, ![1, n]⟩ x h (ix2 0 d) = x (ix1 d) := by
  unfold shapeCast
  congr 1
  apply Shape.reshapeEquiv_eq_of_rowMajor
  refine (Shape.rowMajor_val_one (d := ![n]) (ix1 d)).trans ((Shape.rowMajor_val_two (d := ![1, n]) (ix2 0 d)).trans ?_).symm
  simp

/-- The factor that scales a row of 2048 columns to root mean square one: the words are 2048 and the epsilon 1e-6. -/
def scale (x : Fin 2048 → EReal) : EReal :=
  Ideal.rsqrt (Ideal.div (∑ d : Fin 2048, x d * x d) (Ideal.ofBits FTy.f32 1157627904#32) + Ideal.ofBits FTy.f32 897988541#32)

/-- An entry times the sigmoid-weighted unit of its gate. -/
def gated (a g : EReal) : EReal := a * (g * Ideal.logistic g)

/-- The terms of a product's entry: a row's entries times a column's. -/
def terms {M K N : ℕ} (A : (⟨2, ![M, K]⟩ : Shape).Idx → EReal) (W : (⟨2, ![K, N]⟩ : Shape).Idx → EReal) (R : Fin M) (n : Fin N)
    (k : Fin K) : EReal := A (ix2 R k) * W (ix2 k n)

/-- The entry at a number, zero beyond the last. -/
def entry {K : ℕ} (f : Fin K → EReal) (k : ℕ) : EReal := if h : k < K then f ⟨k, h⟩ else 0

/-- The sum of the first `k` entries. -/
def upto {K : ℕ} (f : Fin K → EReal) (k : ℕ) : EReal := ∑ i ∈ Finset.range k, entry f i

/-- The first block's sum. -/
theorem upto_first {K : ℕ} (f : Fin K → EReal) (b : Fin 512 → EReal) (hK : 512 ≤ K) (hb : ∀ d : Fin 512, b d = f ⟨d.val, by omega⟩) :
    upto f 512 = ∑ d, b d := by
  unfold upto
  rw [← Fin.sum_univ_eq_sum_range]
  refine Finset.sum_congr rfl fun d _ => ?_
  rw [hb d, entry, dif_pos]

/-- A further block's sum, added to what is before it. -/
theorem upto_next {K : ℕ} (f : Fin K → EReal) (b : Fin 512 → EReal) (k : ℕ) (hK : k + 512 ≤ K)
    (hb : ∀ d : Fin 512, b d = f ⟨k + d.val, by omega⟩) : upto f (k + 512) = upto f k + ∑ d, b d := by
  unfold upto
  rw [Finset.sum_range_add]
  congr 1
  rw [← Fin.sum_univ_eq_sum_range (fun i => entry f (k + i))]
  refine Finset.sum_congr rfl fun d _ => ?_
  rw [hb d, entry, dif_pos]

/-- All the blocks' sum. -/
theorem upto_all {K : ℕ} (f : Fin K → EReal) : upto f K = ∑ d, f d := by
  unfold upto
  rw [← Fin.sum_univ_eq_sum_range]
  refine Finset.sum_congr rfl fun d _ => ?_
  rw [entry, dif_pos d.isLt]

end Cert.Rows

end
-- ==== Proof.OutProj.lean ====
/-
  The SSD out-projection: what the kernel's array holds after the run. The scratch gathers the product of a block of rows
  with the matrix, 512 of its columns at a time; the eighth point scales the finished rows and adds the layer's input.
-/
module

public import proofs.«01_k».proof.Proof.Gen.Kernel3Ideal.Frame
public import proofs.«01_k».proof.Proof.Gen.Reference3Ideal.Run
public import proofs.«01_k».proof.Proof.Rows
public import Idealize.ShloMosaic.Lib.Pipeline.ReadBack
public import Idealize.ShloMosaic.Lib.Claim

@[expose] public section

set_option maxRecDepth 16384

noncomputable section

namespace Cert.OutProj

open Idealize.ShloMosaic Idealize.ShloMosaic.TcCoe Cert.Rows

section
open Cert.Reference3Ideal Cert.Reference3Ideal.Gen

/-- The product of the rows with the matrix. -/
abbrev PROD (A : FVec Ideal S8192x4096 .bf16) (W : FVec Ideal S4096x2048 .f32) : FVec Ideal S8192x2048 .f32 :=
  Host.dotGeneral dot_S8192x4096_S4096x2048_S8192x2048_1_0_0_1_n_n none (extf .f32 A bitsLt_bf16_f32) W

/-- The reference's result: the products scaled row by row, weighted, and added to the layer's input. -/
abbrev REF (A : FVec Ideal S8192x4096 .bf16) (W : FVec Ideal S4096x2048 .f32) (X : FVec Ideal S8192x2048 .f32)
    (pw : FVec Ideal S2048 .f32) : FVec Ideal S8192x2048 .f32 :=
  addf X (mulf (mulf (PROD A W) (broadcastInDim S8192x2048 ![0, 1] bcast_S8192x1_S8192x2048_0_1
      (Host.rsqrt (addf (Host.divf (broadcastInDim S8192x1 ![0] bcast_S8192_S8192x1_0
          (Host.reduceAdd (mulf (PROD A W) (PROD A W)) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 pw)))

/-- A product's entry. -/
theorem PROD_at (A : FVec Ideal S8192x4096 .bf16) (W : FVec Ideal S4096x2048 .f32) (R : Fin 8192) (n : Fin 2048) :
    PROD A W (ix2 R n) = ∑ k : Fin 4096, terms A W R n k := by
  unfold terms
  pointwise [PROD]

/-- The reference's result at an index. -/
theorem REF_at (A : FVec Ideal S8192x4096 .bf16) (W : FVec Ideal S4096x2048 .f32) (X : FVec Ideal S8192x2048 .f32)
    (pw : FVec Ideal S2048 .f32) (R : Fin 8192) (n : Fin 2048) :
    REF A W X pw (ix2 R n) = X (ix2 R n) + PROD A W (ix2 R n) * scale (fun d => PROD A W (ix2 R d)) * pw (ix1 n) := by
  unfold REF scale
  generalize PROD A W = Y
  pointwise

end

open Cert.Kernel3Ideal Cert.Kernel3Ideal.Gen

variable (m : (ℓ : Loc nD τ sig) → Buf (Elt Ideal) ℓ)

/-- The blocks' places: rows by `t / 8`, the columns of the product by `t % 8`. -/
theorem idx : ∀ t : Fin cfg0.N, win0_0.index t = ![t.val / 8, t.val % 8] ∧ win0_1.index t = ![t.val % 8, 0]
    ∧ win0_2.index t = ![t.val / 8, 0] ∧ win0_3.index t = ![0, 0] ∧ win0_4.index t = ![t.val / 8, 0] ∧ t.val / 8 < 16 :=
  (by decide +kernel : ∀ t : Fin grid0.N, _)

/-- The output's block is written back at the last point of its rows only. -/
theorem flush_last : ∀ t : Fin cfg0.N, (cfg0.win 4).flush t = true → t.val % 8 = 7 := by decide +kernel

/-- The matrix the region reads. -/
theorem V_mat (c : Dev nD) : V m c main_v0 = truncf (F := Ideal) FTy.bf16 (m ((c : Thread nD τ).loc main_arg1)) bitsLt_bf16_f32 := by
  change StableHlo.after hostOps0 _ _ = _
  after_results

/-- The weights the region reads. -/
theorem V_weights (c : Dev nD) : V m c main_v1 = shapeCast S1x2048 (m ((c : Thread nD τ).loc main_arg3)) shapeCasts_S2048_S1x2048 := by
  change StableHlo.after hostOps0 _ _ = _
  after_results
  rfl

/-- The rows of a point's block. -/
theorem rows_at (c : Dev nD) (t : Fin cfg0.N) (r d : Fin 512) (R : Fin 8192) (hR : R.val = 512 * (t.val / 8) + r.val)
    (k : Fin 4096) (hk : k.val = 512 * (t.val % 8) + d.val) :
    iblk m c 0 t (ix2 r d) = m ((c : Thread nD τ).loc main_arg0) (ix2 R k) := by
  blk_ext! [iblk, V, idx t]

/-- The rows of the matrix in a point's block. -/
theorem mat_at (c : Dev nD) (t : Fin cfg0.N) (d : Fin 512) (n : Fin 2048) (k : Fin 4096) (hk : k.val = 512 * (t.val % 8) + d.val) :
    iblk m c 1 t (ix2 d n) = m ((c : Thread nD τ).loc main_arg1) (ix2 k n) := by
  have e : iblk m c 1 t (ix2 d n) = V m c main_v0 (ix2 k n) := by
    blk_ext! [iblk, idx t]
  rw [e, V_mat m c]
  rfl

/-- The layer's input in a point's block. -/
theorem input_at (c : Dev nD) (t : Fin cfg0.N) (r : Fin 512) (n : Fin 2048) (R : Fin 8192) (hR : R.val = 512 * (t.val / 8) + r.val) :
    iblk m c 2 t (ix2 r n) = m ((c : Thread nD τ).loc main_arg2) (ix2 R n) := by
  blk_ext! [iblk, V, idx t]

/-- The weights in a point's block. -/
theorem weights_at (c : Dev nD) (t : Fin cfg0.N) (n : Fin 2048) :
    iblk m c 3 t (ix2 0 n) = m ((c : Thread nD τ).loc main_arg3) (ix1 n) := by
  have e : iblk m c 3 t (ix2 0 n) = V m c main_v1 (ix2 0 n) := by
    blk_ext! [iblk, idx t]
  rw [e, V_weights m c]
  exact asRow_at _ _ n

/-- The first point's share of the product. -/
theorem pay2_at (x : FVec Ideal S512x512 .bf16) (w : FVec Ideal S512x2048 .bf16) (r : Fin 512) (n : Fin 2048) :
    k0_pay2 (F := Ideal) x w (ix2 r n) = ∑ d : Fin 512, terms x w r n d := by
  unfold terms
  pointwise [k0_pay2, k0_pay1]

/-- A later point's share, added to what is there. -/
theorem pay3_at (x : FVec Ideal S512x512 .bf16) (w : FVec Ideal S512x2048 .bf16) (y : FVec Ideal S512x2048 .f32) (r : Fin 512) (n : Fin 2048) :
    k0_pay3 x w y (ix2 r n) = y (ix2 r n) + ∑ d : Fin 512, terms x w r n d := by
  unfold terms
  pointwise [k0_pay3, k0_pay1]

/-- The finished rows. -/
theorem pay4_at (y x : FVec Ideal S512x2048 .f32) (w : FVec Ideal S1x2048 .f32) (r : Fin 512) (n : Fin 2048) :
    k0_pay4 y x w (ix2 r n) = x (ix2 r n) + y (ix2 r n) * scale (fun d => y (ix2 r d)) * w (ix2 0 n) := by
  unfold scale
  pointwise [k0_pay4]

/-- The terms of a product's entry over the kernel's arguments. -/
abbrev argTerms (c : Dev nD) (R : Fin 8192) (n : Fin 2048) : Fin 4096 → EReal :=
  terms (m ((c : Thread nD τ).loc main_arg0)) (m ((c : Thread nD τ).loc main_arg1)) R n

/-- A point's share of an entry is the terms of its columns. -/
theorem share_at (c : Dev nD) (t : Fin cfg0.N) (r : Fin 512) (n : Fin 2048) (R : Fin 8192) (hR : R.val = 512 * (t.val / 8) + r.val)
    (d : Fin 512) : terms (M := 512) (K := 512) (N := 2048) (iblk m c 0 t) (iblk m c 1 t) r n d = argTerms m c R n ⟨512 * (t.val % 8) + d.val, by omega⟩ := by
  unfold argTerms terms
  rw [rows_at m c t r d R hR ⟨512 * (t.val % 8) + d.val, by omega⟩ rfl, mat_at m c t d n ⟨512 * (t.val % 8) + d.val, by omega⟩ rfl]

/-- After every point the scratch holds the products over the columns seen so far. -/
theorem scratch_at (c : Dev nD) (r : Fin 512) (n : Fin 2048) : ∀ (t : ℕ) (ht : t < cfg0.N) (R : Fin 8192), R.val = 512 * (t / 8) + r.val →
    (outsAt0 m c t ht).2 (ix2 r n) = upto (argTerms m c R n) (512 * (t % 8) + 512) := by
  intro t
  induction t with
  | zero =>
    intro ht R hR
    rw [outsAt0_A m c ⟨0, ht⟩ rfl (by dsimp only; omega) (by dsimp only; omega)]
    frame_out
    rw [pay2_at]
    exact (upto_first _ _ (by omega) fun d => (share_at m c ⟨0, ht⟩ r n R hR d).trans (congrArg _ (Fin.ext (by simp)))).symm
  | succ t ih =>
    intro ht R hR
    have hN : t + 1 < 128 := lt_of_lt_of_eq ht (show cfg0.N = 128 from N_0)
    by_cases h0 : (t + 1) % 8 = 0
    · rw [outsAt0_A m c ⟨t + 1, ht⟩ h0 (by dsimp only; omega) (by dsimp only; omega)]
      frame_out
      rw [pay2_at, h0]
      exact (upto_first _ _ (by omega) fun d => (share_at m c ⟨t + 1, ht⟩ r n R hR d).trans (congrArg _ (Fin.ext (by simp [h0])))).symm
    · have e : 512 * ((t + 1) % 8) + 512 = 512 * (t % 8) + 512 + 512 := by omega
      have next : k0_pay3 (iblk m c 0 ⟨t + 1, ht⟩) (iblk m c 1 ⟨t + 1, ht⟩) (outsAt0 m c t (by omega)).2 (ix2 r n)
          = upto (argTerms m c R n) (512 * ((t + 1) % 8) + 512) := by
        rw [pay3_at, ih (by omega) R (by omega), e]
        exact (upto_next _ _ _ (by omega) fun d => (share_at m c ⟨t + 1, ht⟩ r n R hR d).trans
          (congrArg _ (Fin.ext (by dsimp only; omega)))).symm
      by_cases h2 : (t + 1) % 8 = 7
      · rw [outsAt0_C m c ⟨t + 1, ht⟩ h0 (by dsimp only; omega) h2]
        frame_out
        simp only [read_unread_whole]
        exact next
      · rw [outsAt0_B m c ⟨t + 1, ht⟩ h0 (by dsimp only; omega) h2]
        frame_out
        simp only [read_unread_whole]
        exact next

/-- At the last point of its rows the output is the finished rows of the scratch. -/
theorem out_eq (c : Dev nD) (t : Fin cfg0.N) (h : t.val % 8 = 7) : (outsAt0 m c t.val t.isLt).1
    = k0_pay4 (outsAt0 m c t.val t.isLt).2 (iblk m c 2 t) (iblk m c 3 t) := by
  rw [outsAt0_C m c t (by omega) (by omega) h]
  frame_out

/-- The scratch after the last point of its rows holds the products. -/
theorem product_at (c : Dev nD) (t : Fin cfg0.N) (h : t.val % 8 = 7) (r : Fin 512) (n : Fin 2048) (R : Fin 8192)
    (hR : R.val = 512 * (t.val / 8) + r.val) : (outsAt0 m c t.val t.isLt).2 (ix2 r n)
    = PROD (m ((c : Thread nD τ).loc main_arg0)) (m ((c : Thread nD τ).loc main_arg1)) (ix2 R n) := by
  rw [scratch_at m c r n t.val t.isLt R hR, h, PROD_at]
  exact upto_all _

/-- The reference's result over the kernel's arguments. -/
abbrev REF3 (c : Dev nD) : FVec Ideal S8192x2048 .f32 :=
  REF (m ((c : Thread nD τ).loc main_arg0)) (m ((c : Thread nD τ).loc main_arg1)) (m ((c : Thread nD τ).loc main_arg2))
    (m ((c : Thread nD τ).loc main_arg3))

/-- What is written back is the reference's result, entry by entry. -/
theorem point (c : Dev nD) (t : Fin cfg0.N) (h : t.val % 8 = 7) (r : Fin 512) (n : Fin 2048) (R : Fin 8192)
    (hR : R.val = 512 * (t.val / 8) + r.val) :
    k0_pay4 (outsAt0 m c t.val t.isLt).2 (iblk m c 2 t) (iblk m c 3 t) (ix2 r n) = REF3 m c (ix2 R n) := by
  rw [pay4_at, REF3, REF_at, input_at m c t r n R hR, weights_at m c t n]
  simp only [fun d => product_at m c t h r d R hR]

/-- The output's array after the run. -/
theorem final (c : Dev nD) : (dats m 0 c).arrAt 4 (cfgs 0).N = REF3 m c := by
  refine (dats m 0 c).arrAt_eq_of_covers 4 _ (by decide +kernel) fun t hf y => ?_
  have h := flush_last t hf
  blk_simp
  rw [after0_4, out_eq m c t h]
  obtain ⟨r, n, rfl⟩ : ∃ (r : Fin 512) (n : Fin 2048), y = ix2 r n := ⟨y 0, y 1, eq_ix2 y⟩
  have := (idx t).2.2.2.2.2
  refine (point m c t h r n ⟨512 * (t.val / 8) + r.val, by omega⟩ rfl).trans ?_
  symm
  blk_ext! [idx t]

/-- The kernel's run: the result is the reference's, the arguments are as they were. -/
theorem run (ρ) : θ_run defs (onTc (τ := τ) (main (F := Ideal))) ⟨m, fun _ => 0, ρ⟩ (fun r => ∀ c : Dev nD,
    r.2.mem ((c : Thread nD τ).loc main_v2) = REF3 m c ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun _ h c => ⟨((h.2 c).1 4).trans (final m c), h.1 c⟩) (θ_run_and (unchanged m ρ) (run_main m ρ))

end Cert.OutProj

end
-- ==== Proof.SbIn.lean ====
/-
  The in-projection of the stick-breaking layer: what the kernel's array of products holds after the run. The scratch holds the normalised
  rows of the current block of rows, written at the first column block and kept for the others; each point stores the
  product of that scratch with its block of columns.
-/
module

public import proofs.«01_k».proof.Proof.Gen.Kernel4Ideal.Frame
public import proofs.«01_k».proof.Proof.Gen.Reference4Ideal.Run
public import proofs.«01_k».proof.Proof.Rows
public import Idealize.ShloMosaic.Lib.Pipeline.ReadBack
public import Idealize.ShloMosaic.Lib.Claim

@[expose] public section

set_option maxRecDepth 16384

noncomputable section

namespace Cert.SbIn

open Idealize.ShloMosaic Idealize.ShloMosaic.TcCoe Cert.Rows

section
open Cert.Reference4Ideal Cert.Reference4Ideal.Gen

/-- The reference's products of the normalised rows with the columns, from the three arguments. -/
abbrev REF (X : FVec Ideal S8192x2048 .f32) (nw : FVec Ideal S2048 .f32)
    (W : FVec Ideal S2048x5120 .f32) : FVec Ideal S8192x5120 .f32 :=
  Host.dotGeneral dot_S8192x2048_S2048x5120_S8192x5120_1_0_0_1_n_n none
    (mulf (mulf X (broadcastInDim S8192x2048 ![0, 1] bcast_S8192x1_S8192x2048_0_1
        (Host.rsqrt (addf (Host.divf (broadcastInDim S8192x1 ![0] bcast_S8192_S8192x1_0
            (Host.reduceAdd (mulf X X) (constant S_ .f32 0x00000000#32) reducesTo_S8192x2048_S8192_d1 h_S_))
          (broadcastInDim S8192x1 ![] bcast_S_S8192x1 (constant S_ .f32 0x45000000#32)))
          (broadcastInDim S8192x1 ![] bcast_S_S8192x1 (constant S_ .f32 0x358637BD#32))))))
      (broadcastInDim S8192x2048 ![0, 1] bcast_S1x2048_S8192x2048_0_1
        (broadcastInDim S1x2048 ![1] bcast_S2048_S1x2048_1 nw)))
    W

/-- The reference's value at an index: the row's product with the column, the row scaled by its root mean square. -/
theorem REF_at (X : FVec Ideal S8192x2048 .f32) (nw : FVec Ideal S2048 .f32) (W : FVec Ideal S2048x5120 .f32)
    (R : Fin 8192) (n : Fin 5120) : REF X nw W (ix2 R n)
      = ∑ d : Fin 2048, X (ix2 R d) * scale (fun d => X (ix2 R d)) * nw (ix1 d) * W (ix2 d n) := by
  unfold scale
  pointwise [REF]

end

open Cert.Kernel4Ideal Cert.Kernel4Ideal.Gen

variable (m : (ℓ : Loc nD τ sig) → Buf (Elt Ideal) ℓ)

/-- The blocks' places: rows by `t / 10`, columns by `t % 10`. -/
theorem idx : ∀ t : Fin cfg0.N, win0_0.index t = ![t.val / 10, 0] ∧ win0_1.index t = ![0, 0]
    ∧ win0_2.index t = ![0, t.val % 10] ∧ win0_3.index t = ![t.val / 10, t.val % 10] ∧ t.val / 10 < 8 :=
  (by decide +kernel : ∀ t : Fin grid0.N, _)

/-- Two points of the same row block read the same rows. -/
theorem rows_eq (c : Dev nD) (s t : Fin cfg0.N) (h : s.val / 10 = t.val / 10) : iblk m c 0 s = iblk m c 0 t := by
  funext y
  have e : win0_0.index s = win0_0.index t := by rw [(idx s).1, (idx t).1, h]
  blk_ext [iblk, e]

/-- The row of weights is the same at every point. -/
theorem weights_eq (c : Dev nD) (s t : Fin cfg0.N) : iblk m c 1 s = iblk m c 1 t := by
  funext y
  have e : win0_1.index s = win0_1.index t := by rw [(idx s).2.1, (idx t).2.1]
  blk_ext [iblk, e]

/-- After every point the scratch holds the normalised rows of that point's row block. -/
theorem scratch_eq (c : Dev nD) : ∀ (n : ℕ) (hn : n < cfg0.N),
    (outsAt0 m c n hn).2 = k0_pay1 (iblk m c 0 ⟨n, hn⟩) (iblk m c 1 ⟨n, hn⟩) := by
  intro n
  induction n with
  | zero => intro hn; rw [outsAt0_A m c ⟨0, hn⟩ rfl]; frame_out
  | succ n ih =>
    intro hn
    by_cases h : (n + 1) % 10 = 0
    · rw [outsAt0_A m c ⟨n + 1, hn⟩ h]; frame_out
    · rw [outsAt0_B m c ⟨n + 1, hn⟩ h]
      refine (ih (Nat.lt_of_succ_lt hn)).trans ?_
      rw [rows_eq m c ⟨n, Nat.lt_of_succ_lt hn⟩ ⟨n + 1, hn⟩ (by dsimp only; omega),
        weights_eq m c ⟨n, Nat.lt_of_succ_lt hn⟩ ⟨n + 1, hn⟩]

/-- What every point leaves in the output's buffer: the product of the normalised rows with its columns. -/
theorem out_eq (c : Dev nD) (t : Fin cfg0.N) :
    (outsAt0 m c t.val t.isLt).1 = k0_pay2 (k0_pay1 (iblk m c 0 t) (iblk m c 1 t)) (iblk m c 2 t) := by
  by_cases h : t.val % 10 = 0
  · rw [outsAt0_A m c t h]; frame_out
  · rw [outsAt0_B m c t h]; frame_out
    rw [scratch_eq m c (t.val - 1),
      rows_eq m c ⟨t.val - 1, by omega⟩ t (by dsimp only; omega), weights_eq m c ⟨t.val - 1, by omega⟩ t]
    simp only [read_unread_whole]

/-- The product a point stores, in terms of its blocks. -/
theorem pay_at (x : FVec Ideal S1024x2048 .f32) (w : FVec Ideal S1x2048 .f32) (v : FVec Ideal S2048x512 .bf16)
    (r : Fin 1024) (n : Fin 512) : k0_pay2 (k0_pay1 x w) v (ix2 r n)
      = ∑ d : Fin 2048, x (ix2 r d) * scale (fun d => x (ix2 r d)) * w (ix2 0 d) * v (ix2 d n) := by
  unfold scale
  pointwise [k0_pay2, k0_pay1]

/-- The weights the region reads. -/
theorem V_weights (c : Dev nD) : V m c main_v1
    = shapeCast S1x2048 (m ((c : Thread nD τ).loc main_arg1)) shapeCasts_S2048_S1x2048 := by
  change StableHlo.after hostOps0 _ _ = _
  after_results
  rfl

/-- The columns the region reads. -/
theorem V_cols (c : Dev nD) : V m c main_v0
    = truncf (F := Ideal) FTy.bf16 (m ((c : Thread nD τ).loc main_arg2)) bitsLt_bf16_f32 := by
  change StableHlo.after hostOps0 _ _ = _
  after_results

/-- The rows of a point's block. -/
theorem rows_at (c : Dev nD) (t : Fin cfg0.N) (r : Fin 1024) (d : Fin 2048) (R : Fin 8192) (h : R.val = 1024 * (t.val / 10) + r.val) :
    iblk m c 0 t (ix2 r d) = m ((c : Thread nD τ).loc main_arg0) (ix2 R d) := by
  blk_ext! [iblk, V, idx t]

/-- The weights of a point's block. -/
theorem weights_at (c : Dev nD) (t : Fin cfg0.N) (d : Fin 2048) :
    iblk m c 1 t (ix2 0 d) = m ((c : Thread nD τ).loc main_arg1) (ix1 d) := by
  have e : iblk m c 1 t (ix2 0 d) = V m c main_v1 (ix2 0 d) := by
    blk_ext! [iblk, idx t]
  rw [e, V_weights m c]
  exact asRow_at _ _ d

/-- The columns of a point's block. -/
theorem cols_at (c : Dev nD) (t : Fin cfg0.N) (d : Fin 2048) (n : Fin 512) (k : Fin 5120) (h : k.val = 512 * (t.val % 10) + n.val) :
    iblk m c 2 t (ix2 d n) = m ((c : Thread nD τ).loc main_arg2) (ix2 d k) := by
  have e : iblk m c 2 t (ix2 d n) = V m c main_v0 (ix2 d k) := by
    blk_ext! [iblk, idx t]
  rw [e, V_cols m c]
  rfl

/-- The reference's result over the kernel's arguments. -/
abbrev REF4 (c : Dev nD) : FVec Ideal S8192x5120 .f32 :=
  REF (m ((c : Thread nD τ).loc main_arg0)) (m ((c : Thread nD τ).loc main_arg1)) (m ((c : Thread nD τ).loc main_arg2))

/-- What a point stores is the reference's array over that point's block. -/
theorem point (c : Dev nD) (t : Fin cfg0.N) (r : Fin 1024) (n : Fin 512) (R : Fin 8192) (k : Fin 5120)
    (hR : R.val = 1024 * (t.val / 10) + r.val) (hk : k.val = 512 * (t.val % 10) + n.val) :
    k0_pay2 (k0_pay1 (iblk m c 0 t) (iblk m c 1 t)) (iblk m c 2 t) (ix2 r n) = REF4 m c (ix2 R k) := by
  rw [pay_at, REF4, REF_at]
  simp only [fun d => rows_at m c t r d R hR, weights_at m c t, fun d => cols_at m c t d n k hk]

/-- The kernel's array after the run. -/
theorem final (c : Dev nD) : (dats m 0 c).arrAt 3 (cfgs 0).N = REF4 m c := by
  refine (dats m 0 c).arrAt_eq_of_covers 3 _ (by decide +kernel) fun t _ y => ?_
  blk_simp
  rw [after0_3, out_eq m c t]
  obtain ⟨r, n, rfl⟩ : ∃ (r : Fin 1024) (n : Fin 512), y = ix2 r n := ⟨y 0, y 1, eq_ix2 y⟩
  have := (idx t).2.2.2.2
  refine (point m c t r n ⟨1024 * (t.val / 10) + r.val, by omega⟩ ⟨512 * (t.val % 10) + n.val, by omega⟩ rfl rfl).trans ?_
  symm
  blk_ext! [idx t]

/-- The kernel's run: the result is the reference's, the arguments are as they were. -/
theorem run (ρ : Dev nD → PrngReg) : θ_run defs (onTc (τ := τ) (main (F := Ideal))) ⟨m, fun _ => 0, ρ⟩ (fun r => ∀ c : Dev nD,
    r.2.mem ((c : Thread nD τ).loc main_v2) = REF4 m c ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run defs _ _).mono (fun _ h c => ⟨((h.2 c).1 3).trans (final m c), h.1 c⟩) (θ_run_and (unchanged m ρ) (run_main m ρ))

end Cert.SbIn

end
-- ==== Proof.SbOut.lean ====
/-
  The gated out-projection of the stick-breaking layer: what the kernel's array holds after the run. The scratch
  gathers the product of a block of gated rows with the matrix, 512 of its columns at a time; the fourth point scales the finished rows and adds the layer's input.
-/
module

public import proofs.«01_k».proof.Proof.Gen.Kernel5Ideal.Frame
public import proofs.«01_k».proof.Proof.Gen.Reference5Ideal.Run
public import proofs.«01_k».proof.Proof.Rows
public import Idealize.ShloMosaic.Lib.Pipeline.ReadBack
public import Idealize.ShloMosaic.Lib.Claim

@[expose] public section

set_option maxRecDepth 16384

noncomputable section

namespace Cert.SbOut

open Idealize.ShloMosaic Idealize.ShloMosaic.TcCoe Cert.Rows

section
open Cert.Reference5Ideal Cert.Reference5Ideal.Gen

/-- The rows, each entry times the sigmoid-weighted unit of its gate. -/
abbrev ACT (A : FVec Ideal S8192x2048 .f32) (G : FVec Ideal S8192x5120 .f32) : FVec Ideal S8192x2048 .f32 :=
  mulf A (mulf (extractStridedSlice S8192x2048 ![0, 3072] G slices_S8192x5120_S8192x2048_0_3072)
    (Host.divf (broadcastInDim S8192x2048 ![] bcast_S_S8192x2048 (constant S_ .f32 0x3F800000#32))
      (addf (broadcastInDim S8192x2048 ![] bcast_S_S8192x2048 (constant S_ .f32 0x3F800000#32))
        (Host.exp (Host.negf (extractStridedSlice S8192x2048 ![0, 3072] G slices_S8192x5120_S8192x2048_0_3072))))))

/-- The product of the gated rows with the matrix. -/
abbrev PROD (A : FVec Ideal S8192x2048 .f32) (G : FVec Ideal S8192x5120 .f32) (W : FVec Ideal S2048x2048 .f32) : FVec Ideal S8192x2048 .f32 :=
  Host.dotGeneral dot_S8192x2048_S2048x2048_S8192x2048_1_0_0_1_n_n none (ACT A G) W

/-- The reference's result: the products scaled row by row, weighted, and added to the layer's input. -/
abbrev REF (A : FVec Ideal S8192x2048 .f32) (G : FVec Ideal S8192x5120 .f32) (W : FVec Ideal S2048x2048 .f32)
    (X : FVec Ideal S8192x2048 .f32) (pw : FVec Ideal S2048 .f32) : FVec Ideal S8192x2048 .f32 :=
  addf X (mulf (mulf (PROD A G W) (broadcastInDim S8192x2048 ![0, 1] bcast_S8192x1_S8192x2048_0_1
      (Host.rsqrt (addf (Host.divf (broadcastInDim S8192x1 ![0] bcast_S8192_S8192x1_0
          (Host.reduceAdd (mulf (PROD A G W) (PROD A G W)) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 pw)))

/-- A gated entry. -/
theorem ACT_at (A : FVec Ideal S8192x2048 .f32) (G : FVec Ideal S8192x5120 .f32) (R : Fin 8192) (k : Fin 2048) :
    ACT A G (ix2 R k) = gated (A (ix2 R k)) (G (ix2 R ⟨3072 + k.val, by omega⟩)) := by
  unfold gated
  pointwise [ACT]
  rfl

/-- A product's entry. -/
theorem PROD_at (A : FVec Ideal S8192x2048 .f32) (G : FVec Ideal S8192x5120 .f32) (W : FVec Ideal S2048x2048 .f32) (R : Fin 8192) (n : Fin 2048) :
    PROD A G W (ix2 R n) = ∑ k : Fin 2048, terms (ACT A G) W R n k := by
  unfold terms PROD
  generalize ACT A G = B
  pointwise

/-- The reference's result at an index. -/
theorem REF_at (A : FVec Ideal S8192x2048 .f32) (G : FVec Ideal S8192x5120 .f32) (W : FVec Ideal S2048x2048 .f32) (X : FVec Ideal S8192x2048 .f32)
    (pw : FVec Ideal S2048 .f32) (R : Fin 8192) (n : Fin 2048) :
    REF A G W X pw (ix2 R n) = X (ix2 R n) + PROD A G W (ix2 R n) * scale (fun d => PROD A G W (ix2 R d)) * pw (ix1 n) := by
  unfold REF scale
  generalize PROD A G W = Y
  pointwise

end

open Cert.Kernel5Ideal Cert.Kernel5Ideal.Gen

variable (m : (ℓ : Loc nD τ sig) → Buf (Elt Ideal) ℓ)

/-- The blocks' places: rows by `t / 4`, the columns of the product by `t % 4`, the gate's from its column 3072 on. -/
theorem idx : ∀ t : Fin cfg0.N, win0_0.index t = ![t.val / 4, t.val % 4] ∧ win0_1.index t = ![t.val / 4, 6 + t.val % 4]
    ∧ win0_2.index t = ![t.val % 4, 0] ∧ win0_3.index t = ![t.val / 4, 0] ∧ win0_4.index t = ![0, 0]
    ∧ win0_5.index t = ![t.val / 4, 0] ∧ t.val / 4 < 16 :=
  (by decide +kernel : ∀ t : Fin grid0.N, _)

/-- The output's block is written back at the last point of its rows only. -/
theorem flush_last : ∀ t : Fin cfg0.N, (cfg0.win 5).flush t = true → t.val % 4 = 3 := by decide +kernel

/-- The matrix the region reads. -/
theorem V_mat (c : Dev nD) : V m c main_v0 = truncf (F := Ideal) FTy.bf16 (m ((c : Thread nD τ).loc main_arg2)) bitsLt_bf16_f32 := by
  change StableHlo.after hostOps0 _ _ = _
  after_results

/-- The weights the region reads. -/
theorem V_weights (c : Dev nD) : V m c main_v1 = shapeCast S1x2048 (m ((c : Thread nD τ).loc main_arg4)) shapeCasts_S2048_S1x2048 := by
  change StableHlo.after hostOps0 _ _ = _
  after_results
  rfl

/-- The rows of a point's block. -/
theorem rows_at (c : Dev nD) (t : Fin cfg0.N) (r d : Fin 512) (R : Fin 8192) (hR : R.val = 512 * (t.val / 4) + r.val)
    (k : Fin 2048) (hk : k.val = 512 * (t.val % 4) + d.val) :
    iblk m c 0 t (ix2 r d) = m ((c : Thread nD τ).loc main_arg0) (ix2 R k) := by
  blk_ext! [iblk, V, idx t]

/-- The gates of a point's block. -/
theorem gates_at (c : Dev nD) (t : Fin cfg0.N) (r d : Fin 512) (R : Fin 8192) (hR : R.val = 512 * (t.val / 4) + r.val)
    (k : Fin 5120) (hk : k.val = 3072 + (512 * (t.val % 4) + d.val)) :
    iblk m c 1 t (ix2 r d) = m ((c : Thread nD τ).loc main_arg1) (ix2 R k) := by
  blk_ext! [iblk, V, idx t]

/-- The rows of the matrix in a point's block. -/
theorem mat_at (c : Dev nD) (t : Fin cfg0.N) (d : Fin 512) (n : Fin 2048) (k : Fin 2048) (hk : k.val = 512 * (t.val % 4) + d.val) :
    iblk m c 2 t (ix2 d n) = m ((c : Thread nD τ).loc main_arg2) (ix2 k n) := by
  have e : iblk m c 2 t (ix2 d n) = V m c main_v0 (ix2 k n) := by
    blk_ext! [iblk, idx t]
  rw [e, V_mat m c]
  rfl

/-- The layer's input in a point's block. -/
theorem input_at (c : Dev nD) (t : Fin cfg0.N) (r : Fin 512) (n : Fin 2048) (R : Fin 8192) (hR : R.val = 512 * (t.val / 4) + r.val) :
    iblk m c 3 t (ix2 r n) = m ((c : Thread nD τ).loc main_arg3) (ix2 R n) := by
  blk_ext! [iblk, V, idx t]

/-- The weights in a point's block. -/
theorem weights_at (c : Dev nD) (t : Fin cfg0.N) (n : Fin 2048) :
    iblk m c 4 t (ix2 0 n) = m ((c : Thread nD τ).loc main_arg4) (ix1 n) := by
  have e : iblk m c 4 t (ix2 0 n) = V m c main_v1 (ix2 0 n) := by
    blk_ext! [iblk, idx t]
  rw [e, V_weights m c]
  exact asRow_at _ _ n

/-- A block's gated entries. -/
abbrev act (x g : FVec Ideal S512x512 .f32) (y : S512x512.Idx) : EReal := gated (x y) (g y)

/-- The first point's share of the product. -/
theorem pay2_at (x g : FVec Ideal S512x512 .f32) (w : FVec Ideal S512x2048 .bf16) (r : Fin 512) (n : Fin 2048) :
    k0_pay2 (F := Ideal) x g w (ix2 r n) = ∑ d : Fin 512, terms (act x g) w r n d := by
  unfold terms act gated
  pointwise [k0_pay2, k0_pay1]

/-- A later point's share, added to what is there. -/
theorem pay3_at (x g : FVec Ideal S512x512 .f32) (w : FVec Ideal S512x2048 .bf16) (y : FVec Ideal S512x2048 .f32) (r : Fin 512) (n : Fin 2048) :
    k0_pay3 x g w y (ix2 r n) = y (ix2 r n) + ∑ d : Fin 512, terms (act x g) w r n d := by
  unfold terms act gated
  pointwise [k0_pay3, k0_pay1]

/-- The finished rows. -/
theorem pay4_at (y x : FVec Ideal S512x2048 .f32) (w : FVec Ideal S1x2048 .f32) (r : Fin 512) (n : Fin 2048) :
    k0_pay4 y x w (ix2 r n) = x (ix2 r n) + y (ix2 r n) * scale (fun d => y (ix2 r d)) * w (ix2 0 n) := by
  unfold scale
  pointwise [k0_pay4]

/-- The terms of a product's entry over the kernel's arguments. -/
abbrev argTerms (c : Dev nD) (R : Fin 8192) (n : Fin 2048) : Fin 2048 → EReal :=
  terms (ACT (m ((c : Thread nD τ).loc main_arg0)) (m ((c : Thread nD τ).loc main_arg1))) (m ((c : Thread nD τ).loc main_arg2)) R n

/-- A point's share of an entry is the terms of its columns. -/
theorem share_at (c : Dev nD) (t : Fin cfg0.N) (r : Fin 512) (n : Fin 2048) (R : Fin 8192) (hR : R.val = 512 * (t.val / 4) + r.val)
    (d : Fin 512) : terms (M := 512) (K := 512) (N := 2048) (act (iblk m c 0 t) (iblk m c 1 t)) (iblk m c 2 t) r n d
      = argTerms m c R n ⟨512 * (t.val % 4) + d.val, by omega⟩ := by
  unfold argTerms terms act
  rw [ACT_at, rows_at m c t r d R hR ⟨512 * (t.val % 4) + d.val, by omega⟩ rfl,
    gates_at m c t r d R hR ⟨3072 + (512 * (t.val % 4) + d.val), by omega⟩ rfl, mat_at m c t d n ⟨512 * (t.val % 4) + d.val, by omega⟩ rfl]

/-- After every point the scratch holds the products over the columns seen so far. -/
theorem scratch_at (c : Dev nD) (r : Fin 512) (n : Fin 2048) : ∀ (t : ℕ) (ht : t < cfg0.N) (R : Fin 8192), R.val = 512 * (t / 4) + r.val →
    (outsAt0 m c t ht).2 (ix2 r n) = upto (argTerms m c R n) (512 * (t % 4) + 512) := by
  intro t
  induction t with
  | zero =>
    intro ht R hR
    rw [outsAt0_A m c ⟨0, ht⟩ rfl (by dsimp only; omega) (by dsimp only; omega)]
    frame_out
    rw [pay2_at]
    exact (upto_first _ _ (by omega) fun d => (share_at m c ⟨0, ht⟩ r n R hR d).trans (congrArg _ (Fin.ext (by simp)))).symm
  | succ t ih =>
    intro ht R hR
    have hN : t + 1 < 64 := lt_of_lt_of_eq ht (show cfg0.N = 64 from N_0)
    by_cases h0 : (t + 1) % 4 = 0
    · rw [outsAt0_A m c ⟨t + 1, ht⟩ h0 (by dsimp only; omega) (by dsimp only; omega)]
      frame_out
      rw [pay2_at, h0]
      exact (upto_first _ _ (by omega) fun d => (share_at m c ⟨t + 1, ht⟩ r n R hR d).trans (congrArg _ (Fin.ext (by simp [h0])))).symm
    · have e : 512 * ((t + 1) % 4) + 512 = 512 * (t % 4) + 512 + 512 := by omega
      have next : k0_pay3 (iblk m c 0 ⟨t + 1, ht⟩) (iblk m c 1 ⟨t + 1, ht⟩) (iblk m c 2 ⟨t + 1, ht⟩) (outsAt0 m c t (by omega)).2 (ix2 r n)
          = upto (argTerms m c R n) (512 * ((t + 1) % 4) + 512) := by
        rw [pay3_at, ih (by omega) R (by omega), e]
        exact (upto_next _ _ _ (by omega) fun d => (share_at m c ⟨t + 1, ht⟩ r n R hR d).trans
          (congrArg _ (Fin.ext (by dsimp only; omega)))).symm
      by_cases h2 : (t + 1) % 4 = 3
      · rw [outsAt0_C m c ⟨t + 1, ht⟩ h0 (by dsimp only; omega) h2]
        frame_out
        simp only [read_unread_whole]
        exact next
      · rw [outsAt0_B m c ⟨t + 1, ht⟩ h0 (by dsimp only; omega) h2]
        frame_out
        simp only [read_unread_whole]
        exact next

/-- At the last point of its rows the output is the finished rows of the scratch. -/
theorem out_eq (c : Dev nD) (t : Fin cfg0.N) (h : t.val % 4 = 3) : (outsAt0 m c t.val t.isLt).1
    = k0_pay4 (outsAt0 m c t.val t.isLt).2 (iblk m c 3 t) (iblk m c 4 t) := by
  rw [outsAt0_C m c t (by omega) (by omega) h]
  frame_out

/-- The scratch after the last point of its rows holds the products. -/
theorem product_at (c : Dev nD) (t : Fin cfg0.N) (h : t.val % 4 = 3) (r : Fin 512) (n : Fin 2048) (R : Fin 8192)
    (hR : R.val = 512 * (t.val / 4) + r.val) : (outsAt0 m c t.val t.isLt).2 (ix2 r n)
    = PROD (m ((c : Thread nD τ).loc main_arg0)) (m ((c : Thread nD τ).loc main_arg1)) (m ((c : Thread nD τ).loc main_arg2)) (ix2 R n) := by
  rw [scratch_at m c r n t.val t.isLt R hR, h, PROD_at]
  exact upto_all _

/-- The reference's result over the kernel's arguments. -/
abbrev REF5 (c : Dev nD) : FVec Ideal S8192x2048 .f32 :=
  REF (m ((c : Thread nD τ).loc main_arg0)) (m ((c : Thread nD τ).loc main_arg1)) (m ((c : Thread nD τ).loc main_arg2))
    (m ((c : Thread nD τ).loc main_arg3)) (m ((c : Thread nD τ).loc main_arg4))

/-- What is written back is the reference's result, entry by entry. -/
theorem point (c : Dev nD) (t : Fin cfg0.N) (h : t.val % 4 = 3) (r : Fin 512) (n : Fin 2048) (R : Fin 8192)
    (hR : R.val = 512 * (t.val / 4) + r.val) :
    k0_pay4 (outsAt0 m c t.val t.isLt).2 (iblk m c 3 t) (iblk m c 4 t) (ix2 r n) = REF5 m c (ix2 R n) := by
  rw [pay4_at, REF5, REF_at, input_at m c t r n R hR, weights_at m c t n]
  simp only [fun d => product_at m c t h r d R hR]

/-- The output's array after the run. -/
theorem final (c : Dev nD) : (dats m 0 c).arrAt 5 (cfgs 0).N = REF5 m c := by
  refine (dats m 0 c).arrAt_eq_of_covers 5 _ (by decide +kernel) fun t hf y => ?_
  have h := flush_last t hf
  blk_simp
  rw [after0_5, out_eq m c t h]
  obtain ⟨r, n, rfl⟩ : ∃ (r : Fin 512) (n : Fin 2048), y = ix2 r n := ⟨y 0, y 1, eq_ix2 y⟩
  have := (idx t).2.2.2.2.2.2
  refine (point m c t h r n ⟨512 * (t.val / 4) + r.val, by omega⟩ rfl).trans ?_
  symm
  blk_ext! [idx t]

/-- The kernel's run: the result is the reference's, the arguments are as they were. -/
theorem run (ρ) : θ_run defs (onTc (τ := τ) (main (F := Ideal))) ⟨m, fun _ => 0, ρ⟩ (fun r => ∀ c : Dev nD,
    r.2.mem ((c : Thread nD τ).loc main_v2) = REF5 m c ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun _ h c => ⟨((h.2 c).1 5).trans (final m c), h.1 c⟩) (θ_run_and (unchanged m ρ) (run_main m ρ))

end Cert.SbOut

end
-- ==== Proof.MlaIn.lean ====
/-
  The in-projection of the latent attention layer: what the kernel's array of products holds after the run, and the two
  slices of it that are the results. What one point computes from its blocks is as in the stick-breaking layer's. The matrix
  has 192 columns of zeros between the latents' and the gate's; neither slice reads them.
-/
module

public import proofs.«01_k».proof.Proof.Gen.Kernel6Ideal.Frame
public import proofs.«01_k».proof.Proof.Gen.Reference6Ideal.Run
public import proofs.«01_k».proof.Proof.SbIn
public import Idealize.ShloMosaic.Lib.Pipeline.ReadBack
public import Idealize.ShloMosaic.Lib.Claim

@[expose] public section

set_option maxRecDepth 16384

noncomputable section

namespace Cert.MlaIn

open Idealize.ShloMosaic Idealize.ShloMosaic.TcCoe Cert.Rows

section
open Cert.Reference6Ideal Cert.Reference6Ideal.Gen

/-- The reference's products of the normalised rows with the columns, from the three arguments. -/
abbrev REF (X : FVec Ideal S8192x2048 .f32) (nw : FVec Ideal S2048 .f32)
    (W : FVec Ideal S2048x2880 .f32) : FVec Ideal S8192x2880 .f32 :=
  Host.dotGeneral dot_S8192x2048_S2048x2880_S8192x2880_1_0_0_1_n_n none
    (mulf (mulf X (broadcastInDim S8192x2048 ![0, 1] bcast_S8192x1_S8192x2048_0_1
        (Host.rsqrt (addf (Host.divf (broadcastInDim S8192x1 ![0] bcast_S8192_S8192x1_0
            (Host.reduceAdd (mulf X X) (constant S_ .f32 0x00000000#32) reducesTo_S8192x2048_S8192_d1 h_S_))
          (broadcastInDim S8192x1 ![] bcast_S_S8192x1 (constant S_ .f32 0x45000000#32)))
          (broadcastInDim S8192x1 ![] bcast_S_S8192x1 (constant S_ .f32 0x358637BD#32))))))
      (broadcastInDim S8192x2048 ![0, 1] bcast_S1x2048_S8192x2048_0_1
        (broadcastInDim S1x2048 ![1] bcast_S2048_S1x2048_1 nw)))
    W

/-- The reference's latents. -/
abbrev LATENTS (X : FVec Ideal S8192x2048 .f32) (nw : FVec Ideal S2048 .f32) (W : FVec Ideal S2048x2880 .f32) : FVec Ideal S8192x832 .f32 :=
  extractStridedSlice S8192x832 ![0, 0] (REF X nw W) slices_S8192x2880_S8192x832_0_0

/-- The reference's gate. -/
abbrev GATE (X : FVec Ideal S8192x2048 .f32) (nw : FVec Ideal S2048 .f32) (W : FVec Ideal S2048x2880 .f32) : FVec Ideal S8192x2048 .f32 :=
  extractStridedSlice S8192x2048 ![0, 832] (REF X nw W) slices_S8192x2880_S8192x2048_0_832

/-- A row's product with a column, the row scaled by its root mean square. -/
def product (X : FVec Ideal S8192x2048 .f32) (nw : FVec Ideal S2048 .f32) (w : Fin 2048 → EReal) (R : Fin 8192) : EReal :=
  ∑ d : Fin 2048, X (ix2 R d) * scale (fun d => X (ix2 R d)) * nw (ix1 d) * w d

theorem REF_at (X : FVec Ideal S8192x2048 .f32) (nw : FVec Ideal S2048 .f32) (W : FVec Ideal S2048x2880 .f32)
    (R : Fin 8192) (n : Fin 2880) : REF X nw W (ix2 R n) = product X nw (fun d => W (ix2 d n)) R := by
  unfold product scale
  pointwise [REF]

theorem LATENTS_at (X : FVec Ideal S8192x2048 .f32) (nw : FVec Ideal S2048 .f32) (W : FVec Ideal S2048x2880 .f32)
    (R : Fin 8192) (n : Fin 832) : LATENTS X nw W (ix2 R n) = product X nw (fun d => W (ix2 d ⟨n.val, by omega⟩)) R := by
  rw [← REF_at]
  unfold LATENTS
  generalize REF X nw W = Y
  pointwise

theorem GATE_at (X : FVec Ideal S8192x2048 .f32) (nw : FVec Ideal S2048 .f32) (W : FVec Ideal S2048x2880 .f32)
    (R : Fin 8192) (n : Fin 2048) : GATE X nw W (ix2 R n) = product X nw (fun d => W (ix2 d ⟨832 + n.val, by omega⟩)) R := by
  rw [← REF_at]
  unfold GATE
  generalize REF X nw W = Y
  pointwise

end

open Cert.Kernel6Ideal Cert.Kernel6Ideal.Gen

variable (m : (ℓ : Loc nD τ sig) → Buf (Elt Ideal) ℓ)

/-- The blocks' places: rows by `t / 6`, columns by `t % 6`. -/
theorem idx : ∀ t : Fin cfg0.N, win0_0.index t = ![t.val / 6, 0] ∧ win0_1.index t = ![0, 0]
    ∧ win0_2.index t = ![0, t.val % 6] ∧ win0_3.index t = ![t.val / 6, t.val % 6] ∧ t.val / 6 < 8 :=
  (by decide +kernel : ∀ t : Fin grid0.N, _)

/-- Two points of the same row block read the same rows. -/
theorem rows_eq (c : Dev nD) (s t : Fin cfg0.N) (h : s.val / 6 = t.val / 6) : iblk m c 0 s = iblk m c 0 t := by
  funext y
  have e : win0_0.index s = win0_0.index t := by rw [(idx s).1, (idx t).1, h]
  blk_ext [iblk, e]

/-- The row of weights is the same at every point. -/
theorem weights_eq (c : Dev nD) (s t : Fin cfg0.N) : iblk m c 1 s = iblk m c 1 t := by
  funext y
  have e : win0_1.index s = win0_1.index t := by rw [(idx s).2.1, (idx t).2.1]
  blk_ext [iblk, e]

/-- After every point the scratch holds the normalised rows of that point's row block. -/
theorem scratch_eq (c : Dev nD) : ∀ (n : ℕ) (hn : n < cfg0.N),
    (outsAt0 m c n hn).2 = k0_pay1 (iblk m c 0 ⟨n, hn⟩) (iblk m c 1 ⟨n, hn⟩) := by
  intro n
  induction n with
  | zero => intro hn; rw [outsAt0_A m c ⟨0, hn⟩ rfl]; frame_out
  | succ n ih =>
    intro hn
    by_cases h : (n + 1) % 6 = 0
    · rw [outsAt0_A m c ⟨n + 1, hn⟩ h]; frame_out
    · rw [outsAt0_B m c ⟨n + 1, hn⟩ h]
      refine (ih (Nat.lt_of_succ_lt hn)).trans ?_
      rw [rows_eq m c ⟨n, Nat.lt_of_succ_lt hn⟩ ⟨n + 1, hn⟩ (by dsimp only; omega),
        weights_eq m c ⟨n, Nat.lt_of_succ_lt hn⟩ ⟨n + 1, hn⟩]

/-- What every point leaves in the output's buffer: the product of the normalised rows with its columns. -/
theorem out_eq (c : Dev nD) (t : Fin cfg0.N) :
    (outsAt0 m c t.val t.isLt).1 = k0_pay2 (k0_pay1 (iblk m c 0 t) (iblk m c 1 t)) (iblk m c 2 t) := by
  by_cases h : t.val % 6 = 0
  · rw [outsAt0_A m c t h]; frame_out
  · rw [outsAt0_B m c t h]; frame_out
    rw [scratch_eq m c (t.val - 1),
      rows_eq m c ⟨t.val - 1, by omega⟩ t (by dsimp only; omega), weights_eq m c ⟨t.val - 1, by omega⟩ t]
    simp only [read_unread_whole]

/-- The product a point stores, in terms of its blocks. -/
theorem pay_at (x : FVec Ideal S1024x2048 .f32) (w : FVec Ideal S1x2048 .f32) (v : FVec Ideal S2048x512 .bf16)
    (r : Fin 1024) (n : Fin 512) : k0_pay2 (k0_pay1 x w) v (ix2 r n)
      = ∑ d : Fin 2048, x (ix2 r d) * scale (fun d => x (ix2 r d)) * w (ix2 0 d) * v (ix2 d n) :=
  SbIn.pay_at x w v r n

/-- The weights the region reads. -/
theorem V_weights (c : Dev nD) : V m c main_v5
    = shapeCast S1x2048 (m ((c : Thread nD τ).loc main_arg1)) shapeCasts_S2048_S1x2048 := by
  change StableHlo.after hostOps0 _ _ = _
  after_results
  rfl

/-- The rows of a point's block. -/
theorem rows_at (c : Dev nD) (t : Fin cfg0.N) (r : Fin 1024) (d : Fin 2048) (R : Fin 8192) (h : R.val = 1024 * (t.val / 6) + r.val) :
    iblk m c 0 t (ix2 r d) = m ((c : Thread nD τ).loc main_arg0) (ix2 R d) := by
  blk_ext! [iblk, V, idx t]

/-- The weights of a point's block. -/
theorem weights_at (c : Dev nD) (t : Fin cfg0.N) (d : Fin 2048) :
    iblk m c 1 t (ix2 0 d) = m ((c : Thread nD τ).loc main_arg1) (ix1 d) := by
  have e : iblk m c 1 t (ix2 0 d) = V m c main_v5 (ix2 0 d) := by
    blk_ext! [iblk, idx t]
  rw [e, V_weights m c]
  exact asRow_at _ _ d

/-- The columns of a point's block. -/
theorem cols_at (c : Dev nD) (t : Fin cfg0.N) (d : Fin 2048) (n : Fin 512) (k : Fin 3072) (h : k.val = 512 * (t.val % 6) + n.val) :
    iblk m c 2 t (ix2 d n) = V m c main_v4 (ix2 d k) := by
  blk_ext! [iblk, idx t]

/-- The matrix the region reads: the latents' columns, 192 columns of zeros, the gate's columns. -/
theorem V_cols (c : Dev nD) : V m c main_v4 = truncf (F := Ideal) FTy.bf16 (concatenate S2048x3072 1
      [⟨S2048x832, extractStridedSlice S2048x832 ![0, 0] (m ((c : Thread nD τ).loc main_arg2)) slices_S2048x2880_S2048x832_0_0⟩,
       ⟨S2048x192, broadcastInDim S2048x192 ![] bcast_S_S2048x192 (constant S_ .f32 0x00000000#32)⟩,
       ⟨S2048x2048, extractStridedSlice S2048x2048 ![0, 832] (m ((c : Thread nD τ).loc main_arg2)) slices_S2048x2880_S2048x2048_0_832⟩]
      concatenates_S2048x832_S2048x192_S2048x2048_S2048x3072_d1) bitsLt_bf16_f32 := by
  change StableHlo.after hostOps0 _ _ = _
  after_results
  rfl

/-- A latent's column of the matrix. -/
theorem latent_col (c : Dev nD) (d : Fin 2048) (n : Fin 832) :
    V m c main_v4 (ix2 d ⟨n.val, by omega⟩) = m ((c : Thread nD τ).loc main_arg2) (ix2 d ⟨n.val, by omega⟩) := by
  rw [V_cols]
  pointwise

/-- A gate's column of the matrix. -/
theorem gate_col (c : Dev nD) (d : Fin 2048) (n : Fin 2048) :
    V m c main_v4 (ix2 d ⟨1024 + n.val, by omega⟩) = m ((c : Thread nD τ).loc main_arg2) (ix2 d ⟨832 + n.val, by omega⟩) := by
  rw [V_cols]
  pointwise
  rw [dif_neg (by omega), dif_neg (by omega)]
  exact congrArg (fun k => m ((c : Thread nD τ).loc main_arg2) (ix2 d k)) (Fin.ext (by dsimp only; omega))

/-- All the products, those with the columns of zeros among them. -/
def ALL (c : Dev nD) : FVec Ideal S8192x3072 .f32 := fun y =>
  product (m ((c : Thread nD τ).loc main_arg0)) (m ((c : Thread nD τ).loc main_arg1)) (fun d => V m c main_v4 (ix2 d (y 1))) (y 0)

/-- What a point stores is a block of all the products. -/
theorem point (c : Dev nD) (t : Fin cfg0.N) (r : Fin 1024) (n : Fin 512) (R : Fin 8192) (k : Fin 3072)
    (hR : R.val = 1024 * (t.val / 6) + r.val) (hk : k.val = 512 * (t.val % 6) + n.val) :
    k0_pay2 (k0_pay1 (iblk m c 0 t) (iblk m c 1 t)) (iblk m c 2 t) (ix2 r n) = ALL m c (ix2 R k) := by
  rw [pay_at]
  show _ = product _ _ (fun d => V m c main_v4 (ix2 d k)) R
  unfold product
  simp only [fun d => rows_at m c t r d R hR, weights_at m c t, fun d => cols_at m c t d n k hk]

/-- The kernel's array after the run. -/
theorem final (c : Dev nD) : (dats m 0 c).arrAt 3 (cfgs 0).N = ALL m c := by
  refine (dats m 0 c).arrAt_eq_of_covers 3 _ (by decide +kernel) fun t _ y => ?_
  blk_simp
  rw [after0_3, out_eq m c t]
  obtain ⟨r, n, rfl⟩ : ∃ (r : Fin 1024) (n : Fin 512), y = ix2 r n := ⟨y 0, y 1, eq_ix2 y⟩
  have := (idx t).2.2.2.2
  refine (point m c t r n ⟨1024 * (t.val / 6) + r.val, by omega⟩ ⟨512 * (t.val % 6) + n.val, by omega⟩ rfl rfl).trans ?_
  symm
  blk_ext! [idx t]

/-- The reference's latents and gate over the kernel's arguments. -/
abbrev LATENTS6 (c : Dev nD) : FVec Ideal S8192x832 .f32 :=
  LATENTS (m ((c : Thread nD τ).loc main_arg0)) (m ((c : Thread nD τ).loc main_arg1)) (m ((c : Thread nD τ).loc main_arg2))
abbrev GATE6 (c : Dev nD) : FVec Ideal S8192x2048 .f32 :=
  GATE (m ((c : Thread nD τ).loc main_arg0)) (m ((c : Thread nD τ).loc main_arg1)) (m ((c : Thread nD τ).loc main_arg2))

/-- The slices of all the products are the reference's. -/
theorem latents_eq (c : Dev nD) : extractStridedSlice S8192x832 ![0, 0] (ALL m c) slices_S8192x3072_S8192x832_0_0 = LATENTS6 m c := by
  funext (y : S8192x832.Idx)
  obtain ⟨R, n, rfl⟩ : ∃ (R : Fin 8192) (n : Fin 832), y = ix2 R n := ⟨y 0, y 1, eq_ix2 y⟩
  have e : extractStridedSlice S8192x832 ![0, 0] (ALL m c) slices_S8192x3072_S8192x832_0_0 (ix2 R n) = ALL m c (ix2 R ⟨n.val, by omega⟩) := by
    generalize ALL m c = Y
    pointwise
  rw [e, LATENTS6, LATENTS_at]
  exact congrArg (fun w => product _ _ w R) (funext fun d => latent_col m c d n)

theorem gate_eq (c : Dev nD) : extractStridedSlice S8192x2048 ![0, 1024] (ALL m c) slices_S8192x3072_S8192x2048_0_1024 = GATE6 m c := by
  funext (y : S8192x2048.Idx)
  obtain ⟨R, n, rfl⟩ : ∃ (R : Fin 8192) (n : Fin 2048), y = ix2 R n := ⟨y 0, y 1, eq_ix2 y⟩
  have e : extractStridedSlice S8192x2048 ![0, 1024] (ALL m c) slices_S8192x3072_S8192x2048_0_1024 (ix2 R n) = ALL m c (ix2 R ⟨1024 + n.val, by omega⟩) := by
    generalize ALL m c = Y
    pointwise
  rw [e, GATE6, GATE_at]
  exact congrArg (fun w => product _ _ w R) (funext fun d => gate_col m c d n)

/-- The array the operations after the region read. -/
theorem array_eq (c : Dev nD) : Pipeline.withArrays (cfgs 0).spec c (V0 m c) (fun w => (dats m 0 c).arrAt w (cfgs 0).N) (Proc.tc.devRef main_v6) = ALL m c :=
  (Pipeline.withArrays_arr (cfgs 0).spec (by decide) c (V0 m c) (fun w => (dats m 0 c).arrAt w (cfgs 0).N) 3).trans (final m c)

/-- The operations after the region leave the reference's latents and gate. -/
theorem tail_latents (c : Dev nD) : Pipeline.afterTail₀ cfgs (dats m) 0 (V0 m) [hostOps1] c main_v7 = LATENTS6 m c := by
  unfold Pipeline.afterTail₀
  change StableHlo.after hostOps1 _ _ = _
  after_results
  rw [array_eq m c]
  exact latents_eq m c

theorem tail_gate (c : Dev nD) : Pipeline.afterTail₀ cfgs (dats m) 0 (V0 m) [hostOps1] c main_v8 = GATE6 m c := by
  unfold Pipeline.afterTail₀
  change StableHlo.after hostOps1 _ _ = _
  after_results
  rw [array_eq m c]
  exact gate_eq m c

/-- The kernel's run: the two results are the reference's, the arguments are as they were. -/
theorem run (ρ : Dev nD → PrngReg) : θ_run defs (onTc (τ := τ) (main (F := Ideal))) ⟨m, fun _ => 0, ρ⟩ (fun r => ∀ c : Dev nD,
    r.2.mem ((c : Thread nD τ).loc main_v7) = LATENTS6 m c ∧ r.2.mem ((c : Thread nD τ).loc main_v8) = GATE6 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run defs _ _).mono (fun _ h c => ⟨((h.2 c).2 main_v7 (Pipeline.mem_restRefs_of main_v7 (by decide) (by decide))).trans (tail_latents m c),
      ((h.2 c).2 main_v8 (Pipeline.mem_restRefs_of main_v8 (by decide) (by decide))).trans (tail_gate m c), h.1 c⟩)
    (θ_run_and (unchanged m ρ) (run_main m ρ))

end Cert.MlaIn

end
-- ==== Proof.MlaOut.lean ====
/-
  The gated out-projection of the latent attention layer: what the kernel's array holds after the run. What one point computes
  from its blocks is as in the stick-breaking layer's; the gate's columns, and so the blocks that are read, are others. The scratch
  gathers the product of a block of gated rows with the matrix, 512 of its columns at a time; the fourth point scales the finished rows and adds the layer's input.
-/
module

public import proofs.«01_k».proof.Proof.Gen.Kernel7Ideal.Frame
public import proofs.«01_k».proof.Proof.Gen.Reference7Ideal.Run
public import proofs.«01_k».proof.Proof.SbOut
public import Idealize.ShloMosaic.Lib.Pipeline.ReadBack
public import Idealize.ShloMosaic.Lib.Claim

@[expose] public section

set_option maxRecDepth 16384

noncomputable section

namespace Cert.MlaOut

open Idealize.ShloMosaic Idealize.ShloMosaic.TcCoe Cert.Rows
open Cert.SbOut (act)

section
open Cert.Reference7Ideal Cert.Reference7Ideal.Gen

/-- The rows, each entry times the sigmoid-weighted unit of its gate. -/
abbrev ACT (A : FVec Ideal S8192x2048 .f32) (G : FVec Ideal S8192x3072 .f32) : FVec Ideal S8192x2048 .f32 :=
  mulf A (mulf (extractStridedSlice S8192x2048 ![0, 1024] G slices_S8192x3072_S8192x2048_0_1024)
    (Host.divf (broadcastInDim S8192x2048 ![] bcast_S_S8192x2048 (constant S_ .f32 0x3F800000#32))
      (addf (broadcastInDim S8192x2048 ![] bcast_S_S8192x2048 (constant S_ .f32 0x3F800000#32))
        (Host.exp (Host.negf (extractStridedSlice S8192x2048 ![0, 1024] G slices_S8192x3072_S8192x2048_0_1024))))))

/-- The product of the gated rows with the matrix. -/
abbrev PROD (A : FVec Ideal S8192x2048 .f32) (G : FVec Ideal S8192x3072 .f32) (W : FVec Ideal S2048x2048 .f32) : FVec Ideal S8192x2048 .f32 :=
  Host.dotGeneral dot_S8192x2048_S2048x2048_S8192x2048_1_0_0_1_n_n none (ACT A G) W

/-- The reference's result: the products scaled row by row, weighted, and added to the layer's input. -/
abbrev REF (A : FVec Ideal S8192x2048 .f32) (G : FVec Ideal S8192x3072 .f32) (W : FVec Ideal S2048x2048 .f32)
    (X : FVec Ideal S8192x2048 .f32) (pw : FVec Ideal S2048 .f32) : FVec Ideal S8192x2048 .f32 :=
  addf X (mulf (mulf (PROD A G W) (broadcastInDim S8192x2048 ![0, 1] bcast_S8192x1_S8192x2048_0_1
      (Host.rsqrt (addf (Host.divf (broadcastInDim S8192x1 ![0] bcast_S8192_S8192x1_0
          (Host.reduceAdd (mulf (PROD A G W) (PROD A G W)) (constant S_ .f32 0x00000000#32) reducesTo_S8192x2048_S8192_d1 h_S_))
        (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 pw)))

/-- A gated entry. -/
theorem ACT_at (A : FVec Ideal S8192x2048 .f32) (G : FVec Ideal S8192x3072 .f32) (R : Fin 8192) (k : Fin 2048) :
    ACT A G (ix2 R k) = gated (A (ix2 R k)) (G (ix2 R ⟨1024 + k.val, by omega⟩)) := by
  unfold gated
  pointwise [ACT]
  rfl

/-- A product's entry. -/
theorem PROD_at (A : FVec Ideal S8192x2048 .f32) (G : FVec Ideal S8192x3072 .f32) (W : FVec Ideal S2048x2048 .f32) (R : Fin 8192) (n : Fin 2048) :
    PROD A G W (ix2 R n) = ∑ k : Fin 2048, terms (ACT A G) W R n k := by
  unfold terms PROD
  generalize ACT A G = B
  pointwise

/-- The reference's result at an index. -/
theorem REF_at (A : FVec Ideal S8192x2048 .f32) (G : FVec Ideal S8192x3072 .f32) (W : FVec Ideal S2048x2048 .f32) (X : FVec Ideal S8192x2048 .f32)
    (pw : FVec Ideal S2048 .f32) (R : Fin 8192) (n : Fin 2048) :
    REF A G W X pw (ix2 R n) = X (ix2 R n) + PROD A G W (ix2 R n) * scale (fun d => PROD A G W (ix2 R d)) * pw (ix1 n) := by
  unfold REF scale
  generalize PROD A G W = Y
  pointwise

end

open Cert.Kernel7Ideal Cert.Kernel7Ideal.Gen

variable (m : (ℓ : Loc nD τ sig) → Buf (Elt Ideal) ℓ)

/-- The blocks' places: rows by `t / 4`, the columns of the product by `t % 4`, the gate's from its column 1024 on. -/
theorem idx : ∀ t : Fin cfg0.N, win0_0.index t = ![t.val / 4, t.val % 4] ∧ win0_1.index t = ![t.val / 4, 2 + t.val % 4]
    ∧ win0_2.index t = ![t.val % 4, 0] ∧ win0_3.index t = ![t.val / 4, 0] ∧ win0_4.index t = ![0, 0]
    ∧ win0_5.index t = ![t.val / 4, 0] ∧ t.val / 4 < 16 :=
  (by decide +kernel : ∀ t : Fin grid0.N, _)

/-- The output's block is written back at the last point of its rows only. -/
theorem flush_last : ∀ t : Fin cfg0.N, (cfg0.win 5).flush t = true → t.val % 4 = 3 := by decide +kernel

/-- The matrix the region reads. -/
theorem V_mat (c : Dev nD) : V m c main_v0 = truncf (F := Ideal) FTy.bf16 (m ((c : Thread nD τ).loc main_arg2)) bitsLt_bf16_f32 := by
  change StableHlo.after hostOps0 _ _ = _
  after_results

/-- The weights the region reads. -/
theorem V_weights (c : Dev nD) : V m c main_v1 = shapeCast S1x2048 (m ((c : Thread nD τ).loc main_arg4)) shapeCasts_S2048_S1x2048 := by
  change StableHlo.after hostOps0 _ _ = _
  after_results
  rfl

/-- The rows of a point's block. -/
theorem rows_at (c : Dev nD) (t : Fin cfg0.N) (r d : Fin 512) (R : Fin 8192) (hR : R.val = 512 * (t.val / 4) + r.val)
    (k : Fin 2048) (hk : k.val = 512 * (t.val % 4) + d.val) :
    iblk m c 0 t (ix2 r d) = m ((c : Thread nD τ).loc main_arg0) (ix2 R k) := by
  blk_ext! [iblk, V, idx t]

/-- The gates of a point's block. -/
theorem gates_at (c : Dev nD) (t : Fin cfg0.N) (r d : Fin 512) (R : Fin 8192) (hR : R.val = 512 * (t.val / 4) + r.val)
    (k : Fin 3072) (hk : k.val = 1024 + (512 * (t.val % 4) + d.val)) :
    iblk m c 1 t (ix2 r d) = m ((c : Thread nD τ).loc main_arg1) (ix2 R k) := by
  blk_ext! [iblk, V, idx t]

/-- The rows of the matrix in a point's block. -/
theorem mat_at (c : Dev nD) (t : Fin cfg0.N) (d : Fin 512) (n : Fin 2048) (k : Fin 2048) (hk : k.val = 512 * (t.val % 4) + d.val) :
    iblk m c 2 t (ix2 d n) = m ((c : Thread nD τ).loc main_arg2) (ix2 k n) := by
  have e : iblk m c 2 t (ix2 d n) = V m c main_v0 (ix2 k n) := by
    blk_ext! [iblk, idx t]
  rw [e, V_mat m c]
  rfl

/-- The layer's input in a point's block. -/
theorem input_at (c : Dev nD) (t : Fin cfg0.N) (r : Fin 512) (n : Fin 2048) (R : Fin 8192) (hR : R.val = 512 * (t.val / 4) + r.val) :
    iblk m c 3 t (ix2 r n) = m ((c : Thread nD τ).loc main_arg3) (ix2 R n) := by
  blk_ext! [iblk, V, idx t]

/-- The weights in a point's block. -/
theorem weights_at (c : Dev nD) (t : Fin cfg0.N) (n : Fin 2048) :
    iblk m c 4 t (ix2 0 n) = m ((c : Thread nD τ).loc main_arg4) (ix1 n) := by
  have e : iblk m c 4 t (ix2 0 n) = V m c main_v1 (ix2 0 n) := by
    blk_ext! [iblk, idx t]
  rw [e, V_weights m c]
  exact asRow_at _ _ n

/-- The first point's share of the product. -/
theorem pay2_at (x g : FVec Ideal S512x512 .f32) (w : FVec Ideal S512x2048 .bf16) (r : Fin 512) (n : Fin 2048) :
    k0_pay2 (F := Ideal) x g w (ix2 r n) = ∑ d : Fin 512, terms (act x g) w r n d :=
  SbOut.pay2_at x g w r n

/-- A later point's share, added to what is there. -/
theorem pay3_at (x g : FVec Ideal S512x512 .f32) (w : FVec Ideal S512x2048 .bf16) (y : FVec Ideal S512x2048 .f32) (r : Fin 512) (n : Fin 2048) :
    k0_pay3 x g w y (ix2 r n) = y (ix2 r n) + ∑ d : Fin 512, terms (act x g) w r n d :=
  SbOut.pay3_at x g w y r n

/-- The finished rows. -/
theorem pay4_at (y x : FVec Ideal S512x2048 .f32) (w : FVec Ideal S1x2048 .f32) (r : Fin 512) (n : Fin 2048) :
    k0_pay4 y x w (ix2 r n) = x (ix2 r n) + y (ix2 r n) * scale (fun d => y (ix2 r d)) * w (ix2 0 n) :=
  SbOut.pay4_at y x w r n

/-- The terms of a product's entry over the kernel's arguments. -/
abbrev argTerms (c : Dev nD) (R : Fin 8192) (n : Fin 2048) : Fin 2048 → EReal :=
  terms (ACT (m ((c : Thread nD τ).loc main_arg0)) (m ((c : Thread nD τ).loc main_arg1))) (m ((c : Thread nD τ).loc main_arg2)) R n

/-- A point's share of an entry is the terms of its columns. -/
theorem share_at (c : Dev nD) (t : Fin cfg0.N) (r : Fin 512) (n : Fin 2048) (R : Fin 8192) (hR : R.val = 512 * (t.val / 4) + r.val)
    (d : Fin 512) : terms (M := 512) (K := 512) (N := 2048) (act (iblk m c 0 t) (iblk m c 1 t)) (iblk m c 2 t) r n d
      = argTerms m c R n ⟨512 * (t.val % 4) + d.val, by omega⟩ := by
  unfold argTerms terms act
  rw [ACT_at, rows_at m c t r d R hR ⟨512 * (t.val % 4) + d.val, by omega⟩ rfl,
    gates_at m c t r d R hR ⟨1024 + (512 * (t.val % 4) + d.val), by omega⟩ rfl, mat_at m c t d n ⟨512 * (t.val % 4) + d.val, by omega⟩ rfl]

/-- After every point the scratch holds the products over the columns seen so far. -/
theorem scratch_at (c : Dev nD) (r : Fin 512) (n : Fin 2048) : ∀ (t : ℕ) (ht : t < cfg0.N) (R : Fin 8192), R.val = 512 * (t / 4) + r.val →
    (outsAt0 m c t ht).2 (ix2 r n) = upto (argTerms m c R n) (512 * (t % 4) + 512) := by
  intro t
  induction t with
  | zero =>
    intro ht R hR
    rw [outsAt0_A m c ⟨0, ht⟩ rfl (by dsimp only; omega) (by dsimp only; omega)]
    frame_out
    rw [pay2_at]
    exact (upto_first _ _ (by omega) fun d => (share_at m c ⟨0, ht⟩ r n R hR d).trans (congrArg _ (Fin.ext (by simp)))).symm
  | succ t ih =>
    intro ht R hR
    have hN : t + 1 < 64 := lt_of_lt_of_eq ht (show cfg0.N = 64 from N_0)
    by_cases h0 : (t + 1) % 4 = 0
    · rw [outsAt0_A m c ⟨t + 1, ht⟩ h0 (by dsimp only; omega) (by dsimp only; omega)]
      frame_out
      rw [pay2_at, h0]
      exact (upto_first _ _ (by omega) fun d => (share_at m c ⟨t + 1, ht⟩ r n R hR d).trans (congrArg _ (Fin.ext (by simp [h0])))).symm
    · have e : 512 * ((t + 1) % 4) + 512 = 512 * (t % 4) + 512 + 512 := by omega
      have next : k0_pay3 (iblk m c 0 ⟨t + 1, ht⟩) (iblk m c 1 ⟨t + 1, ht⟩) (iblk m c 2 ⟨t + 1, ht⟩) (outsAt0 m c t (by omega)).2 (ix2 r n)
          = upto (argTerms m c R n) (512 * ((t + 1) % 4) + 512) := by
        rw [pay3_at, ih (by omega) R (by omega), e]
        exact (upto_next _ _ _ (by omega) fun d => (share_at m c ⟨t + 1, ht⟩ r n R hR d).trans
          (congrArg _ (Fin.ext (by dsimp only; omega)))).symm
      by_cases h2 : (t + 1) % 4 = 3
      · rw [outsAt0_C m c ⟨t + 1, ht⟩ h0 (by dsimp only; omega) h2]
        frame_out
        simp only [read_unread_whole]
        exact next
      · rw [outsAt0_B m c ⟨t + 1, ht⟩ h0 (by dsimp only; omega) h2]
        frame_out
        simp only [read_unread_whole]
        exact next

/-- At the last point of its rows the output is the finished rows of the scratch. -/
theorem out_eq (c : Dev nD) (t : Fin cfg0.N) (h : t.val % 4 = 3) : (outsAt0 m c t.val t.isLt).1
    = k0_pay4 (outsAt0 m c t.val t.isLt).2 (iblk m c 3 t) (iblk m c 4 t) := by
  rw [outsAt0_C m c t (by omega) (by omega) h]
  frame_out

/-- The scratch after the last point of its rows holds the products. -/
theorem product_at (c : Dev nD) (t : Fin cfg0.N) (h : t.val % 4 = 3) (r : Fin 512) (n : Fin 2048) (R : Fin 8192)
    (hR : R.val = 512 * (t.val / 4) + r.val) : (outsAt0 m c t.val t.isLt).2 (ix2 r n)
    = PROD (m ((c : Thread nD τ).loc main_arg0)) (m ((c : Thread nD τ).loc main_arg1)) (m ((c : Thread nD τ).loc main_arg2)) (ix2 R n) := by
  rw [scratch_at m c r n t.val t.isLt R hR, h, PROD_at]
  exact upto_all _

/-- The reference's result over the kernel's arguments. -/
abbrev REF7 (c : Dev nD) : FVec Ideal S8192x2048 .f32 :=
  REF (m ((c : Thread nD τ).loc main_arg0)) (m ((c : Thread nD τ).loc main_arg1)) (m ((c : Thread nD τ).loc main_arg2))
    (m ((c : Thread nD τ).loc main_arg3)) (m ((c : Thread nD τ).loc main_arg4))

/-- What is written back is the reference's result, entry by entry. -/
theorem point (c : Dev nD) (t : Fin cfg0.N) (h : t.val % 4 = 3) (r : Fin 512) (n : Fin 2048) (R : Fin 8192)
    (hR : R.val = 512 * (t.val / 4) + r.val) :
    k0_pay4 (outsAt0 m c t.val t.isLt).2 (iblk m c 3 t) (iblk m c 4 t) (ix2 r n) = REF7 m c (ix2 R n) := by
  rw [pay4_at, REF7, REF_at, input_at m c t r n R hR, weights_at m c t n]
  simp only [fun d => product_at m c t h r d R hR]

/-- The output's array after the run. -/
theorem final (c : Dev nD) : (dats m 0 c).arrAt 5 (cfgs 0).N = REF7 m c := by
  refine (dats m 0 c).arrAt_eq_of_covers 5 _ (by decide +kernel) fun t hf y => ?_
  have h := flush_last t hf
  blk_simp
  rw [after0_5, out_eq m c t h]
  obtain ⟨r, n, rfl⟩ : ∃ (r : Fin 512) (n : Fin 2048), y = ix2 r n := ⟨y 0, y 1, eq_ix2 y⟩
  have := (idx t).2.2.2.2.2.2
  refine (point m c t h r n ⟨512 * (t.val / 4) + r.val, by omega⟩ rfl).trans ?_
  symm
  blk_ext! [idx t]

/-- The kernel's run: the result is the reference's, the arguments are as they were. -/
theorem run (ρ) : θ_run defs (onTc (τ := τ) (main (F := Ideal))) ⟨m, fun _ => 0, ρ⟩ (fun r => ∀ c : Dev nD,
    r.2.mem ((c : Thread nD τ).loc main_v2) = REF7 m c ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) :=
  (θ_run defs _ _).mono (fun _ h c => ⟨((h.2 c).1 5).trans (final m c), h.1 c⟩) (θ_run_and (unchanged m ρ) (run_main m ρ))

end Cert.MlaOut

end
-- ==== Proof.SbBody.lean ====
/-
  What the body of the prompt's stick-breaking attention computes at one grid point, read at an index.
-/
module

public import proofs.«01_k».proof.Proof.Normal
public import proofs.«01_k».proof.Proof.Gen.Kernel8Ideal.Skeleton
public import Idealize.ShloMosaic.Lib.Pipeline.ValueKit
public import Idealize.ShloMosaic.Lib.Pointwise
public import Idealize.ShloMosaic.Lib.WordCmp

@[expose] public section

set_option maxRecDepth 16384

noncomputable section

namespace Cert.Sbp

open Idealize.ShloMosaic Cert.Kernel8Ideal Cert.Kernel8Ideal.Gen Cert.Attn

theorem k_at (v : Vec Ideal S512x128 .f32) (j : Fin 512) (d : Fin 128) : k0_pay4 (F := Ideal) v (ix2 j d) = v (ix2 j d) := by
  pointwise [k0_pay4]

theorem ind_word (p : Prop) [Decidable p] : (FloatOps.sitofp (F := Ideal) FTy.f32 (BitVec.setWidth 32 (BitVec.ofBool (decide p))) : EReal) = if p then 1 else 0 := by
  by_cases h : p
  · rw [decide_eq_true h, if_pos h]
    show (((BitVec.setWidth 32 (BitVec.ofBool true)).toInt : ℝ) : EReal) = 1
    rw [show (BitVec.setWidth 32 (BitVec.ofBool true)).toInt = 1 by decide]
    simp
  · rw [decide_eq_false h, if_neg h]
    show (((BitVec.setWidth 32 (BitVec.ofBool false)).toInt : ℝ) : EReal) = 0
    rw [show (BitVec.setWidth 32 (BitVec.ofBool false)).toInt = 0 by decide]
    simp

/-- The matrix that picks the later entries of a block. -/
theorem usel_at (k c : Fin 128) : k0_pay6 (F := Ideal) (ix2 k c) = if c.val < k.val then 1 else 0 := by
  pointwise [k0_pay6]
  rw [WordCmp.cmpi_sgt_ofNat (by omega) (by omega)]
  exact ind_word _

theorem z_at (K : FVec Ideal S512x128 .bf16) (q : Vec Ideal S2048x128 .bf16) (r : Fin 2048) (j : Fin 512) :
    k0_pay13 (F := Ideal) K q (ix2 r j) = ∑ x : Fin 128, q (ix2 r x) * K (ix2 j x) := by
  pointwise [k0_pay13]

theorem andi_511 (r : Fin 2048) : IntOp.andi (BitVec.ofNat 32 r.val) 511#32 = BitVec.ofNat 32 (r.val % 512) := by
  revert r; decide +kernel

/-- On the diagonal a query sees the keys before it. -/
theorem mask_at (r : Fin 2048) (j : Fin 512) : k0_pay12 (ix2 r j) = BitVec.ofBool (decide (j.val < r.val % 512)) := by
  pointwise [k0_pay12]
  rw [andi_511, WordCmp.cmpi_slt_ofNat (by omega) (by omega)]

/-! ### The softplus, at base two -/

/-- `log2 (1 + 2 ^ x)`, as the body computes it. -/
def sp2 (x : ℝ) : ℝ := max x 0 + Real.log (1 + (2 : ℝ) ^ (-|x|)) * invLn2

theorem coe_max (x y : ℝ) : ((max x y : ℝ) : EReal) = max (x : EReal) (y : EReal) :=
  EReal.coe_strictMono.monotone.map_max

theorem abs_coe (x : ℝ) : (FloatOps.absf (F := Ideal) (φ := .f32) (x : EReal) : EReal) = ((|x| : ℝ) : EReal) := by
  show max (x : EReal) (-(x : EReal)) = _
  rw [← EReal.coe_neg, ← coe_max]
  rfl

theorem log_one_add {y : ℝ} (hy : 0 < y) : Ideal.log (1 + (y : EReal)) = ((Real.log (1 + y) : ℝ) : EReal) := by
  rw [← EReal.coe_one, ← EReal.coe_add, Ideal.log_coe, if_neg (by linarith)]

theorem sp_of (x : ℝ) : max (x : EReal) 0 + Ideal.log (1 + (FloatOps.exp2 (F := Ideal) (φ := .f32) (0 - FloatOps.absf (F := Ideal) (φ := .f32) (x : EReal)) : EReal))
      * (invLn2 : EReal) = ((sp2 x : ℝ) : EReal) := by
  rw [abs_coe, zero_sub, ← EReal.coe_neg]
  show max (x : EReal) 0 + Ideal.log (1 + Ideal.exp2 _) * _ = _
  rw [Ideal.exp2_coe]
  show max (x : EReal) 0 + Ideal.log (1 + (((2 : ℝ) ^ (-|x|) : ℝ) : EReal)) * _ = _
  rw [log_one_add (Real.rpow_pos_of_pos (by norm_num) _), ← EReal.coe_zero, ← coe_max, ← EReal.coe_mul, ← EReal.coe_add]
  rfl

theorem log2e_eq : Named.named (F := Ideal) κ "log2e" (φ := .f32) 0x3FB8AA3B#32 = (invLn2 : EReal) := rfl

theorem sp_at (K : FVec Ideal S512x128 .bf16) (q : Vec Ideal S2048x128 .bf16) (r : Fin 2048) (j : Fin 512) (x : ℝ)
    (hx : k0_pay13 (F := Ideal) K q (ix2 r j) = (x : EReal)) :
    k0_pay14 (F := Ideal) K q (ix2 r j) = ((sp2 x : ℝ) : EReal) := by
  generalize hS : k0_pay13 (F := Ideal) K q = S at hx
  pointwise [k0_pay14, hS]
  rw [hx]
  exact sp_of x

/-- The logarithm, at base two, of what a key leaves, when every key of the block is seen … -/
theorem left_at (K : FVec Ideal S512x128 .bf16) (q : Vec Ideal S2048x128 .bf16) (r : Fin 2048) (j : Fin 512) (x : ℝ)
    (hx : k0_pay13 (F := Ideal) K q (ix2 r j) = (x : EReal)) :
    k0_pay26 (F := Ideal) K q (ix2 r j) = ((-sp2 x : ℝ) : EReal) := by
  have h : k0_pay25 (F := Ideal) K q (ix2 r j) = ((sp2 x : ℝ) : EReal) := sp_at K q r j x hx
  generalize hS : k0_pay25 (F := Ideal) K q = S at h
  pointwise [k0_pay26, hS]
  rw [h, zero_sub, ← EReal.coe_neg]

/-- … and on the diagonal. -/
theorem left_masked_at (K : FVec Ideal S512x128 .bf16) (q : Vec Ideal S2048x128 .bf16) (r : Fin 2048) (j : Fin 512) (x : ℝ)
    (hx : k0_pay13 (F := Ideal) K q (ix2 r j) = (x : EReal)) :
    k0_pay15 (F := Ideal) K q (ix2 r j) = ((if j.val < r.val % 512 then -sp2 x else 0 : ℝ) : EReal) := by
  have h := sp_at K q r j x hx
  have hm := mask_at r j
  generalize hS : k0_pay14 (F := Ideal) K q = S at h
  generalize hM : k0_pay12 = M at hm
  pointwise [k0_pay15, hS, hM]
  rw [h, hm, zero_sub, ← EReal.coe_neg]
  by_cases c : j.val < r.val % 512
  · rw [decide_eq_true c, if_pos c]; rfl
  · rw [decide_eq_false c, if_neg c]; rfl

/-! ### Sums of the later entries -/

/-- A block of 128 columns. -/
abbrev cols (L : FVec Ideal S2048x512 .f32) (n : ℕ) (h : S2048x512.Slices ![0, n] S2048x128) : FVec Ideal S2048x128 .f32 :=
  extractStridedSlice S2048x128 ![0, n] L h

theorem cols_ok (b : Fin 4) : S2048x512.Slices ![0, 128 * b.val] S2048x128 := by
  revert b; decide

theorem cols_at (L : FVec Ideal S2048x512 .f32) (b : Fin 4) (r : Fin 2048) (k : Fin 128) :
    cols L (128 * b.val) (cols_ok b) (ix2 r k) = L (ix2 r ⟨128 * b.val + k.val, by omega⟩) := by
  refine congrArg L (funext fun a => Fin.ext ?_)
  match a with
  | (0 : Fin 2) => exact Nat.zero_add _
  | (1 : Fin 2) => rfl

/-- The four blocks' rows one after another. -/
def stacked (L : FVec Ideal S2048x512 .f32) : FVec Ideal S8192x128 .f32 :=
  concatenate S8192x128 0 [⟨S2048x128, cols L 0 slices_S2048x512_o0_0_S2048x128⟩,
    ⟨S2048x128, cols L 128 slices_S2048x512_o0_128_S2048x128⟩, ⟨S2048x128, cols L 256 slices_S2048x512_o0_256_S2048x128⟩,
    ⟨S2048x128, cols L 384 slices_S2048x512_o0_384_S2048x128⟩] concatenates_S2048x128_S2048x128_S2048x128_S2048x128_S8192x128_d0

theorem stacked_at (L : FVec Ideal S2048x512 .f32) (b : Fin 4) (r : Fin 2048) (k : Fin 128) :
    stacked L (ix2 ⟨2048 * b.val + r.val, by omega⟩ k) = L (ix2 r ⟨128 * b.val + k.val, by omega⟩) := by
  have e := concatenate_ofFn_apply (t := S8192x128) (s₁ := S2048x128) (0 : Fin 2) (N := 4)
    (fun n => cols L (128 * n.val) (cols_ok n))
    concatenates_S2048x128_S2048x128_S2048x128_S2048x128_S8192x128_d0
    rfl 2048 rfl (ix2 ⟨2048 * b.val + r.val, by omega⟩ k) b (by show (2048 * b.val + r.val) / 2048 = b.val; omega) (ix2 r k)
    (by show r.val = (2048 * b.val + r.val) % 2048; omega)
    (by intro b hb; match b, hb with
        | 0, hb => exact absurd rfl hb
        | 1, _ => rfl)
  exact e.trans (cols_at L b r k)

/-- The sums of the later entries of each block of 128, the four blocks' rows one after another. -/
def suffixes (L : FVec Ideal S2048x512 .f32) (U : FVec Ideal S128x128 .bf16) : FVec Ideal S8192x128 .f32 :=
  addf (matmul dot_S8192x128_S128x128_S8192x128_1_0_0_1_n_n none (truncf .bf16 (stacked L) bitsLt_bf16_f32) U (constant (F := Ideal) S8192x128 .f32 0x00000000#32))
    (matmul dot_S8192x128_S128x128_S8192x128_1_0_0_1_n_n none
      (truncf .bf16 (subf (stacked L) (extf .f32 (truncf .bf16 (stacked L) bitsLt_bf16_f32) bitsLt_bf16_f32)) bitsLt_bf16_f32) U (constant (F := Ideal) S8192x128 .f32 0x00000000#32))

theorem suffixes_masked (K : FVec Ideal S512x128 .bf16) (U : FVec Ideal S128x128 .bf16) (q : Vec Ideal S2048x128 .bf16) :
    k0_pay20 (F := Ideal) K U q = suffixes (k0_pay15 (F := Ideal) K q) U := rfl

theorem suffixes_seen (K : FVec Ideal S512x128 .bf16) (U : FVec Ideal S128x128 .bf16) (q : Vec Ideal S2048x128 .bf16) :
    k0_pay31 (F := Ideal) K U q = suffixes (k0_pay26 (F := Ideal) K q) U := rfl

theorem suffixes_at (L : FVec Ideal S2048x512 .f32) (U : FVec Ideal S128x128 .bf16) (r : Fin 8192) (c : Fin 128) :
    suffixes L U (ix2 r c) = (∑ k : Fin 128, stacked L (ix2 r k) * U (ix2 k c))
      + ∑ k : Fin 128, (stacked L (ix2 r k) - stacked L (ix2 r k)) * U (ix2 k c) := by
  generalize hS : stacked L = S
  pointwise [suffixes, hS]

theorem sum_block (g : ℕ → ℝ) (n : ℕ) : ∑ k : Fin 128, g (n + k.val) = ∑ i ∈ Finset.Ico n (n + 128), g i := by
  rw [Finset.sum_Ico_eq_sum_range, Nat.add_sub_cancel_left, Fin.sum_univ_eq_sum_range fun i => g (n + i)]

theorem sum_later (g : ℕ → ℝ) (n : ℕ) (c : Fin 128) :
    ∑ k : Fin 128, (if c.val < k.val then g (n + k.val) else 0) = ∑ i ∈ Finset.Ico (n + c.val + 1) (n + 128), g i := by
  have h := sum_block (fun i => if n + c.val < i then g i else 0) n
  simp only [Nat.add_lt_add_iff_left] at h
  rw [h, ← Finset.sum_filter]
  refine Finset.sum_congr (Finset.ext fun i => ?_) fun _ _ => rfl
  simp only [Finset.mem_filter, Finset.mem_Ico]
  omega

theorem suffix_real (L : FVec Ideal S2048x512 .f32) (g : ℕ → ℝ) (r : Fin 2048) (hL : ∀ j : Fin 512, L (ix2 r j) = (g j.val : EReal)) (b : Fin 4) (c : Fin 128) :
    suffixes L (k0_pay6 (F := Ideal)) (ix2 ⟨2048 * b.val + r.val, by omega⟩ c)
      = ((∑ i ∈ Finset.Ico (128 * b.val + c.val + 1) (128 * b.val + 128), g i : ℝ) : EReal) := by
  rw [suffixes_at, ← sum_later g, coe_sum]
  have h2 : ∀ k : Fin 128, (stacked L (ix2 ⟨2048 * b.val + r.val, by omega⟩ k) - stacked L (ix2 ⟨2048 * b.val + r.val, by omega⟩ k))
      * k0_pay6 (F := Ideal) (ix2 k c) = 0 := fun k => by
    rw [stacked_at, hL, ← EReal.coe_sub, sub_self, EReal.coe_zero, zero_mul]
  simp only [h2, Finset.sum_const_zero, add_zero]
  refine Finset.sum_congr rfl fun k _ => ?_
  rw [stacked_at, hL, usel_at]
  by_cases h : c.val < k.val
  · rw [if_pos h, if_pos h, mul_one]
  · rw [if_neg h, if_neg h, mul_zero, EReal.coe_zero]

/-! ### The carried logarithm -/

/-- A number for each row, plus the sum of the row's entries in a block of columns. -/
def plus (a : FVec Ideal S2048x1 .f32) (L : FVec Ideal S2048x512 .f32) (n : ℕ) (h : S2048x512.Slices ![0, n] S2048x128) : FVec Ideal S2048x1 .f32 :=
  addf a (shapeCast S2048x1 (multiReduction .add [1] S2048 (cols L n h) 0x00000000#32 reduces_S2048x128_S2048 (.inl rfl) rfl) shapeCasts_S2048_S2048x1)

theorem plus_at (a : FVec Ideal S2048x1 .f32) (L : FVec Ideal S2048x512 .f32) (g : ℕ → ℝ) (r : Fin 2048) (hL : ∀ j : Fin 512, L (ix2 r j) = (g j.val : EReal))
    (b : Fin 4) (x : ℝ) (ha : a (ix2 r 0) = (x : EReal)) :
    plus a L (128 * b.val) (cols_ok b) (ix2 r 0) = ((x + ∑ i ∈ Finset.Ico (128 * b.val) (128 * b.val + 128), g i : ℝ) : EReal) := by
  have e : ∀ C : FVec Ideal S2048x128 .f32, addf a (shapeCast S2048x1 (multiReduction .add [1] S2048 C 0x00000000#32 reduces_S2048x128_S2048 (.inl rfl) rfl) shapeCasts_S2048_S2048x1) (ix2 r 0)
      = a (ix2 r 0) + ∑ k : Fin 128, C (ix2 r k) := fun C => by
    pointwise []
  rw [plus, e, ha, ← sum_block, EReal.coe_add, coe_sum]
  exact congrArg ((x : EReal) + ·) (Finset.sum_congr rfl fun k _ => (cols_at L b r k).trans (hL _))

end Cert.Sbp

end
-- ==== Proof.SbWeights.lean ====
/-
  The carried logarithm and the weighted sum after a block of keys, read at an index over the reals: each key's weight is
  two to its score, less its softplus, less the softplus of the later keys.
-/
module

public import proofs.«01_k».proof.Proof.SbBody

@[expose] public section

set_option maxRecDepth 16384

noncomputable section

namespace Cert.Sbp

open Idealize.ShloMosaic Cert.Kernel8Ideal Cert.Kernel8Ideal.Gen Cert.Attn

/-- What comes after each key: the later keys of its block of 128, and the number carried over the later blocks. -/
def laters (S : FVec Ideal S8192x128 .f32) (c0 c1 c2 c3 : FVec Ideal S2048x1 .f32) : FVec Ideal S2048x512 .f32 :=
  concatenate S2048x512 1
    [⟨S2048x128, addf (extractStridedSlice S2048x128 ![0, 0] S slices_S8192x128_o0_0_S2048x128) (broadcastTo S2048x128 c0 broadcasts_S2048x1_S2048x128)⟩,
    ⟨S2048x128, addf (extractStridedSlice S2048x128 ![2048, 0] S slices_S8192x128_o2048_0_S2048x128) (broadcastTo S2048x128 c1 broadcasts_S2048x1_S2048x128)⟩,
    ⟨S2048x128, addf (extractStridedSlice S2048x128 ![4096, 0] S slices_S8192x128_o4096_0_S2048x128) (broadcastTo S2048x128 c2 broadcasts_S2048x1_S2048x128)⟩,
    ⟨S2048x128, addf (extractStridedSlice S2048x128 ![6144, 0] S slices_S8192x128_o6144_0_S2048x128) (broadcastTo S2048x128 c3 broadcasts_S2048x1_S2048x128)⟩]
    concatenates_S2048x128_S2048x128_S2048x128_S2048x128_S2048x512_d1

theorem rows_ok (b : Fin 4) : S8192x128.Slices ![2048 * b.val, 0] S2048x128 := by
  revert b; decide

/-- One block's columns of it. -/
def laterCols (S : FVec Ideal S8192x128 .f32) (C : Fin 4 → FVec Ideal S2048x1 .f32) (b : Fin 4) : FVec Ideal S2048x128 .f32 :=
  addf (extractStridedSlice S2048x128 ![2048 * b.val, 0] S (rows_ok b)) (broadcastTo S2048x128 (C b) broadcasts_S2048x1_S2048x128)

theorem laterCols_at (S : FVec Ideal S8192x128 .f32) (C : Fin 4 → FVec Ideal S2048x1 .f32) (b : Fin 4) (r : Fin 2048) (c : Fin 128) :
    laterCols S C b (ix2 r c) = S (ix2 ⟨2048 * b.val + r.val, by omega⟩ c) + C b (ix2 r 0) := by
  have e : extractStridedSlice S2048x128 ![2048 * b.val, 0] S (rows_ok b) (ix2 r c) = S (ix2 ⟨2048 * b.val + r.val, by omega⟩ c) := by
    refine congrArg S (funext fun a => Fin.ext ?_)
    match a with
    | (0 : Fin 2) => rfl
    | (1 : Fin 2) => exact Nat.zero_add _
  generalize hE : extractStridedSlice S2048x128 ![2048 * b.val, 0] S (rows_ok b) = X at e
  pointwise [laterCols, hE]
  rw [e]

theorem laters_at (S : FVec Ideal S8192x128 .f32) (C : Fin 4 → FVec Ideal S2048x1 .f32) (b : Fin 4) (r : Fin 2048) (c : Fin 128) :
    laters S (C 0) (C 1) (C 2) (C 3) (ix2 r ⟨128 * b.val + c.val, by omega⟩) = S (ix2 ⟨2048 * b.val + r.val, by omega⟩ c) + C b (ix2 r 0) := by
  have e := concatenate_ofFn_apply (t := S2048x512) (s₁ := S2048x128) (1 : Fin 2) (N := 4)
    (fun n => laterCols S C n)
    concatenates_S2048x128_S2048x128_S2048x128_S2048x128_S2048x512_d1
    rfl 128 rfl (ix2 r ⟨128 * b.val + c.val, by omega⟩) b (by show (128 * b.val + c.val) / 128 = b.val; omega) (ix2 r c)
    (by show c.val = (128 * b.val + c.val) % 128; omega)
    (by intro b hb; match b, hb with
        | 0, _ => rfl
        | 1, hb => exact absurd rfl hb)
  exact e.trans (laterCols_at S C b r c)

/-- The carried number before each block of 128 keys, from the last block to the first, and after them all. -/
def carry (l : FVec Ideal S2048x1 .f32) (L : FVec Ideal S2048x512 .f32) : Fin 5 → FVec Ideal S2048x1 .f32
  | 4 => l
  | 3 => plus l L (128 * (3 : Fin 4).val) (cols_ok 3)
  | 2 => plus (plus l L (128 * (3 : Fin 4).val) (cols_ok 3)) L (128 * (2 : Fin 4).val) (cols_ok 2)
  | 1 => plus (plus (plus l L (128 * (3 : Fin 4).val) (cols_ok 3)) L (128 * (2 : Fin 4).val) (cols_ok 2)) L (128 * (1 : Fin 4).val) (cols_ok 1)
  | 0 => plus (plus (plus (plus l L (128 * (3 : Fin 4).val) (cols_ok 3)) L (128 * (2 : Fin 4).val) (cols_ok 2)) L (128 * (1 : Fin 4).val) (cols_ok 1)) L
      (128 * (0 : Fin 4).val) (cols_ok 0)

section
variable (l : FVec Ideal S2048x1 .f32) (L : FVec Ideal S2048x512 .f32) (g : ℕ → ℝ) (r : Fin 2048) (x : ℝ)
  (hL : ∀ j : Fin 512, L (ix2 r j) = (g j.val : EReal)) (hl : l (ix2 r 0) = (x : EReal))
include hL hl

theorem carry_at (b : Fin 5) : carry l L b (ix2 r 0) = ((x + ∑ i ∈ Finset.Ico (128 * b.val) 512, g i : ℝ) : EReal) := by
  have e4 : carry l L 4 (ix2 r 0) = ((x + ∑ i ∈ Finset.Ico 512 512, g i : ℝ) : EReal) := by
    rw [Finset.Ico_self, Finset.sum_empty, add_zero]; exact hl
  have add : ∀ a b : ℕ, a ≤ b → b ≤ 512 → x + ∑ i ∈ Finset.Ico b 512, g i + ∑ i ∈ Finset.Ico a b, g i = x + ∑ i ∈ Finset.Ico a 512, g i := fun a b h h' => by
    rw [← Finset.sum_Ico_consecutive g h h']; ring
  have e3 := plus_at (carry l L 4) L g r hL 3 _ e4
  rw [show 128 * (3 : Fin 4).val + 128 = 512 from rfl, add _ _ (by decide) (by decide)] at e3
  have e2 := plus_at (carry l L 3) L g r hL 2 _ e3
  rw [show 128 * (2 : Fin 4).val + 128 = 128 * (3 : Fin 4).val from rfl, add _ _ (by decide) (by decide)] at e2
  have e1 := plus_at (carry l L 2) L g r hL 1 _ e2
  rw [show 128 * (1 : Fin 4).val + 128 = 128 * (2 : Fin 4).val from rfl, add _ _ (by decide) (by decide)] at e1
  have e0 := plus_at (carry l L 1) L g r hL 0 _ e1
  rw [show 128 * (0 : Fin 4).val + 128 = 128 * (1 : Fin 4).val from rfl, add _ _ (by decide) (by decide)] at e0
  match b with
  | 0 => exact e0
  | 1 => exact e1
  | 2 => exact e2
  | 3 => exact e3
  | 4 => exact e4

theorem laters_real (j : Fin 512) :
    laters (suffixes L (k0_pay6 (F := Ideal))) (carry l L 1) (carry l L 2) (carry l L 3) (carry l L 4) (ix2 r j)
      = ((x + ∑ i ∈ Finset.Ico (j.val + 1) 512, g i : ℝ) : EReal) := by
  have e := laters_at (suffixes L (k0_pay6 (F := Ideal))) (fun b => carry l L b.succ) ⟨j.val / 128, by omega⟩ r ⟨j.val % 128, by omega⟩
  rw [suffix_real L g r hL] at e
  have ej : (⟨128 * (⟨j.val / 128, by omega⟩ : Fin 4).val + (⟨j.val % 128, by omega⟩ : Fin 128).val, by simp only; omega⟩ : Fin 512) = j := Fin.ext (by simp only; omega)
  rw [ej] at e
  refine e.trans ?_
  have c := carry_at l L g r x hL hl (⟨j.val / 128, by omega⟩ : Fin 4).succ
  refine (congrArg (_ + ·) c).trans ?_
  rw [← EReal.coe_add]
  refine congrArg _ ?_
  rw [← Finset.sum_Ico_consecutive g (show j.val + 1 ≤ 128 * (j.val / 128) + 128 by omega) (show 128 * (j.val / 128) + 128 ≤ 512 by omega)]
  have e1 : 128 * (j.val / 128) + j.val % 128 + 1 = j.val + 1 := by omega
  have e2 : 128 * (j.val / 128 + 1) = 128 * (j.val / 128) + 128 := by omega
  simp only [Fin.val_succ, e1, e2]
  ring

end

/-! ### After a block of keys all of which are seen -/

section
variable (x1 x2 : Vec Ideal S512x128 .f32) (q : Vec Ideal S2048x128 .bf16) (l : FVec Ideal S2048x1 .f32) (a : FVec Ideal S2048x128 .f32)

/-- The carried logarithm … -/
def seenL : FVec Ideal S2048x1 .f32 := k0_pay10 (F := Ideal) (k0_pay35 (F := Ideal) (k0_pay4 (F := Ideal) x1) q l)

/-- … and the weighted sum. -/
def seenA : FVec Ideal S2048x128 .f32 :=
  k0_pay11 (F := Ideal) x2 (k0_pay24 (F := Ideal) (k0_pay4 (F := Ideal) x1) q) l (k0_pay25 (F := Ideal) (k0_pay4 (F := Ideal) x1) q)
    (k0_pay31 (F := Ideal) (k0_pay4 (F := Ideal) x1) (k0_pay6 (F := Ideal)) q) (k0_pay32 (F := Ideal) (k0_pay4 (F := Ideal) x1) q l)
    (k0_pay33 (F := Ideal) (k0_pay4 (F := Ideal) x1) q l) (k0_pay36 (F := Ideal) (k0_pay4 (F := Ideal) x1) (k0_pay6 (F := Ideal)) q l) a

/-- The same on the diagonal. -/
def maskedL : FVec Ideal S2048x1 .f32 :=
  k0_pay8 (F := Ideal) (k0_pay16 (F := Ideal) (k0_pay4 (F := Ideal) x1) q) (k0_pay22 (F := Ideal) (k0_pay4 (F := Ideal) x1) q l) (k0_pay23 (F := Ideal) (k0_pay4 (F := Ideal) x1) q)

def maskedA : FVec Ideal S2048x128 .f32 :=
  k0_pay9 (F := Ideal) x2 k0_pay12 (k0_pay13 (F := Ideal) (k0_pay4 (F := Ideal) x1) q) l (k0_pay14 (F := Ideal) (k0_pay4 (F := Ideal) x1) q)
    (k0_pay20 (F := Ideal) (k0_pay4 (F := Ideal) x1) (k0_pay6 (F := Ideal)) q) (k0_pay21 (F := Ideal) (k0_pay4 (F := Ideal) x1) q l)
    (k0_pay22 (F := Ideal) (k0_pay4 (F := Ideal) x1) q l) (k0_pay23 (F := Ideal) (k0_pay4 (F := Ideal) x1) q) a

theorem seenL_eq : seenL x1 q l = carry l (k0_pay26 (F := Ideal) (k0_pay4 (F := Ideal) x1) q) 0 := by
  rw [seenL, k0_pay10]
  rw [shapeCast_self]
  rfl

theorem maskedL_eq : maskedL x1 q l = carry l (k0_pay15 (F := Ideal) (k0_pay4 (F := Ideal) x1) q) 0 := by
  rw [maskedL, k0_pay8]
  dsimp only
  rw [shapeCast_self]
  rfl

/-- The sum of the weights times the values, given the scores, the softplus and what comes after each key. -/
def weighted (z sp Λ : FVec Ideal S2048x512 .f32) : FVec Ideal S2048x128 .f32 :=
  addf a (matmul dot_S2048x512_S512x128_S2048x128_1_0_0_1_n_n none (truncf .bf16 (exp2 (addf (subf z sp) Λ)) bitsLt_bf16_f32) (k0_pay5 (F := Ideal) x2)
    (constant (F := Ideal) S2048x128 .f32 0x00000000#32))

/-- The same with the keys the mask leaves. -/
def weightedMasked (z sp Λ : FVec Ideal S2048x512 .f32) : FVec Ideal S2048x128 .f32 :=
  addf a (matmul dot_S2048x512_S512x128_S2048x128_1_0_0_1_n_n none
    (truncf .bf16 (select k0_pay12 (exp2 (addf (subf z sp) Λ)) (broadcast S2048x512 (Scalar.ofBits (F := Ideal) .f32 0x00000000#32))) bitsLt_bf16_f32) (k0_pay5 (F := Ideal) x2)
    (constant (F := Ideal) S2048x128 .f32 0x00000000#32))

theorem seenA_eq : seenA x1 x2 q l a = weighted x2 a (k0_pay13 (F := Ideal) (k0_pay4 (F := Ideal) x1) q) (k0_pay14 (F := Ideal) (k0_pay4 (F := Ideal) x1) q)
    (laters (suffixes (k0_pay26 (F := Ideal) (k0_pay4 (F := Ideal) x1) q) (k0_pay6 (F := Ideal))) (carry l (k0_pay26 (F := Ideal) (k0_pay4 (F := Ideal) x1) q) 1)
      (carry l (k0_pay26 (F := Ideal) (k0_pay4 (F := Ideal) x1) q) 2) (carry l (k0_pay26 (F := Ideal) (k0_pay4 (F := Ideal) x1) q) 3) (carry l (k0_pay26 (F := Ideal) (k0_pay4 (F := Ideal) x1) q) 4)) := by
  rw [seenA, k0_pay11]
  rw [shapeCast_self]
  rfl

theorem maskedA_eq : maskedA x1 x2 q l a = weightedMasked x2 a (k0_pay13 (F := Ideal) (k0_pay4 (F := Ideal) x1) q) (k0_pay14 (F := Ideal) (k0_pay4 (F := Ideal) x1) q)
    (laters (suffixes (k0_pay15 (F := Ideal) (k0_pay4 (F := Ideal) x1) q) (k0_pay6 (F := Ideal))) (carry l (k0_pay15 (F := Ideal) (k0_pay4 (F := Ideal) x1) q) 1)
      (carry l (k0_pay15 (F := Ideal) (k0_pay4 (F := Ideal) x1) q) 2) (carry l (k0_pay15 (F := Ideal) (k0_pay4 (F := Ideal) x1) q) 3) (carry l (k0_pay15 (F := Ideal) (k0_pay4 (F := Ideal) x1) q) 4)) := by
  rw [maskedA, k0_pay9]
  rw [shapeCast_self]
  rfl

theorem v_at (j : Fin 512) (d : Fin 128) : k0_pay5 (F := Ideal) x2 (ix2 j d) = x2 (ix2 j d) := by
  pointwise [k0_pay5]

theorem weighted_at (z sp Λ : FVec Ideal S2048x512 .f32) (r : Fin 2048) (d : Fin 128) :
    weighted x2 a z sp Λ (ix2 r d) = a (ix2 r d) + ∑ j : Fin 512, Ideal.exp2 (z (ix2 r j) - sp (ix2 r j) + Λ (ix2 r j)) * x2 (ix2 j d) := by
  rw [weighted, Finset.sum_congr rfl fun j _ => congrArg (_ * ·) (v_at x2 j d).symm]
  generalize k0_pay5 (F := Ideal) x2 = V
  pointwise []
  rfl

theorem weightedMasked_at (z sp Λ : FVec Ideal S2048x512 .f32) (r : Fin 2048) (d : Fin 128) :
    weightedMasked x2 a z sp Λ (ix2 r d)
      = a (ix2 r d) + ∑ j : Fin 512, (if j.val < r.val % 512 then Ideal.exp2 (z (ix2 r j) - sp (ix2 r j) + Λ (ix2 r j)) else 0) * x2 (ix2 j d) := by
  have e : ∀ j : Fin 512, ∀ y : EReal, (if j.val < r.val % 512 then y else 0) = Scalar.select (k0_pay12 (ix2 r j)) y 0 := fun j y => by
    rw [mask_at]
    by_cases h : j.val < r.val % 512
    · rw [decide_eq_true h, if_pos h]; rfl
    · rw [decide_eq_false h, if_neg h]; rfl
  rw [weightedMasked, Finset.sum_congr rfl fun j _ => congrArg₂ (· * ·) (e j _) (v_at x2 j d).symm]
  generalize k0_pay5 (F := Ideal) x2 = V
  generalize k0_pay12 = M
  pointwise []
  rfl

/-! ### Over the reals -/

variable (r : Fin 2048) (z : ℕ → ℝ) (x : ℝ) (hl : l (ix2 r 0) = (x : EReal))
  (hz : ∀ j : Fin 512, k0_pay13 (F := Ideal) (k0_pay4 (F := Ideal) x1) q (ix2 r j) = (z j.val : EReal))
include hl hz

theorem seenL_real : seenL x1 q l (ix2 r 0) = ((x + ∑ i ∈ Finset.Ico 0 512, -sp2 (z i) : ℝ) : EReal) := by
  rw [seenL_eq]
  exact carry_at l _ (fun i => -sp2 (z i)) r x (fun j => left_at _ q r j _ (hz j)) hl 0

theorem maskedL_real : maskedL x1 q l (ix2 r 0) = ((x + ∑ i ∈ Finset.Ico 0 512, (if i < r.val % 512 then -sp2 (z i) else 0) : ℝ) : EReal) := by
  rw [maskedL_eq]
  exact carry_at l _ (fun i => if i < r.val % 512 then -sp2 (z i) else 0) r x (fun j => left_masked_at _ q r j _ (hz j)) hl 0

theorem seenA_real (d : Fin 128) : seenA x1 x2 q l a (ix2 r d)
    = a (ix2 r d) + ∑ j : Fin 512, Ideal.exp2 ((z j.val - sp2 (z j.val) + (x + ∑ i ∈ Finset.Ico (j.val + 1) 512, -sp2 (z i)) : ℝ) : EReal) * x2 (ix2 j d) := by
  rw [seenA_eq, weighted_at]
  refine congrArg (a (ix2 r d) + ·) (Finset.sum_congr rfl fun j _ => congrArg (Ideal.exp2 · * _) ?_)
  rw [laters_real l _ (fun i => -sp2 (z i)) r x (fun j => left_at _ q r j _ (hz j)) hl j, hz, sp_at _ q r j _ (hz j), ← EReal.coe_sub, ← EReal.coe_add]

theorem maskedA_real (d : Fin 128) : maskedA x1 x2 q l a (ix2 r d)
    = a (ix2 r d) + ∑ j : Fin 512, (if j.val < r.val % 512 then
        Ideal.exp2 ((z j.val - sp2 (z j.val) + (x + ∑ i ∈ Finset.Ico (j.val + 1) 512, (if i < r.val % 512 then -sp2 (z i) else 0)) : ℝ) : EReal) else 0) * x2 (ix2 j d) := by
  rw [maskedA_eq, weightedMasked_at]
  refine congrArg (a (ix2 r d) + ·) (Finset.sum_congr rfl fun j _ => congrArg (fun y => (if j.val < r.val % 512 then Ideal.exp2 y else 0) * _) ?_)
  rw [laters_real l _ (fun i => if i < r.val % 512 then -sp2 (z i) else 0) r x (fun j => left_masked_at _ q r j _ (hz j)) hl j, hz, sp_at _ q r j _ (hz j),
    ← EReal.coe_sub, ← EReal.coe_add]

end

end Cert.Sbp

end
-- ==== Proof.SbPaths.lean ====
/-
  What the body leaves in its three buffers at a point of each of the four kinds (whether it starts a block of queries, and
  whether it is the last one for it).
-/
module

public import proofs.«01_k».proof.Proof.SbWeights
public import proofs.«01_k».proof.Proof.Gen.Kernel8Ideal.Flash
public import Idealize.ShloMosaic.Lib.Pipeline.Value
public import Idealize.ShloMosaic.Lib.Pipeline.ValueKit

@[expose] public section

set_option maxRecDepth 16384

noncomputable section

namespace Cert.Sbp

open Idealize.ShloMosaic Idealize.ShloMosaic.TcCoe Cert.Kernel8Ideal Cert.Kernel8Ideal.Gen

/-! ### Loads and stores of a whole buffer -/

theorem hz2 : (![0, 0] : Fin 2 → ℕ) = fun _ => 0 := by funext a; fin_cases a <;> rfl

/-- A store of the whole buffer, last, leaves its payload. -/
theorem read_store {s : Shape} {e : EltTy} {sp : Space} (v : View sig .tc sp s e) (f) {off : Fin s.rank → ℕ} (h : off = fun _ => 0)
    (inb : ∀ a, off a + s.size a ≤ s.size a) (w : s.Idx → Elt Ideal e) (L : List (View.Piece (Elt Ideal) s e)) :
    v.read (Elt Ideal) (v.writes (Elt Ideal) f (⟨Rect.unit off s.size inb, w⟩ :: L)) = w := by
  rw [View.read_writes_eq_canon _ _ _ fun y => ⟨_, List.mem_cons_self, View.mem_set_unit_zero h inb y⟩, View.canon_cons_unit_zero h]

/-- A load of the whole buffer reads it. -/
theorem load_whole {s : Shape} {e : EltTy} {sp : Space} (v : View sig .tc sp s e) (f) {off : Fin s.rank → ℕ} (h : off = fun _ => 0)
    (inb : ∀ a, off a + s.size a ≤ s.size a) :
    View.readAt (Elt Ideal) v (Rect.unit off s.size inb).toLoadRect f = v.read (Elt Ideal) f := by
  rw [View.readAt_eq_ld, View.ld_unit_zero h]

/-- A load of the whole buffer after a store of it, last, reads that store's payload. -/
theorem load_back {s : Shape} {e : EltTy} {sp : Space} (v : View sig .tc sp s e) {off : Fin s.rank → ℕ} (h : off = fun _ => 0)
    (inb : ∀ a, off a + s.size a ≤ s.size a) (w : s.Idx → Elt Ideal e) (L : List (View.Piece (Elt Ideal) s e)) :
    v.readCov (⟨Rect.unit off s.size inb, w⟩ :: L) (Rect.unit off s.size inb).toLoadRect = w := by
  rw [View.readCov_eq_canon_ld _ _ _ fun y => ⟨_, List.mem_cons_self, View.mem_set_unit_zero h inb y⟩, View.canon_cons_unit_zero h,
    View.ld_unit_zero h]

/-- A load of part of the buffer after a store of it all, last, reads that store's payload there. -/
theorem load_part {s : Shape} {e : EltTy} {sp : Space} (v : View sig .tc sp s e) {off : Fin s.rank → ℕ} (h : off = fun _ => 0)
    (inb : ∀ a, off a + s.size a ≤ s.size a) (w : s.Idx → Elt Ideal e) (L : List (View.Piece (Elt Ideal) s e)) (R : Rect s) :
    v.readCov (⟨Rect.unit off s.size inb, w⟩ :: L) R.toLoadRect = View.ld w R := by
  rw [View.readCov_eq_canon_ld _ _ _ fun y => ⟨_, List.mem_cons_self, View.mem_set_unit_zero h inb y⟩, View.canon_cons_unit_zero h]

theorem group_inb (g : Fin 4) : ∀ a, (![512 * g.val, 0] : Fin 2 → ℕ) a + S512x128.size a ≤ S2048x128.size a := by revert g; decide

theorem load_q (c : Dev nD) (f : Buf (Elt Ideal) ((c : Thread nD τ).loc cc0_scratch0)) :
    View.readAt (Elt Ideal) scM0_0.view (Rect.unit (s := S2048x128) ![0, 0] S2048x128.size inb_S2048x128_S2048x128_0_0).toLoadRect f = scM0_0.view.read (Elt Ideal) f :=
  load_whole _ _ hz2 _

theorem load_l (c : Dev nD) (f : Buf (Elt Ideal) ((c : Thread nD τ).loc cc0_scratch1)) :
    View.readAt (Elt Ideal) scM0_1.view (Rect.unit (s := S2048x1) ![0, 0] S2048x1.size inb_S2048x1_S2048x1_0_0).toLoadRect f = scM0_1.view.read (Elt Ideal) f :=
  load_whole _ _ hz2 _

theorem load_a (c : Dev nD) (f : Buf (Elt Ideal) ((c : Thread nD τ).loc cc0_scratch2)) :
    View.readAt (Elt Ideal) scM0_2.view (Rect.unit (s := S2048x128) ![0, 0] S2048x128.size inb_S2048x128_S2048x128_0_0).toLoadRect f = scM0_2.view.read (Elt Ideal) f :=
  load_whole _ _ hz2 _

theorem load_k (a8 : Memref sig .tc .vmem S512x128 .f32) (x1 : S512x128.Idx → Elt Ideal .f32) :
    View.readAt (Elt Ideal) a8.view (Rect.unit (s := S512x128) ![0, 0] S512x128.size inb_S512x128_S512x128_0_0).toLoadRect (a8.view.rep x1) = x1 :=
  (load_whole _ _ hz2 _).trans (View.read_rep _ _)

/-! ### The queries a walk starts with -/

/-- A query head's columns of the block. -/
def qhead (x0 : Vec Ideal S512x512 .f32) (g : Fin 4) : Vec Ideal S512x128 .f32 := fun y =>
  x0 (ix2 (y 0) ⟨128 * g.val + (y 1).val, by have := (y 1).isLt; have : S512x128.size 1 = 128 := rfl; omega⟩)

/-- The scaled queries, head under head. -/
def queries (x0 : Vec Ideal S512x512 .f32) : FVec Ideal S2048x128 .bf16 :=
  k0_pay1 (F := Ideal) (qhead x0 0) (qhead x0 1) (qhead x0 2) (qhead x0 3)

theorem qhead_inb (g : Fin 4) : ∀ a, (![0, 128 * g.val] : Fin 2 → ℕ) a + S512x128.size a ≤ S512x512.size a := by revert g; decide

theorem load_qhead (a7 : Memref sig .tc .vmem S512x512 .f32) (x0 : S512x512.Idx → Elt Ideal .f32) (g : Fin 4) :
    View.readAt (Elt Ideal) a7.view (Rect.unit (s := S512x512) ![0, 128 * g.val] S512x128.size (qhead_inb g)).toLoadRect (a7.view.rep x0) = qhead x0 g := by
  funext y
  rw [View.readAt_eq_ld, View.read_rep, View.ld_unit]
  refine congrArg x0 (funext fun a => Fin.ext ?_)
  fin_cases a
  · exact Nat.zero_add _
  · rfl

theorem heads_eq {a b d e a' b' d' e' : Vec Ideal S512x128 .f32} (h0 : a = a') (h1 : b = b') (h2 : d = d') (h3 : e = e') :
    k0_pay1 (F := Ideal) a b d e = k0_pay1 (F := Ideal) a' b' d' e' := by rw [h0, h1, h2, h3]

section
variable (c : Dev nD) (i : grid0.Coords) (a7 : Memref sig .tc .vmem S512x512 .f32) (h7 : a7.IsWhole)
  (a8 : Memref sig .tc .vmem S512x128 .f32) (h8 : a8.IsWhole) (a9 : Memref sig .tc .vmem S512x128 .f32) (h9 : a9.IsWhole)
  (a10 : Memref sig .tc .vmem S512x512 .f32) (h10 : a10.IsWhole)
  (T0 T1 T2 T3 : S36.Idx → Elt Ideal .i32)
  (x0 : S512x512.Idx → Elt Ideal .f32) (x1 x2 : S512x128.Idx → Elt Ideal .f32)
  (y0 : Buf (Elt Ideal) ((c : Thread nD τ).loc cc0_scratch0)) (y1 : Buf (Elt Ideal) ((c : Thread nD τ).loc cc0_scratch1))
  (y2 : Buf (Elt Ideal) ((c : Thread nD τ).loc cc0_scratch2))

/-- The queries, the carried logarithms and the weighted sums in their buffers. -/
def Holds (q : FVec Ideal S2048x128 .bf16) (l : FVec Ideal S2048x1 .f32) (a : FVec Ideal S2048x128 .f32)
    (y0 : Buf (Elt Ideal) ((c : Thread nD τ).loc cc0_scratch0)) (y1 : Buf (Elt Ideal) ((c : Thread nD τ).loc cc0_scratch1))
    (y2 : Buf (Elt Ideal) ((c : Thread nD τ).loc cc0_scratch2)) : Prop :=
  scM0_0.view.read (Elt Ideal) y0 = q ∧ scM0_1.view.read (Elt Ideal) y1 = l ∧ scM0_2.view.read (Elt Ideal) y2 = a

/-! ### A point that goes on: no mask -/

theorem leaves_D {q l a} (H : Holds c q l a y0 y1 y2) (hc0 hc1 hc2 hc3) :
    let R := kernelRun0_D c i a7 h7 a8 h8 a9 h9 a10 h10 T0 T1 T2 T3 x0 x1 x2 y0 y1 y2 hc0 hc1 hc2 hc3
    Holds c q (seenL x1 q l) (seenA x1 x2 q l a) R.1 R.2.1 R.2.2.1 := by
  obtain ⟨rfl, rfl, rfl⟩ := H
  unfold kernelRun0_D
  dsimp only
  unfold kernelRun0_D.sl.HS1_1 kernelRun0_D.sl.HS2_1
  refine ⟨rfl, ?_, ?_⟩ <;> refine (read_store _ _ hz2 _ _ _).trans ?_
  · unfold kernelRun0_D.sl.r_9
    rw [load_k, load_q, load_l]
    rfl
  · unfold kernelRun0_D.sl.r_3 kernelRun0_D.sl.r_4 kernelRun0_D.sl.r_5 kernelRun0_D.sl.r_6 kernelRun0_D.sl.r_7 kernelRun0_D.sl.r_8 kernelRun0_D.sl.r_10
    rw [load_k, load_k, load_q, load_l, load_a]
    rfl

theorem leaves_C {q l a} (H : Holds c q l a y0 y1 y2) (hc0 hc1 hc2 hc3) :
    let R := kernelRun0_C c i a7 h7 a8 h8 a9 h9 a10 h10 T0 T1 T2 T3 x0 x1 x2 y0 y1 y2 hc0 hc1 hc2 hc3
    Holds c q (seenL x1 q l) (seenA x1 x2 q l a) R.2.1 R.2.2.1 R.2.2.2.1 := by
  obtain ⟨rfl, rfl, rfl⟩ := H
  unfold kernelRun0_C
  dsimp only
  unfold kernelRun0_C.sl.HS1_1 kernelRun0_C.sl.HS2_1
  refine ⟨rfl, ?_, ?_⟩ <;> refine (read_store _ _ hz2 _ _ _).trans ?_
  · unfold kernelRun0_C.sl.r_9
    rw [load_k, load_q, load_l]
    rfl
  · unfold kernelRun0_C.sl.r_3 kernelRun0_C.sl.r_4 kernelRun0_C.sl.r_5 kernelRun0_C.sl.r_6 kernelRun0_C.sl.r_7 kernelRun0_C.sl.r_8 kernelRun0_C.sl.r_10
    rw [load_k, load_k, load_q, load_l, load_a]
    rfl

/-! ### A point that starts a walk: the mask -/

theorem back_qA : kernelRun0_A.sl.v35 a7 x0 = queries x0 :=
  (load_back _ hz2 _ _ _).trans (heads_eq (load_qhead a7 x0 0) (load_qhead a7 x0 1) (load_qhead a7 x0 2) (load_qhead a7 x0 3))

theorem back_qB : kernelRun0_B.sl.v35 a7 x0 = queries x0 :=
  (load_back _ hz2 _ _ _).trans (heads_eq (load_qhead a7 x0 0) (load_qhead a7 x0 1) (load_qhead a7 x0 2) (load_qhead a7 x0 3))

theorem leaves_B (hc0 hc1 hc2 hc3) :
    let R := kernelRun0_B c i a7 h7 a8 h8 a9 h9 a10 h10 T0 T1 T2 T3 x0 x1 x2 hc0 hc1 hc2 hc3
    Holds c (queries x0) (maskedL x1 (queries x0) (k0_pay2 (F := Ideal))) (maskedA x1 x2 (queries x0) (k0_pay2 (F := Ideal)) (k0_pay3 (F := Ideal)))
      R.1 R.2.1 R.2.2.1 := by
  unfold kernelRun0_B
  dsimp only
  unfold kernelRun0_B.sl.HS0_1 kernelRun0_B.sl.HS1_2 kernelRun0_B.sl.HS2_2 kernelRun0_B.sl.r_3 kernelRun0_B.sl.r_4 kernelRun0_B.sl.r_5
    kernelRun0_B.sl.r_6 kernelRun0_B.sl.r_7 kernelRun0_B.sl.r_8 kernelRun0_B.sl.r_9
  refine ⟨(read_store _ _ hz2 _ _ _).trans (heads_eq (load_qhead a7 x0 0) (load_qhead a7 x0 1) (load_qhead a7 x0 2) (load_qhead a7 x0 3)), ?_, ?_⟩ <;>
    refine (read_store _ _ hz2 _ _ _).trans ?_
  · rw [load_k, back_qB, show kernelRun0_B.sl.v37 = k0_pay2 (F := Ideal) from load_back _ hz2 _ _ _]
    rfl
  · rw [load_k, load_k, back_qB, show kernelRun0_B.sl.v37 = k0_pay2 (F := Ideal) from load_back _ hz2 _ _ _,
      show kernelRun0_B.sl.v100 = k0_pay3 (F := Ideal) from load_back _ hz2 _ _ _]
    rfl

theorem leaves_A (hc0 hc1 hc2 hc3) :
    let R := kernelRun0_A c i a7 h7 a8 h8 a9 h9 a10 h10 T0 T1 T2 T3 x0 x1 x2 hc0 hc1 hc2 hc3
    Holds c (queries x0) (maskedL x1 (queries x0) (k0_pay2 (F := Ideal))) (maskedA x1 x2 (queries x0) (k0_pay2 (F := Ideal)) (k0_pay3 (F := Ideal)))
      R.2.1 R.2.2.1 R.2.2.2.1 := by
  unfold kernelRun0_A
  dsimp only
  unfold kernelRun0_A.sl.HS0_1 kernelRun0_A.sl.HS1_2 kernelRun0_A.sl.HS2_2 kernelRun0_A.sl.r_3 kernelRun0_A.sl.r_4 kernelRun0_A.sl.r_5
    kernelRun0_A.sl.r_6 kernelRun0_A.sl.r_7 kernelRun0_A.sl.r_8 kernelRun0_A.sl.r_9
  refine ⟨(read_store _ _ hz2 _ _ _).trans (heads_eq (load_qhead a7 x0 0) (load_qhead a7 x0 1) (load_qhead a7 x0 2) (load_qhead a7 x0 3)), ?_, ?_⟩ <;>
    refine (read_store _ _ hz2 _ _ _).trans ?_
  · rw [load_k, back_qA, show kernelRun0_A.sl.v37 = k0_pay2 (F := Ideal) from load_back _ hz2 _ _ _]
    rfl
  · rw [load_k, load_k, back_qA, show kernelRun0_A.sl.v37 = k0_pay2 (F := Ideal) from load_back _ hz2 _ _ _,
      show kernelRun0_A.sl.v100 = k0_pay3 (F := Ideal) from load_back _ hz2 _ _ _]
    rfl

end

end Cert.Sbp

end
-- ==== Proof.SbResult.lean ====
/-
  The body's block of the result at a last point.
-/
module

public import proofs.«01_k».proof.Proof.SbPaths

@[expose] public section

set_option maxRecDepth 16384

noncomputable section

namespace Cert.Sbp

open Idealize.ShloMosaic Idealize.ShloMosaic.TcCoe Cert.Kernel8Ideal Cert.Kernel8Ideal.Gen

/-- A load of one query head's rows after a store of the whole buffer. -/
theorem load_group (v : View sig .tc .vmem S2048x128 .f32) (inb) (w : S2048x128.Idx → Elt Ideal .f32) (L : List (View.Piece (Elt Ideal) S2048x128 .f32))
    (g : Fin 4) :
    v.readCov (⟨Rect.unit ![0, 0] S2048x128.size inb, w⟩ :: L) (Rect.unit (s := S2048x128) ![512 * g.val, 0] S512x128.size (group_inb g)).toLoadRect
      = extractStridedSlice S512x128 ![512 * g.val, 0] w ⟨rfl, group_inb g⟩ := by
  rw [load_part v hz2 inb w L, View.ld_unit]

/-! ### The block of the result -/

/-- The weighted sums, a query head's rows side by side. -/
def result (a : FVec Ideal S2048x128 .f32) : FVec Ideal S512x512 .f32 := fun y =>
  a (ix2 ⟨512 * ((y 1).val / 128) + (y 0).val, by have := (y 0).isLt; have := (y 1).isLt; have : S512x512.size 0 = 512 := rfl; have : S512x512.size 1 = 512 := rfl; omega⟩
    ⟨(y 1).val % 128, by omega⟩)

theorem result_at (a : FVec Ideal S2048x128 .f32) (g : Fin 4) (r : Fin 512) (d : Fin 128) :
    result a (ix2 r ⟨128 * g.val + d.val, by omega⟩) = a (ix2 ⟨512 * g.val + r.val, by omega⟩ d) := by
  have e : (⟨512 * ((128 * g.val + d.val) / 128) + r.val, by omega⟩ : Fin 2048) = ⟨512 * g.val + r.val, by omega⟩ := Fin.ext (by simp only; omega)
  have e' : (⟨(128 * g.val + d.val) % 128, by omega⟩ : Fin 128) = d := Fin.ext (by simp only; omega)
  show a (ix2 (⟨512 * ((128 * g.val + d.val) / 128) + r.val, _⟩ : Fin 2048) (⟨(128 * g.val + d.val) % 128, _⟩ : Fin 128)) = _
  rw [e, e']

/-- One head's store of the result. -/
theorem piece_at (inb) (a : S2048x128.Idx → Elt Ideal .f32) (L : List (View.Piece (Elt Ideal) S2048x128 .f32)) (g : Fin 4) {o o' : ℕ} (ho : o = 512 * g.val)
    (ho' : o' = 128 * g.val) (inb1 : ∀ a, (![o, 0] : Fin 2 → ℕ) a + S512x128.size a ≤ S2048x128.size a)
    (inb2 : ∀ a, (![0, o'] : Fin 2 → ℕ) a + S512x128.size a ≤ S512x512.size a) (j : S512x128.Idx) :
    scM0_2.view.readCov (⟨Rect.unit ![0, 0] S2048x128.size inb, a⟩ :: L) (Rect.unit (s := S2048x128) ![o, 0] S512x128.size inb1).toLoadRect j
      = result a ((Rect.unit (s := S512x512) ![0, o'] S512x128.size inb2).emb j) := by
  subst ho ho'
  obtain ⟨t, d, rfl⟩ : ∃ (t : Fin 512) (d : Fin 128), j = ix2 t d := ⟨j 0, j 1, by funext a; fin_cases a <;> rfl⟩
  have hy : (Rect.unit (s := S512x512) ![0, 128 * g.val] S512x128.size inb2).emb (ix2 t d) = ix2 t ⟨128 * g.val + d.val, by omega⟩ := by
    funext a
    refine Fin.ext ?_
    rw [Rect.emb_apply]
    fin_cases a <;> simp
  rw [hy, result_at, load_group]
  refine congrArg a (funext fun a => Fin.ext ?_)
  fin_cases a
  · rfl
  · exact Nat.zero_add _

/-- The four stores, side by side. -/
theorem four_pieces {w0 w1 w2 w3 : S512x128.Idx → Elt Ideal .f32} {f : S512x512.Idx → Elt Ideal .f32} (i0 i1 i2 i3)
    (h3 : ∀ j, w3 j = f ((Rect.unit (s := S512x512) ![0, 384] S512x128.size i3).emb j)) (h2 : ∀ j, w2 j = f ((Rect.unit (s := S512x512) ![0, 256] S512x128.size i2).emb j))
    (h1 : ∀ j, w1 j = f ((Rect.unit (s := S512x512) ![0, 128] S512x128.size i1).emb j)) (h0 : ∀ j, w0 j = f ((Rect.unit (s := S512x512) ![0, 0] S512x128.size i0).emb j)) (y)
    (hy : ∃ p ∈ ([⟨Rect.unit ![0, 384] S512x128.size i3, w3⟩, ⟨Rect.unit ![0, 256] S512x128.size i2, w2⟩, ⟨Rect.unit ![0, 128] S512x128.size i1, w1⟩,
      ⟨Rect.unit ![0, 0] S512x128.size i0, w0⟩] : List (View.Piece (Elt Ideal) S512x512 .f32)), y ∈ p.1.set) :
    View.canon ([⟨Rect.unit ![0, 384] S512x128.size i3, w3⟩, ⟨Rect.unit ![0, 256] S512x128.size i2, w2⟩, ⟨Rect.unit ![0, 128] S512x128.size i1, w1⟩,
      ⟨Rect.unit ![0, 0] S512x128.size i0, w0⟩] : List (View.Piece (Elt Ideal) S512x512 .f32)) y = f y := by
  refine View.canon_apply_of_pieces _ _ (fun pc hp j => ?_) y hy
  simp only [List.mem_cons, List.mem_nil_iff, or_false] at hp
  rcases hp with rfl | rfl | rfl | rfl
  exacts [h3 j, h2 j, h1 j, h0 j]

section
variable (c : Dev nD) (i : grid0.Coords) (a7 : Memref sig .tc .vmem S512x512 .f32) (h7 : a7.IsWhole)
  (a8 : Memref sig .tc .vmem S512x128 .f32) (h8 : a8.IsWhole) (a9 : Memref sig .tc .vmem S512x128 .f32) (h9 : a9.IsWhole)
  (a10 : Memref sig .tc .vmem S512x512 .f32) (h10 : a10.IsWhole)
  (T0 T1 T2 T3 : S36.Idx → Elt Ideal .i32)
  (x0 : S512x512.Idx → Elt Ideal .f32) (x1 x2 : S512x128.Idx → Elt Ideal .f32)
  (y0 : Buf (Elt Ideal) ((c : Thread nD τ).loc cc0_scratch0)) (y1 : Buf (Elt Ideal) ((c : Thread nD τ).loc cc0_scratch1))
  (y2 : Buf (Elt Ideal) ((c : Thread nD τ).loc cc0_scratch2))

theorem stored_C {q l a} (H : Holds c q l a y0 y1 y2) : kernelRun0_C.sl.HS2_1 c a8 a9 x1 x2 y0 y1 y2
    = [⟨Rect.unit ![0, 0] S2048x128.size inb_S2048x128_S2048x128_0_0, seenA x1 x2 q l a⟩] := by
  obtain ⟨rfl, rfl, rfl⟩ := H
  unfold kernelRun0_C.sl.HS2_1 kernelRun0_C.sl.r_3 kernelRun0_C.sl.r_4 kernelRun0_C.sl.r_5 kernelRun0_C.sl.r_6 kernelRun0_C.sl.r_7 kernelRun0_C.sl.r_8 kernelRun0_C.sl.r_10
  rw [load_k, load_k, load_q, load_l, load_a]
  rfl

theorem stored_A : kernelRun0_A.sl.HS2_2 a7 a8 a9 x0 x1 x2
    = ⟨Rect.unit ![0, 0] S2048x128.size inb_S2048x128_S2048x128_0_0, maskedA x1 x2 (queries x0) (k0_pay2 (F := Ideal)) (k0_pay3 (F := Ideal))⟩ :: kernelRun0_A.sl.HS2_1 := by
  unfold kernelRun0_A.sl.HS2_2 kernelRun0_A.sl.r_3 kernelRun0_A.sl.r_4 kernelRun0_A.sl.r_6 kernelRun0_A.sl.r_7 kernelRun0_A.sl.r_8 kernelRun0_A.sl.r_9
  rw [load_k, load_k, back_qA, show kernelRun0_A.sl.v37 = k0_pay2 (F := Ideal) from load_back _ hz2 _ _ _,
    show kernelRun0_A.sl.v100 = k0_pay3 (F := Ideal) from load_back _ hz2 _ _ _]
  rfl

theorem out_C {q l a} (H : Holds c q l a y0 y1 y2) (hc0 hc1 hc2 hc3) :
    out0_C_3 c i a7 h7 a8 h8 a9 h9 a10 h10 T0 T1 T2 T3 x0 x1 x2 y0 y1 y2 hc0 hc1 hc2 hc3 = result (seenA x1 x2 q l a) := by
  have hcov := cover0_C_3 c i a7 h7 a8 h8 a9 h9 a10 h10 T0 T1 T2 T3 x0 x1 x2 y0 y1 y2 hc0 hc1 hc2 hc3
  have p := @piece_at inb_S2048x128_S2048x128_0_0 (seenA x1 x2 q l a) []
  rw [← stored_C c a8 a9 x1 x2 y0 y1 y2 H] at p
  funext y
  unfold out0_C_3
  rw [View.read_writes_eq_canon _ _ _ hcov]
  revert hcov
  unfold kernelRun0_C
  dsimp only
  unfold kernelRun0_C.sl.HO3_4
  intro hcov
  exact four_pieces _ _ _ _ (p 3 rfl rfl _ _) (p 2 rfl rfl _ _) (p 1 rfl rfl _ _) (p 0 rfl rfl _ _) y (hcov y)

theorem out_A (hc0 hc1 hc2 hc3) :
    out0_A_3 c i a7 h7 a8 h8 a9 h9 a10 h10 T0 T1 T2 T3 x0 x1 x2 hc0 hc1 hc2 hc3
      = result (maskedA x1 x2 (queries x0) (k0_pay2 (F := Ideal)) (k0_pay3 (F := Ideal))) := by
  have hcov := cover0_A_3 c i a7 h7 a8 h8 a9 h9 a10 h10 T0 T1 T2 T3 x0 x1 x2 hc0 hc1 hc2 hc3
  have p := @piece_at inb_S2048x128_S2048x128_0_0 (maskedA x1 x2 (queries x0) (k0_pay2 (F := Ideal)) (k0_pay3 (F := Ideal))) kernelRun0_A.sl.HS2_1
  rw [← stored_A a7 a8 a9 x0 x1 x2] at p
  funext y
  unfold out0_A_3
  rw [View.read_writes_eq_canon _ _ _ hcov]
  revert hcov
  unfold kernelRun0_A
  dsimp only
  unfold kernelRun0_A.sl.HO3_4
  intro hcov
  exact four_pieces _ _ _ _ (p 3 rfl rfl _ _) (p 2 rfl rfl _ _) (p 1 rfl rfl _ _) (p 0 rfl rfl _ _) y (hcov y)

end

end Cert.Sbp

end
-- ==== Proof.SbWalk.lean ====
/-
  The walk over the grid of the prompt's stick-breaking attention, decided from the tables the precondition pins: a block
  of 512 queries of one key head starts at the keys of its own rows and goes back one block of keys at a time to the
  prompt's first.
-/
module

public import proofs.«01_k».proof.Proof.Gen.Kernel8Ideal.Flash

@[expose] public section

set_option maxRecDepth 16384

noncomputable section

namespace Cert.Sbp

open Idealize.ShloMosaic Cert.Kernel8Ideal Cert.Kernel8Ideal.Gen

/-- The block of 512 query rows, of the 16 of both prompts, a point reads. -/
abbrev qblk (ch : Fin 1) (t : Fin (cfgA ch).N) : ℕ := ((cfgA ch).win (0 : Fin 4)).index t (0 : Fin 2)

/-- The key head a point reads. -/
abbrev head (ch : Fin 1) (t : Fin (cfgA ch).N) : ℕ := ((cfgA ch).win (0 : Fin 4)).index t (1 : Fin 2)

/-- The block of 512 key rows, of the 16 of both prompts, a point reads. -/
abbrev kblk (ch : Fin 1) (t : Fin (cfgA ch).N) : ℕ := ((cfgA ch).win (1 : Fin 4)).index t (0 : Fin 2)

theorem N_eq : ∀ ch : Fin 1, (cfgA ch).N = 288 := by decide +kernel

theorem idx_key : ∀ (ch : Fin 1) (t : Fin (cfgA ch).N), ((cfgA ch).win (1 : Fin 4)).index t (1 : Fin 2) = head ch t := by decide +kernel
theorem idx_val : ∀ (ch : Fin 1) (t : Fin (cfgA ch).N), ((cfgA ch).win (2 : Fin 4)).index t (0 : Fin 2) = kblk ch t
    ∧ ((cfgA ch).win (2 : Fin 4)).index t (1 : Fin 2) = head ch t := by decide +kernel
theorem idx_out : ∀ (ch : Fin 1) (t : Fin (cfgA ch).N), ((cfgA ch).win (3 : Fin 4)).index t (0 : Fin 2) = qblk ch t
    ∧ ((cfgA ch).win (3 : Fin 4)).index t (1 : Fin 2) = head ch t := by decide +kernel

theorem same_prompt : ∀ (ch : Fin 1) (t : Fin (cfgA ch).N), qblk ch t < 16 ∧ kblk ch t / 8 = qblk ch t / 8 ∧ head ch t < 4 := by decide +kernel

/-- A walk starts at the block of keys of its queries' own rows. -/
theorem first_block : ∀ (ch : Fin 1) (t : Fin (cfgA ch).N), P0_0 ch t → kblk ch t = qblk ch t := by decide +kernel

/-- The other blocks of keys come before the queries. -/
theorem earlier_block : ∀ (ch : Fin 1) (t : Fin (cfgA ch).N), ¬ P0_0 ch t → kblk ch t < qblk ch t := by decide +kernel

/-- A walk ends at the prompt's first keys. -/
theorem last_block : ∀ (ch : Fin 1) (t : Fin (cfgA ch).N), P0_1 ch t → kblk ch t % 8 = 0 := by decide +kernel

/-- The point before. -/
def before (ch : Fin 1) (t : Fin (cfgA ch).N) : Fin (cfgA ch).N := ⟨t.val - 1, by omega⟩

/-- A point that doesn't start a walk goes on with the walk of the point before, one block of keys back. -/
theorem goes_on : ∀ (ch : Fin 1) (t : Fin (cfgA ch).N), ¬ P0_0 ch t →
    0 < t.val ∧ ¬ P0_1 ch (before ch t) ∧ qblk ch (before ch t) = qblk ch t ∧ head ch (before ch t) = head ch t
      ∧ kblk ch (before ch t) = kblk ch t + 1 := by
  decide +kernel

/-- The last point of a block of queries of one key head: in its prompt the walks of the blocks before take `1, 2, 3, …`
    points. -/
def lastPt (ch : Fin 1) (q : Fin 16) (h : Fin 4) : Fin (cfgA ch).N :=
  ⟨(q.val / 8 * 4 + h.val) * 36 + ((q.val % 8 + 1) * (q.val % 8 + 2) / 2 - 1), by
    rw [N_eq ch]; revert q h; decide +kernel⟩

theorem last_of : ∀ (ch : Fin 1) (q : Fin 16) (h : Fin 4), P0_1 ch (lastPt ch q h) ∧ qblk ch (lastPt ch q h) = q.val
    ∧ head ch (lastPt ch q h) = h.val ∧ ((cfgA ch).win (3 : Fin 4)).flush (lastPt ch q h) = true := by decide +kernel

/-- Only a last point writes its block of the result back. -/
theorem last_of_flush : ∀ (ch : Fin 1) (t : Fin (cfgA ch).N), ((cfgA ch).win (3 : Fin 4)).flush t = true → P0_1 ch t := by decide +kernel

end Cert.Sbp

end
-- ==== Proof.SbBlocks.lean ====
/-
  The blocks a point reads, entry by entry, off the arrays at launch.
-/
module

public import proofs.«01_k».proof.Proof.SbWalk
public import Idealize.ShloMosaic.Lib.Pipeline.Value
public import Idealize.ShloMosaic.Lib.Pipeline.ValueKit

@[expose] public section

set_option maxRecDepth 16384

noncomputable section

namespace Cert.Sbp

open Idealize.ShloMosaic Idealize.ShloMosaic.TcCoe Cert.Kernel8Ideal Cert.Kernel8Ideal.Gen

variable (ch : Fin 1) (m : (ℓ : Loc nD τ sig) → Buf (Elt Ideal) ℓ) (ρ : Dev nD → PrngReg) (c : Dev nD) (t : Fin (cfgA ch).N)

theorem query_block (i : Fin 512) (x : Fin 512) :
    iblk ch m ρ c (0 : Fin 4) t (ix2 i x) = m ((c.tc : Thread nD τ).loc main_arg4)
      (ix2 ⟨512 * qblk ch t + i.val, by have := same_prompt ch t; omega⟩ ⟨512 * head ch t + x.val, by have := same_prompt ch t; omega⟩) := by
  blk_ext [iblk]
  all_goals exact congrArg (· + _) (Nat.mul_comm _ _)

theorem key_block (j : Fin 512) (d : Fin 128) :
    iblk ch m ρ c (1 : Fin 4) t (ix2 j d) = m ((c.tc : Thread nD τ).loc main_arg5)
      (ix2 ⟨512 * kblk ch t + j.val, by have := same_prompt ch t; omega⟩ ⟨128 * head ch t + d.val, by have := same_prompt ch t; omega⟩) := by
  blk_ext [iblk, idx_key ch t]
  all_goals exact congrArg (· + _) (Nat.mul_comm _ _)

theorem val_block (j : Fin 512) (d : Fin 128) :
    iblk ch m ρ c (2 : Fin 4) t (ix2 j d) = m ((c.tc : Thread nD τ).loc main_arg6)
      (ix2 ⟨512 * kblk ch t + j.val, by have := same_prompt ch t; omega⟩ ⟨128 * head ch t + d.val, by have := same_prompt ch t; omega⟩) := by
  blk_ext [iblk, (idx_val ch t).1, (idx_val ch t).2]

end Cert.Sbp

end
-- ==== Proof.SbSums.lean ====
/-
  One row of the stick-breaking attention: what a key leaves, its weight, and the two numbers carried over the blocks of
  keys from the last to the first, in base two against the row's own in base `e`.
-/
module

public import proofs.«01_k».proof.Proof.SbBody

@[expose] public section

noncomputable section

namespace Cert.Sbp

open Idealize.ShloMosaic Cert.Attn

/-- `log (1 + e ^ x)`. -/
def spe (x : ℝ) : ℝ := max x 0 + Real.log (1 + Real.exp (-|x|))

/-- The two softplus. -/
theorem sp2_scaled (x : ℝ) : sp2 (x * invLn2) = spe x * invLn2 := by
  have e : (2 : ℝ) ^ (-|x * invLn2|) = Real.exp (-|x|) := by
    have h2 : Real.log 2 ≠ 0 := (Real.log_pos (by norm_num)).ne'
    rw [Real.rpow_def_of_pos (by norm_num), abs_mul, abs_of_pos invLn2_pos]
    refine congrArg Real.exp ?_
    rw [invLn2]
    field_simp
  rw [sp2, spe, e, add_mul, max_mul_of_nonneg _ _ invLn2_pos.le, zero_mul]

/-- The logarithm of the weight itself, from the softplus of the score or of its negation. -/
theorem sub_spe (x : ℝ) : x - spe x = -spe (-x) := by
  rw [spe, spe, abs_neg]
  rcases le_total x 0 with h | h
  · rw [max_eq_right h, max_eq_left (neg_nonneg.2 h)]; ring
  · rw [max_eq_left h, max_eq_right (neg_nonpos.2 h)]; ring

variable (p : ℕ) (ζ : ℕ → ℝ) (v : ℕ → EReal)

/-- The logarithm of what a key leaves to the keys before it. -/
def left (i : ℕ) : ℝ := if i < p then -spe (ζ i) else 0

/-- A key's weight. -/
def weight (i : ℕ) : EReal := if i < p then Ideal.exp ((-spe (-(ζ i)) + ∑ k ∈ Finset.Ico (i + 1) 4096, left p ζ k : ℝ) : EReal) else 0

/-- The logarithm, at base two, of what the keys from `n` on leave, and the weighted sum over them. -/
def Carried (n : ℕ) (l a : EReal) : Prop :=
  l = (((∑ i ∈ Finset.Ico n 4096, left p ζ i) * invLn2 : ℝ) : EReal) ∧ a = ∑ i ∈ Finset.Ico n 4096, weight p ζ i * v i

/-- Nothing is carried from the keys after the query. -/
theorem carried_start (n : ℕ) (h : p ≤ n) : Carried p ζ v n 0 0 := by
  constructor
  · rw [Finset.sum_eq_zero fun i hi => ?_, zero_mul, EReal.coe_zero]
    rw [left, if_neg (by have := (Finset.mem_Ico.1 hi).1; omega)]
  · refine (Finset.sum_eq_zero fun i hi => ?_).symm
    rw [weight, if_neg (by have := (Finset.mem_Ico.1 hi).1; omega), zero_mul]

/-- A sum over a block of 512 keys. -/
theorem sum_keys {M : Type*} [AddCommMonoid M] (f : ℕ → M) (N a : ℕ) (h : a ≤ 512) (hN : N + 512 ≤ 4096) :
    ∑ i ∈ Finset.Ico (N + a) 4096, f i = ∑ i ∈ Finset.Ico a 512, f (N + i) + ∑ i ∈ Finset.Ico (N + 512) 4096, f i := by
  rw [← Finset.sum_Ico_consecutive f (show N + a ≤ N + 512 by omega) hN, Finset.sum_Ico_add f a 512 N, Nat.add_comm a N, Nat.add_comm 512 N]

/-- One block of keys more. -/
theorem Carried.step {N : ℕ} (hN : N + 512 ≤ 4096) {l a : EReal} (H : Carried p ζ v (N + 512) l a) {x : ℝ} (hl : l = (x : EReal)) {g : ℕ → ℝ}
    (hg : ∀ i < 512, g i = if N + i < p then -sp2 (ζ (N + i) * invLn2) else 0) :
    Carried p ζ v N ((x + ∑ i ∈ Finset.Ico 0 512, g i : ℝ) : EReal)
      (a + ∑ j : Fin 512, (if N + j.val < p then
        Ideal.exp2 ((ζ (N + j.val) * invLn2 - sp2 (ζ (N + j.val) * invLn2) + (x + ∑ i ∈ Finset.Ico (j.val + 1) 512, g i) : ℝ) : EReal) else 0) * v (N + j.val)) := by
  obtain ⟨h1, h2⟩ := H
  have hx : x = (∑ i ∈ Finset.Ico (N + 512) 4096, left p ζ i) * invLn2 := EReal.coe_injective (hl.symm.trans h1)
  have hleft : ∀ i < 512, g i = left p ζ (N + i) * invLn2 := fun i hi => by
    rw [hg i hi, left]
    split
    · rw [sp2_scaled, neg_mul]
    · rw [zero_mul]
  have hsum : ∀ b ≤ 512, x + ∑ i ∈ Finset.Ico b 512, g i = (∑ i ∈ Finset.Ico (N + b) 4096, left p ζ i) * invLn2 := fun b hb => by
    rw [Finset.sum_congr rfl fun i hi => hleft i (Finset.mem_Ico.1 hi).2, ← Finset.sum_mul, hx, sum_keys _ N b hb hN]
    ring
  refine ⟨?_, ?_⟩
  · rw [hsum 0 (by omega), Nat.add_zero]
  · rw [← Nat.add_zero N, sum_keys _ N 0 (by omega) hN, Nat.add_zero, h2, add_comm, ← Finset.range_eq_Ico,
      ← Fin.sum_univ_eq_sum_range (fun i => weight p ζ (N + i) * v (N + i)) 512]
    refine congrArg (· + _) (Finset.sum_congr rfl fun j _ => congrArg (· * _) ?_)
    rw [weight]
    refine if_congr Iff.rfl ?_ rfl
    rw [hsum _ (by omega), sp2_scaled, ← exp2_mul, ← EReal.coe_mul, ← sub_spe]
    refine congrArg (fun y : ℝ => Ideal.exp2 (y : EReal)) ?_
    rw [Nat.add_assoc]
    ring

end Cert.Sbp

end
-- ==== Proof.SbRef.lean ====
/-
  The reference of the prompt's stick-breaking attention, read at an index.
-/
module

public import proofs.«01_k».proof.Proof.SbSums
public import proofs.«01_k».proof.Proof.Gen.Reference8Ideal.Run
public import Idealize.ShloMosaic.Lib.Pipeline.ValueKit
public import Idealize.ShloMosaic.Lib.Pointwise
public import Idealize.ShloMosaic.Lib.WordCmp

@[expose] public section

set_option maxRecDepth 16384

noncomputable section

namespace Cert.Sbp

open Idealize.ShloMosaic Cert.Reference8Ideal Cert.Reference8Ideal.Gen

/-- The scores: prompt, key head, query head of the group, query, key. -/
def SCORES (Q : FVec Ideal S8192x2048 .f32) (K : FVec Ideal S8192x512 .f32) : FVec Ideal S2x4x4x4096x4096 .f32 :=
  Host.divf (transpose S2x4x4x4096x4096 [0, 1, 4, 3, 2] (Host.dotGeneral dot_S2x4096x4x128_S2x4096x4x4x128_S2x4x4096x4096x4_3_4_1_13_02_02 none
      (shapeCast _ K shapeCasts_S8192x512_S2x4096x4x128) (shapeCast _ Q shapeCasts_S8192x2048_S2x4096x4x4x128)) transposes_S2x4x4096x4096x4_S2x4x4x4096x4096_0_1_4_3_2)
    (broadcastInDim S2x4x4x4096x4096 ![] bcast_S_S2x4x4x4096x4096 (Host.sqrt (constant S_ .f32 0x43000000#32)))

/-- `log (1 + e ^ x)` of every entry. -/
def SOFTPLUS (Z : FVec Ideal S2x4x4x4096x4096 .f32) : FVec Ideal S2x4x4x4096x4096 .f32 :=
  select (cmpf .une (subf Z (broadcastInDim S2x4x4x4096x4096 ![] bcast_S_S2x4x4x4096x4096 (constant S_ .f32 0x00000000#32)))
      (subf Z (broadcastInDim S2x4x4x4096x4096 ![] bcast_S_S2x4x4x4096x4096 (constant S_ .f32 0x00000000#32))))
    (addf Z (broadcastInDim S2x4x4x4096x4096 ![] bcast_S_S2x4x4x4096x4096 (constant S_ .f32 0x00000000#32)))
    (addf (maximumf Z (broadcastInDim S2x4x4x4096x4096 ![] bcast_S_S2x4x4x4096x4096 (constant S_ .f32 0x00000000#32)))
      (Host.log1p (Host.exp (Host.negf (Host.absf (subf Z (broadcastInDim S2x4x4x4096x4096 ![] bcast_S_S2x4x4x4096x4096 (constant S_ .f32 0x00000000#32))))))))

/-- The keys before the query keep their entry; the others' is zero. -/
def EARLIER (X : FVec Ideal S2x4x4x4096x4096 .f32) : FVec Ideal S2x4x4x4096x4096 .f32 :=
  select (broadcastInDim S2x4x4x4096x4096 ![3, 4] bcast_S4096x4096_S2x4x4x4096x4096_3_4 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    X (broadcastInDim S2x4x4x4096x4096 ![] bcast_S_S2x4x4x4096x4096 (id (constant S_ .f32 0x00000000#32)))

/-- The sum of an entry's row from it on. -/
def ONWARDS (X : FVec Ideal S2x4x4x4096x4096 .f32) : FVec Ideal S2x4x4x4096x4096 .f32 :=
  Host.reduceWindowAdd ![1, 1, 1, 1, 4096] ![1, 1, 1, 1, 1] ![0, 0, 0, 0, 0] ![0, 0, 0, 0, 4095] X (broadcastInDim S_ ![] bcast_S_S_ (constant S_ .f32 0x00000000#32))
    reduceWindows_S2x4x4x4096x4096_S2x4x4x4096x4096_w1s1p0_0_w1s1p0_0_w1s1p0_0_w1s1p0_0_w4096s1p0_4095 h_S_

/-- The logarithm of what every key leaves. -/
def LEFT (Z : FVec Ideal S2x4x4x4096x4096 .f32) : FVec Ideal S2x4x4x4096x4096 .f32 := EARLIER (Host.negf (SOFTPLUS Z))

/-- The weights. -/
def WEIGHTS (Z : FVec Ideal S2x4x4x4096x4096 .f32) : FVec Ideal S2x4x4x4096x4096 .f32 :=
  EARLIER (Host.exp (addf (Host.negf (SOFTPLUS (Host.negf Z))) (subf (ONWARDS (LEFT Z)) (LEFT Z))))

/-- The reference's result. -/
def REF (Q : FVec Ideal S8192x2048 .f32) (K V : FVec Ideal S8192x512 .f32) : FVec Ideal S8192x2048 .f32 :=
  shapeCast _ (transpose S2x4096x4x4x128 [0, 4, 1, 3, 2] (Host.dotGeneral dot_S2x4096x4x128_S2x4x4x4096x4096_S2x4x128x4x4096_1_4_3_23_02_01 none
    (shapeCast _ V shapeCasts_S8192x512_S2x4096x4x128) (WEIGHTS (SCORES Q K))) transposes_S2x4x128x4x4096_S2x4096x4x4x128_0_4_1_3_2) shapeCasts_S2x4096x4x4x128_S8192x2048

theorem res_eq (m : (ℓ : Loc nD τ sig) → Buf (Elt Ideal) ℓ) (c : Dev nD) : Cert.Reference8Ideal.Value.res_out0 m c
    = REF (m ((c.tc : Thread nD τ).loc main_arg4)) (m ((c.tc : Thread nD τ).loc main_arg5)) (m ((c.tc : Thread nD τ).loc main_arg6)) := rfl

/-- The score scale: the square root of 128. -/
theorem root : Ideal.sqrt (Ideal.ofBits FTy.f32 1124073472#32) = ((Real.sqrt 128 : ℝ) : EReal) := by
  rw [show Ideal.ofBits FTy.f32 1124073472#32 = ((128 : ℝ) : EReal) by
      simp [Ideal.ofBits, Ideal.ieee]
      rw [← EReal.coe_mul]
      norm_num,
    Ideal.sqrt_coe, if_neg (by norm_num)]

/-- A key's score. -/
def score (Q : FVec Ideal S8192x2048 .f32) (K : FVec Ideal S8192x512 .f32) (b : Fin 2) (h g : Fin 4) (p s : Fin 4096) : EReal :=
  (∑ x : Fin 128, K (ix2 ⟨b.val * 4096 + s.val, by omega⟩ ⟨h.val * 128 + x.val, by omega⟩)
      * Q (ix2 ⟨b.val * 4096 + p.val, by omega⟩ ⟨(h.val * 4 + g.val) * 128 + x.val, by omega⟩))
    * (((Real.sqrt 128)⁻¹ : ℝ) : EReal)

theorem columns (h g x : ℕ) : h * 512 + g * 128 + x = (h * 4 + g) * 128 + x := by omega

theorem SCORES_at (Q : FVec Ideal S8192x2048 .f32) (K : FVec Ideal S8192x512 .f32) (b : Fin 2) (h g : Fin 4) (p s : Fin 4096) :
    SCORES Q K (ix5 b h g p s) = score Q K b h g p s := by
  unfold score
  pointwise [SCORES]
  simp only [columns]
  rw [root, Ideal.div_coe (Real.sqrt_pos.2 (by norm_num : (0 : ℝ) < 128)).ne', one_div]

theorem EARLIER_at (X : FVec Ideal S2x4x4x4096x4096 .f32) (b : Fin 2) (h g : Fin 4) (p s : Fin 4096) :
    EARLIER X (ix5 b h g p s) = if s.val < p.val then X (ix5 b h g p s) else 0 := by
  pointwise [EARLIER]
  rw [WordCmp.cmpi_slt_ofNat (by omega) (by omega)]
  by_cases hs : s.val < p.val
  · rw [decide_eq_true hs, if_pos hs]; rfl
  · rw [decide_eq_false hs, if_neg hs]
    show Ideal.ofBits .f32 0x00000000#32 = 0
    simp [Ideal.ofBits, Ideal.ieee]

theorem REF_at (Q : FVec Ideal S8192x2048 .f32) (K V : FVec Ideal S8192x512 .f32) (b : Fin 2) (h g : Fin 4) (p : Fin 4096) (d : Fin 128) :
    REF Q K V (ix2 ⟨b.val * 4096 + p.val, by omega⟩ ⟨(h.val * 4 + g.val) * 128 + d.val, by omega⟩)
      = ∑ s : Fin 4096, V (ix2 ⟨b.val * 4096 + s.val, by omega⟩ ⟨h.val * 128 + d.val, by omega⟩) * WEIGHTS (SCORES Q K) (ix5 b h g p s) := by
  generalize hW : WEIGHTS (SCORES Q K) = W
  pointwise [REF, hW]

/-- The softplus of a real number. -/
theorem SOFTPLUS_at (Z : FVec Ideal S2x4x4x4096x4096 .f32) (j : S2x4x4x4096x4096.Idx) (x : ℝ) (hx : Z j = (x : EReal)) :
    SOFTPLUS Z j = ((spe x : ℝ) : EReal) := by
  have e : Ideal.log1p (Ideal.exp (-(FloatOps.absf (F := Ideal) (φ := .f32) (x : EReal) : EReal))) = ((Real.log (1 + Real.exp (-|x|)) : ℝ) : EReal) := by
    rw [abs_coe, ← EReal.coe_neg, Ideal.exp_coe, Ideal.log1p, log_one_add (Real.exp_pos _)]
  have e' : max (x : EReal) 0 + ((Real.log (1 + Real.exp (-|x|)) : ℝ) : EReal) = ((spe x : ℝ) : EReal) := by
    rw [← EReal.coe_zero, ← coe_max, ← EReal.coe_add]; rfl
  rw [← e', ← e]
  pointwise [SOFTPLUS]
  rw [hx]
  exact if_neg (fun h => h rfl)

/-- The window's positions are the keys. -/
def keys : (⟨5, ![1, 1, 1, 1, 4096]⟩ : Shape).Idx ≃ Fin 4096 where
  toFun w := w 4
  invFun k := ix5 0 0 0 0 k
  left_inv w := by
    have h : ∀ a : Fin 1, a = 0 := fun a => Subsingleton.elim _ _
    refine Eq.trans ?_ (ValueIdx.eq_ix5 w).symm
    rw [h (w 0), h (w 1), h (w 2), h (w 3)]
    rfl
  right_inv _ := rfl

theorem foldl_sum {α : Type*} (f : α → EReal) (L : List α) (z : EReal) : L.foldl (fun r n => r + f n) z = z + (L.map f).sum := by
  induction L generalizing z with
  | nil => simp
  | cons a L ih => rw [List.foldl_cons, ih, List.map_cons, List.sum_cons, add_assoc]

/-- A window sum, over the window's positions. -/
theorem window_sum {s t u : Shape} (window strides lo hi : Fin s.rank → ℕ) (x : s.Idx → EReal) (h : s.ReduceWindows window strides lo hi t) (hu : 0 < u.numel)
    (j : t.Idx) : Host.reduceWindow (fun x y : EReal => x + y) window strides lo hi x (fun _ : u.Idx => (0 : EReal)) h hu j
      = ∑ w : (⟨s.rank, window⟩ : Shape).Idx, if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else 0 := by
  unfold Host.reduceWindow
  refine (foldl_sum _ _ _).trans ?_
  rw [zero_add, ← List.ofFn_eq_map, List.sum_ofFn]
  exact Fintype.sum_equiv (⟨s.rank, window⟩ : Shape).rowMajor.symm _ _ fun n => dite_congr rfl (fun _ => rfl) (fun _ => rfl)

theorem ONWARDS_at (X : FVec Ideal S2x4x4x4096x4096 .f32) (b : Fin 2) (h g : Fin 4) (p s : Fin 4096) :
    ONWARDS X (ix5 b h g p s) = ∑ k : Fin 4096, if hk : s.val + k.val < 4096 then X (ix5 b h g p ⟨s.val + k.val, hk⟩) else 0 := by
  have hz : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  unfold ONWARDS Host.reduceWindowAdd
  rw [hz]
  rw [Ideal.hostReduceWindowAdd_def, Ideal.hostReduceWindowAdd, window_sum]
  refine (Fintype.sum_equiv keys.symm _ _ fun k => ?_).symm
  by_cases hk : s.val + k.val < 4096
  · rw [dif_pos hk, dif_pos fun a => ?_]
    · refine congrArg X (funext fun a => Fin.ext ?_)
      fin_cases a
      · exact (Nat.mul_one _).symm
      · exact (Nat.mul_one _).symm
      · exact (Nat.mul_one _).symm
      · exact (Nat.mul_one _).symm
      · exact congrArg (· + k.val) (Nat.mul_one _).symm
    · fin_cases a
      · exact ⟨Nat.zero_le _, (Nat.mul_one b.val).symm ▸ b.isLt⟩
      · exact ⟨Nat.zero_le _, (Nat.mul_one h.val).symm ▸ h.isLt⟩
      · exact ⟨Nat.zero_le _, (Nat.mul_one g.val).symm ▸ g.isLt⟩
      · exact ⟨Nat.zero_le _, (Nat.mul_one p.val).symm ▸ p.isLt⟩
      · exact ⟨Nat.zero_le _, (Nat.mul_one s.val).symm ▸ hk⟩
  · rw [dif_neg hk, dif_neg fun hin => hk ?_]
    have e : s.val * 1 + k.val - 0 < 4096 := (hin 4).2
    omega

end Cert.Sbp

end
-- ==== Proof.SbRow.lean ====
/-
  A row of the reference's weights, with real queries and keys, and the reference's result as that row's weighted sum.
-/
module

public import proofs.«01_k».proof.Proof.SbRef
public import proofs.«01_k».proof.Proof.RowValue

@[expose] public section

set_option maxRecDepth 16384

noncomputable section

namespace Cert.Sbp

open Idealize.ShloMosaic Cert.Reference8Ideal Cert.Reference8Ideal.Gen Cert.Attn
open Cert.Mla (Real')

variable (Q : FVec Ideal S8192x2048 .f32) (K V : FVec Ideal S8192x512 .f32) (b : Fin 2) (h g : Fin 4) (p : Fin 4096)

/-- A query's scores, by key. -/
def zeta (i : ℕ) : ℝ := if hi : i < 4096 then (score Q K b h g p ⟨i, hi⟩).toReal else 0

/-- A column of the values, by key. -/
def vals (d : Fin 128) (i : ℕ) : EReal :=
  if hi : i < 4096 then V (ix2 ⟨b.val * 4096 + i, by omega⟩ ⟨h.val * 128 + d.val, by omega⟩) else 0

variable {Q K}

theorem zeta_eq (hQ : Real' Q) (hK : Real' K) (s : Fin 4096) : score Q K b h g p s = ((zeta Q K b h g p s.val : ℝ) : EReal) := by
  obtain ⟨x, hx⟩ := Cert.Mla.real_dot (fun x : Fin 128 => hK (ix2 ⟨b.val * 4096 + s.val, by omega⟩ ⟨h.val * 128 + x.val, by omega⟩))
    (fun x : Fin 128 => hQ (ix2 ⟨b.val * 4096 + p.val, by omega⟩ ⟨(h.val * 4 + g.val) * 128 + x.val, by omega⟩))
  have e : score Q K b h g p s = ((x * (Real.sqrt 128)⁻¹ : ℝ) : EReal) := by rw [score, hx, EReal.coe_mul]
  rw [zeta, dif_pos s.isLt, e, EReal.toReal_coe]

theorem LEFT_at (hQ : Real' Q) (hK : Real' K) (s : Fin 4096) :
    LEFT (SCORES Q K) (ix5 b h g p s) = ((left p.val (zeta Q K b h g p) s.val : ℝ) : EReal) := by
  rw [LEFT, EARLIER_at, left]
  split
  · show -(SOFTPLUS (SCORES Q K) (ix5 b h g p s)) = _
    rw [SOFTPLUS_at _ _ _ ((SCORES_at Q K b h g p s).trans (zeta_eq b h g p hQ hK s)), EReal.coe_neg]
  · exact EReal.coe_zero.symm

/-- The keys from `s` on. -/
theorem sum_onwards {M : Type*} [AddCommMonoid M] (f : ℕ → M) (s : ℕ) (hs : s ≤ 4096) :
    ∑ k : Fin 4096, (if s + k.val < 4096 then f (s + k.val) else 0) = ∑ i ∈ Finset.Ico s 4096, f i := by
  rw [Fin.sum_univ_eq_sum_range (fun k => if s + k < 4096 then f (s + k) else 0) 4096, ← Finset.sum_filter, Finset.sum_Ico_eq_sum_range]
  refine Finset.sum_congr ?_ fun _ _ => rfl
  ext k
  simp only [Finset.mem_filter, Finset.mem_range]
  omega

theorem ONWARDS_LEFT (hQ : Real' Q) (hK : Real' K) (s : Fin 4096) :
    ONWARDS (LEFT (SCORES Q K)) (ix5 b h g p s) = ((∑ i ∈ Finset.Ico s.val 4096, left p.val (zeta Q K b h g p) i : ℝ) : EReal) := by
  rw [ONWARDS_at, ← sum_onwards _ _ s.isLt.le, coe_sum]
  refine Finset.sum_congr rfl fun k _ => ?_
  by_cases hk : s.val + k.val < 4096
  · rw [dif_pos hk, if_pos hk, LEFT_at b h g p hQ hK]
  · rw [dif_neg hk, if_neg hk, EReal.coe_zero]

theorem WEIGHTS_at (hQ : Real' Q) (hK : Real' K) (s : Fin 4096) :
    WEIGHTS (SCORES Q K) (ix5 b h g p s) = weight p.val (zeta Q K b h g p) s.val := by
  rw [WEIGHTS, EARLIER_at, weight]
  refine if_congr Iff.rfl ?_ rfl
  show Ideal.exp (-(SOFTPLUS (Host.negf (SCORES Q K)) (ix5 b h g p s)) + (ONWARDS (LEFT (SCORES Q K)) (ix5 b h g p s) - LEFT (SCORES Q K) (ix5 b h g p s))) = _
  have en : Host.negf (SCORES Q K) (ix5 b h g p s) = ((-(zeta Q K b h g p s.val) : ℝ) : EReal) := by
    show -(SCORES Q K (ix5 b h g p s)) = _
    rw [SCORES_at, zeta_eq b h g p hQ hK, EReal.coe_neg]
  rw [SOFTPLUS_at _ _ _ en, ONWARDS_LEFT b h g p hQ hK, LEFT_at b h g p hQ hK, ← EReal.coe_sub, ← EReal.coe_neg, ← EReal.coe_add,
    Finset.sum_eq_sum_Ico_succ_bot s.isLt, add_sub_cancel_left]

/-- A row's sum over all the keys is the reference's result. -/
theorem row_value (hQ : Real' Q) (hK : Real' K) (d : Fin 128) {l a : EReal} (H : Carried p.val (zeta Q K b h g p) (vals V b h d) 0 l a) :
    a = REF Q K V (ix2 ⟨b.val * 4096 + p.val, by omega⟩ ⟨(h.val * 4 + g.val) * 128 + d.val, by omega⟩) := by
  rw [H.2, REF_at, ← Finset.range_eq_Ico, Finset.sum_range]
  refine Finset.sum_congr rfl fun s _ => ?_
  rw [WEIGHTS_at b h g p hQ hK, vals, dif_pos s.isLt, mul_comm]

end Cert.Sbp

end
-- ==== Proof.SbStep.lean ====
/-
  One block of keys: the scores the body takes against it are the reference's, scaled, and the two numbers it carries for
  each row stay those of the keys read so far.
-/
module

public import proofs.«01_k».proof.Proof.SbResult
public import proofs.«01_k».proof.Proof.SbBlocks
public import proofs.«01_k».proof.Proof.SbRow

@[expose] public section

set_option maxRecDepth 16384

noncomputable section

namespace Cert.Sbp

open Idealize.ShloMosaic Idealize.ShloMosaic.TcCoe Cert.Kernel8Ideal Cert.Kernel8Ideal.Gen Cert.Attn
open Cert.Mla (Real' sum_scaled)

/-! ### What a walk starts with -/

theorem start_left (r : Fin 2048) : k0_pay2 (F := Ideal) (ix2 r 0) = 0 := by
  pointwise [k0_pay2]

theorem start_sum (r : Fin 2048) (d : Fin 128) : k0_pay3 (F := Ideal) (ix2 r d) = 0 := by
  pointwise [k0_pay3]

theorem queries_at (x0 : Vec Ideal S512x512 .f32) (g : Fin 4) (i : Fin 512) (d : Fin 128) :
    queries x0 (ix2 ⟨512 * g.val + i.val, by omega⟩ d) = qhead x0 g (ix2 i d) * (((Real.sqrt 128)⁻¹ * invLn2 : ℝ) : EReal) := by
  have e := concatenate_ofFn_apply (t := S2048x128) (s₁ := S512x128) (0 : Fin 2) (N := 4)
    (fun n => qhead x0 n) concatenates_S512x128_S512x128_S512x128_S512x128_S2048x128_d0
    rfl 512 rfl (ix2 ⟨512 * g.val + i.val, by omega⟩ d) g (by show (512 * g.val + i.val) / 512 = g.val; omega) (ix2 i d)
    (by show i.val = (512 * g.val + i.val) % 512; omega)
    (by intro b hb; match b, hb with
        | 0, hb => exact absurd rfl hb
        | 1, _ => rfl)
  unfold queries k0_pay1
  rw [shapeCast_self]
  exact congrArg (· * (((Real.sqrt 128)⁻¹ * invLn2 : ℝ) : EReal)) e

/-! ### A point's rows -/

section
variable (m : (ℓ : Loc nD τ sig) → Buf (Elt Ideal) ℓ) (c : Dev nD)

/-- The arguments: the queries, the keys, the values. -/
abbrev argQ : FVec Ideal S8192x2048 .f32 := m ((c.tc : Thread nD τ).loc main_arg4)
abbrev argK : FVec Ideal S8192x512 .f32 := m ((c.tc : Thread nD τ).loc main_arg5)
abbrev argV : FVec Ideal S8192x512 .f32 := m ((c.tc : Thread nD τ).loc main_arg6)

/-- The queries and keys are real. -/
def Finite : Prop := ∀ c, Real' (argQ m c) ∧ Real' (argK m c)

end

variable (ch : Fin 1) (m : (ℓ : Loc nD τ sig) → Buf (Elt Ideal) ℓ) (ρ : Dev nD → PrngReg) (c : Dev nD) (t : Fin (cfgA ch).N)

/-- The prompt, the key head, and the place in the prompt, of a row of a point's block of queries. -/
def prompt : Fin 2 := ⟨qblk ch t / 8, by have := (same_prompt ch t).1; omega⟩
def keyHead : Fin 4 := ⟨head ch t, (same_prompt ch t).2.2⟩
def query (i : Fin 512) : Fin 4096 := ⟨512 * (qblk ch t % 8) + i.val, by omega⟩

/-- The scaled queries of a point's block. -/
def scaledQ : FVec Ideal S2048x128 .bf16 := queries (iblk ch m ρ c (0 : Fin 4) t)

/-- A row's scores, and a column of the values. -/
def row (g : Fin 4) (i : Fin 512) : ℕ → ℝ := zeta (argQ m c) (argK m c) (prompt ch t) (keyHead ch t) g (query ch t i)
def col (d : Fin 128) : ℕ → EReal := vals (argV m c) (prompt ch t) (keyHead ch t) d

theorem score_eq (hf : Finite m) (g : Fin 4) (i : Fin 512) (j : Fin 512) :
    k0_pay13 (F := Ideal) (k0_pay4 (F := Ideal) (iblk ch m ρ c (1 : Fin 4) t)) (scaledQ ch m ρ c t) (ix2 ⟨512 * g.val + i.val, by omega⟩ j)
      = ((row ch m c t g i (512 * (kblk ch t % 8) + j.val) * invLn2 : ℝ) : EReal) := by
  have sp := same_prompt ch t
  have hb := (prompt ch t).isLt
  have hh := (keyHead ch t).isLt
  have eq : (⟨512 * qblk ch t + i.val, by omega⟩ : Fin 8192) = ⟨(prompt ch t).val * 4096 + (query ch t i).val, by omega⟩ :=
    Fin.ext (by simp only [prompt, query]; omega)
  have ek : (⟨512 * kblk ch t + j.val, by omega⟩ : Fin 8192) = ⟨(prompt ch t).val * 4096 + (512 * (kblk ch t % 8) + j.val), by omega⟩ :=
    Fin.ext (by simp only [prompt]; omega)
  have el : ∀ x : Fin 128, qhead (iblk ch m ρ c (0 : Fin 4) t) g (ix2 i x)
      = argQ m c (ix2 ⟨(prompt ch t).val * 4096 + (query ch t i).val, by omega⟩ ⟨((keyHead ch t).val * 4 + g.val) * 128 + x.val, by omega⟩) := fun x => by
    refine (query_block ch m ρ c t i ⟨128 * g.val + x.val, by omega⟩).trans ?_
    rw [eq]
    refine congrArg (fun z => argQ m c (ix2 _ z)) (Fin.ext ?_)
    simp only [keyHead]; omega
  have er : ∀ x : Fin 128, iblk ch m ρ c (1 : Fin 4) t (ix2 j x)
      = argK m c (ix2 ⟨(prompt ch t).val * 4096 + (512 * (kblk ch t % 8) + j.val), by omega⟩ ⟨(keyHead ch t).val * 128 + x.val, by omega⟩) := fun x => by
    refine (key_block ch m ρ c t j x).trans ?_
    rw [ek]
    refine congrArg (fun z => argK m c (ix2 _ z)) (Fin.ext ?_)
    simp only [keyHead]; omega
  have ez := zeta_eq (prompt ch t) (keyHead ch t) g (query ch t i) (hf c).1 (hf c).2 ⟨512 * (kblk ch t % 8) + j.val, by omega⟩
  rw [z_at]
  simp only [scaledQ, queries_at, k_at, el, er]
  rw [sum_scaled _ _ (mul_pos (inv_pos.2 (Real.sqrt_pos.2 (by norm_num))) invLn2_pos).le, EReal.coe_mul, ← mul_assoc, EReal.coe_mul]
  refine congrArg (· * (invLn2 : EReal)) (Eq.trans ?_ ez)
  unfold score
  refine congrArg (· * (((Real.sqrt 128)⁻¹ : ℝ) : EReal)) (Finset.sum_congr rfl fun x _ => mul_comm _ _)

theorem vals_eq (j : Fin 512) (d : Fin 128) :
    iblk ch m ρ c (2 : Fin 4) t (ix2 j d) = col ch m c t d (512 * (kblk ch t % 8) + j.val) := by
  have sp := same_prompt ch t
  have hb := (prompt ch t).isLt
  have hh := (keyHead ch t).isLt
  have ek : (⟨512 * kblk ch t + j.val, by omega⟩ : Fin 8192) = ⟨(prompt ch t).val * 4096 + (512 * (kblk ch t % 8) + j.val), by omega⟩ :=
    Fin.ext (by simp only [prompt]; omega)
  rw [val_block, ek, col, vals, dif_pos (by omega)]
  refine congrArg (fun z => argV m c (ix2 _ z)) (Fin.ext ?_)
  simp only [keyHead]; omega

/-! ### The two numbers -/

/-- For every query head of the group, query and column: what the prompt's keys from `n` on leave, and their weighted sum. -/
def CarriedAll (n : ℕ) (L : FVec Ideal S2048x1 .f32) (A : FVec Ideal S2048x128 .f32) : Prop :=
  ∀ (g : Fin 4) (i : Fin 512) (d : Fin 128), Carried (query ch t i).val (row ch m c t g i) (col ch m c t d) n
    (L (ix2 ⟨512 * g.val + i.val, by omega⟩ 0)) (A (ix2 ⟨512 * g.val + i.val, by omega⟩ d))

theorem carried_first (q0 : P0_0 ch t) : CarriedAll ch m c t (512 * (kblk ch t % 8) + 512) (k0_pay2 (F := Ideal)) (k0_pay3 (F := Ideal)) := fun g i d => by
  have hk := first_block ch t q0
  rw [start_left, start_sum]
  exact carried_start _ _ _ _ (by simp only [query]; omega)

variable {L : FVec Ideal S2048x1 .f32} {A : FVec Ideal S2048x128 .f32}

theorem carried_seen (hf : Finite m) (q0 : ¬ P0_0 ch t) (H : CarriedAll ch m c t (512 * (kblk ch t % 8) + 512) L A) :
    CarriedAll ch m c t (512 * (kblk ch t % 8)) (seenL (iblk ch m ρ c (1 : Fin 4) t) (scaledQ ch m ρ c t) L)
      (seenA (iblk ch m ρ c (1 : Fin 4) t) (iblk ch m ρ c (2 : Fin 4) t) (scaledQ ch m ρ c t) L A) := fun g i d => by
  have sp := same_prompt ch t
  have eb := earlier_block ch t q0
  have hlt : ∀ j < 512, 512 * (kblk ch t % 8) + j < (query ch t i).val := fun j hj => by simp only [query]; omega
  have hl := (H g i d).1
  have hz := fun j => score_eq ch m ρ c t hf g i j
  rw [seenL_real _ _ L _ (fun j => row ch m c t g i (512 * (kblk ch t % 8) + j) * invLn2) _ hl hz,
    seenA_real _ _ _ L A _ (fun j => row ch m c t g i (512 * (kblk ch t % 8) + j) * invLn2) _ hl hz]
  have st := (H g i d).step _ _ _ (by omega) hl (g := fun j => -sp2 (row ch m c t g i (512 * (kblk ch t % 8) + j) * invLn2)) fun j hj => (if_pos (hlt j hj)).symm
  have hlt' : ∀ j : Fin 512, (512 * (kblk ch t % 8) + j.val < (query ch t i).val) = True := fun j => eq_true (hlt j.val j.isLt)
  simp only [hlt', if_true] at st
  simp only [vals_eq]
  exact st

theorem carried_masked (hf : Finite m) (q0 : P0_0 ch t) (H : CarriedAll ch m c t (512 * (kblk ch t % 8) + 512) L A) :
    CarriedAll ch m c t (512 * (kblk ch t % 8)) (maskedL (iblk ch m ρ c (1 : Fin 4) t) (scaledQ ch m ρ c t) L)
      (maskedA (iblk ch m ρ c (1 : Fin 4) t) (iblk ch m ρ c (2 : Fin 4) t) (scaledQ ch m ρ c t) L A) := fun g i d => by
  have eb := first_block ch t q0
  have hlt : ∀ j, 512 * (kblk ch t % 8) + j < (query ch t i).val ↔ j < (⟨512 * g.val + i.val, by omega⟩ : Fin 2048).val % 512 := fun j => by
    simp only [query]; omega
  have hl := (H g i d).1
  have hz := fun j => score_eq ch m ρ c t hf g i j
  rw [maskedL_real _ _ L _ (fun j => row ch m c t g i (512 * (kblk ch t % 8) + j) * invLn2) _ hl hz,
    maskedA_real _ _ _ L A _ (fun j => row ch m c t g i (512 * (kblk ch t % 8) + j) * invLn2) _ hl hz]
  have st := (H g i d).step _ _ _ (by omega) hl (g := fun j => if j < (⟨512 * g.val + i.val, by omega⟩ : Fin 2048).val % 512 then -sp2 (row ch m c t g i (512 * (kblk ch t % 8) + j) * invLn2) else 0)
    fun j _ => if_congr (hlt j).symm rfl rfl
  simp only [hlt] at st
  simp only [vals_eq]
  exact st

end Cert.Sbp

end
-- ==== Proof.SbCarry.lean ====
/-
  After every point the three buffers hold the block's scaled queries and the two numbers of the keys read so far; a last
  point leaves its block of the result.  By induction along the grid.
-/
module

public import proofs.«01_k».proof.Proof.SbStep

@[expose] public section

set_option maxRecDepth 16384

noncomputable section

namespace Cert.Sbp

open Idealize.ShloMosaic Idealize.ShloMosaic.TcCoe Cert.Kernel8Ideal Cert.Kernel8Ideal.Gen Cert.Attn

variable (ch : Fin 1) (m : (ℓ : Loc nD τ sig) → Buf (Elt Ideal) ℓ) (ρ : Dev nD → PrngReg) (c : Dev nD)

/-- What is so after a point. -/
def After (t : Fin (cfgA ch).N) : Prop := ∃ (L : FVec Ideal S2048x1 .f32) (A : FVec Ideal S2048x128 .f32),
  Holds c (scaledQ ch m ρ c t) L A (traj0 ch m ρ c t.val t.isLt).2.1 (traj0 ch m ρ c t.val t.isLt).2.2.1
    (traj0 ch m ρ c t.val t.isLt).2.2.2
  ∧ CarriedAll ch m c t (512 * (kblk ch t % 8)) L A
  ∧ (P0_1 ch t → (traj0 ch m ρ c t.val t.isLt).1 = result A)

/-- The queries of a walk are those of the point before. -/
theorem scaledQ_before (t : Fin (cfgA ch).N) (q0 : ¬ P0_0 ch t) : scaledQ ch m ρ c (before ch t) = scaledQ ch m ρ c t := by
  have e := (goes_on ch t q0).2.2
  have e0 : iblk ch m ρ c (0 : Fin 4) (before ch t) = iblk ch m ρ c (0 : Fin 4) t := by
    funext (y : S512x512.Idx)
    obtain ⟨i, x, rfl⟩ : ∃ (i x : Fin 512), y = ix2 i x := ⟨y 0, y 1, by funext a; fin_cases a <;> rfl⟩
    refine (query_block ch m ρ c _ _ _).trans ((query_block ch m ρ c t _ _).trans ?_).symm
    simp only [e.1, e.2.1]
  unfold scaledQ
  rw [e0]

/-- So are its two numbers. -/
theorem carried_before (t : Fin (cfgA ch).N) (q0 : ¬ P0_0 ch t) {L : FVec Ideal S2048x1 .f32} {A : FVec Ideal S2048x128 .f32}
    (H : CarriedAll ch m c (before ch t) (512 * (kblk ch (before ch t) % 8)) L A) : CarriedAll ch m c t (512 * (kblk ch t % 8) + 512) L A := by
  have g := (goes_on ch t q0).2.2
  have sp := same_prompt ch t
  have sp' := same_prompt ch (before ch t)
  have ek : 512 * (kblk ch (before ch t) % 8) = 512 * (kblk ch t % 8) + 512 := by omega
  have ep : prompt ch (before ch t) = prompt ch t := Fin.ext (by simp only [prompt]; omega)
  have eh : keyHead ch (before ch t) = keyHead ch t := Fin.ext (by simp only [keyHead]; omega)
  intro h i d
  have eq : query ch (before ch t) i = query ch t i := Fin.ext (by simp only [query]; omega)
  have := H h i d
  rw [ek, row, col, ep, eh, eq] at this
  exact this

theorem prev_eq (t : Fin (cfgA ch).N) (h : 0 < t.val) : prev0 ch m ρ c t = traj0 ch m ρ c (before ch t).val (before ch t).isLt := by
  unfold prev0
  rw [dif_neg (by omega)]
  rfl

/-- A point of each kind. -/
theorem after_start_last (hf : Finite m) (t : Fin (cfgA ch).N) (q0 : P0_0 ch t) (q1 : P0_1 ch t) : After ch m ρ c t := by
  refine ⟨_, _, ?_, carried_masked ch m ρ c t hf q0 (carried_first ch m c t q0), fun _ => ?_⟩
  · rw [traj0_eq, step0_A ch m ρ c t _ q0 q1]
    have r := leaves_A c (crd ch t) (ms0_0 ch t) (hs0_0 ch t) (ms0_1 ch t) (hs0_1 ch t) (ms0_2 ch t) (hs0_2 ch t) (ms0_3 ch t) (hs0_3 ch t)
        (pinT_0 ch) (pinT_1 ch) (pinT_2 ch) (pinT_3 ch) (iblk ch m ρ c (0 : Fin 4) t) (iblk ch m ρ c (1 : Fin 4) t) (iblk ch m ρ c (2 : Fin 4) t)
        (hypsR0_A ch t q0 q1).1 (hypsR0_A ch t q0 q1).2.1 (hypsR0_A ch t q0 q1).2.2.1 (hypsR0_A ch t q0 q1).2.2.2.1
    dsimp only at r ⊢
    exact r
  · rw [traj0_eq, step0_A ch m ρ c t _ q0 q1]
    have r := out_A c (crd ch t) (ms0_0 ch t) (hs0_0 ch t) (ms0_1 ch t) (hs0_1 ch t) (ms0_2 ch t) (hs0_2 ch t) (ms0_3 ch t) (hs0_3 ch t)
        (pinT_0 ch) (pinT_1 ch) (pinT_2 ch) (pinT_3 ch) (iblk ch m ρ c (0 : Fin 4) t) (iblk ch m ρ c (1 : Fin 4) t) (iblk ch m ρ c (2 : Fin 4) t)
        (hypsR0_A ch t q0 q1).1 (hypsR0_A ch t q0 q1).2.1 (hypsR0_A ch t q0 q1).2.2.1 (hypsR0_A ch t q0 q1).2.2.2.1
    dsimp only
    exact r

theorem after_start (hf : Finite m) (t : Fin (cfgA ch).N) (q0 : P0_0 ch t) (q1 : ¬ P0_1 ch t) : After ch m ρ c t := by
  refine ⟨_, _, ?_, carried_masked ch m ρ c t hf q0 (carried_first ch m c t q0), fun h => absurd h q1⟩
  rw [traj0_eq, step0_B ch m ρ c t _ q0 q1]
  have r := leaves_B c (crd ch t) (ms0_0 ch t) (hs0_0 ch t) (ms0_1 ch t) (hs0_1 ch t) (ms0_2 ch t) (hs0_2 ch t) (ms0_3 ch t) (hs0_3 ch t)
      (pinT_0 ch) (pinT_1 ch) (pinT_2 ch) (pinT_3 ch) (iblk ch m ρ c (0 : Fin 4) t) (iblk ch m ρ c (1 : Fin 4) t) (iblk ch m ρ c (2 : Fin 4) t)
      (hypsR0_B ch t q0 q1).1 (hypsR0_B ch t q0 q1).2.1 (hypsR0_B ch t q0 q1).2.2.1 (hypsR0_B ch t q0 q1).2.2.2.1
  dsimp only at r ⊢
  exact r

theorem after_last (hf : Finite m) (t : Fin (cfgA ch).N) (q0 : ¬ P0_0 ch t) (q1 : P0_1 ch t) (ih : After ch m ρ c (before ch t)) : After ch m ρ c t := by
  obtain ⟨L, A, hH, hC, _⟩ := ih
  rw [scaledQ_before ch m ρ c t q0, ← prev_eq ch m ρ c t (goes_on ch t q0).1] at hH
  refine ⟨_, _, ?_, carried_seen ch m ρ c t hf q0 (carried_before ch m c t q0 hC), fun _ => ?_⟩
  · rw [traj0_eq, step0_C ch m ρ c t _ q0 q1]
    have r := leaves_C c (crd ch t) (ms0_0 ch t) (hs0_0 ch t) (ms0_1 ch t) (hs0_1 ch t) (ms0_2 ch t) (hs0_2 ch t) (ms0_3 ch t) (hs0_3 ch t)
        (pinT_0 ch) (pinT_1 ch) (pinT_2 ch) (pinT_3 ch) (iblk ch m ρ c (0 : Fin 4) t) (iblk ch m ρ c (1 : Fin 4) t) (iblk ch m ρ c (2 : Fin 4) t) (prev0 ch m ρ c t).2.1 (prev0 ch m ρ c t).2.2.1 (prev0 ch m ρ c t).2.2.2 hH
        (hypsR0_C ch t q0 q1).1 (hypsR0_C ch t q0 q1).2.1 (hypsR0_C ch t q0 q1).2.2.1 (hypsR0_C ch t q0 q1).2.2.2.1
    dsimp only at r ⊢
    exact r
  · rw [traj0_eq, step0_C ch m ρ c t _ q0 q1]
    have r := out_C c (crd ch t) (ms0_0 ch t) (hs0_0 ch t) (ms0_1 ch t) (hs0_1 ch t) (ms0_2 ch t) (hs0_2 ch t) (ms0_3 ch t) (hs0_3 ch t)
        (pinT_0 ch) (pinT_1 ch) (pinT_2 ch) (pinT_3 ch) (iblk ch m ρ c (0 : Fin 4) t) (iblk ch m ρ c (1 : Fin 4) t) (iblk ch m ρ c (2 : Fin 4) t) (prev0 ch m ρ c t).2.1 (prev0 ch m ρ c t).2.2.1 (prev0 ch m ρ c t).2.2.2 hH
        (hypsR0_C ch t q0 q1).1 (hypsR0_C ch t q0 q1).2.1 (hypsR0_C ch t q0 q1).2.2.1 (hypsR0_C ch t q0 q1).2.2.2.1
    dsimp only
    exact r

theorem after_middle (hf : Finite m) (t : Fin (cfgA ch).N) (q0 : ¬ P0_0 ch t) (q1 : ¬ P0_1 ch t) (ih : After ch m ρ c (before ch t)) : After ch m ρ c t := by
  obtain ⟨L, A, hH, hC, _⟩ := ih
  rw [scaledQ_before ch m ρ c t q0, ← prev_eq ch m ρ c t (goes_on ch t q0).1] at hH
  refine ⟨_, _, ?_, carried_seen ch m ρ c t hf q0 (carried_before ch m c t q0 hC), fun h => absurd h q1⟩
  rw [traj0_eq, step0_D ch m ρ c t _ q0 q1]
  have r := leaves_D c (crd ch t) (ms0_0 ch t) (hs0_0 ch t) (ms0_1 ch t) (hs0_1 ch t) (ms0_2 ch t) (hs0_2 ch t) (ms0_3 ch t) (hs0_3 ch t)
      (pinT_0 ch) (pinT_1 ch) (pinT_2 ch) (pinT_3 ch) (iblk ch m ρ c (0 : Fin 4) t) (iblk ch m ρ c (1 : Fin 4) t) (iblk ch m ρ c (2 : Fin 4) t) (prev0 ch m ρ c t).2.1 (prev0 ch m ρ c t).2.2.1 (prev0 ch m ρ c t).2.2.2 hH
      (hypsR0_D ch t q0 q1).1 (hypsR0_D ch t q0 q1).2.1 (hypsR0_D ch t q0 q1).2.2.1 (hypsR0_D ch t q0 q1).2.2.2.1
  dsimp only at r ⊢
  exact r

theorem after_all (hf : Finite m) : ∀ (n : ℕ) (hn : n < (cfgA ch).N), After ch m ρ c ⟨n, hn⟩ := by
  intro n
  induction n with
  | zero =>
    intro hn
    by_cases q0 : P0_0 ch ⟨0, hn⟩
    · by_cases q1 : P0_1 ch ⟨0, hn⟩
      · exact after_start_last ch m ρ c hf _ q0 q1
      · exact after_start ch m ρ c hf _ q0 q1
    · exact absurd (goes_on ch _ q0).1 (lt_irrefl 0)
  | succ n ih =>
    intro hn
    have hb : After ch m ρ c (before ch ⟨n + 1, hn⟩) := ih (by omega)
    by_cases q0 : P0_0 ch ⟨n + 1, hn⟩
    · by_cases q1 : P0_1 ch ⟨n + 1, hn⟩
      · exact after_start_last ch m ρ c hf _ q0 q1
      · exact after_start ch m ρ c hf _ q0 q1
    · by_cases q1 : P0_1 ch ⟨n + 1, hn⟩
      · exact after_last ch m ρ c hf _ q0 q1 hb
      · exact after_middle ch m ρ c hf _ q0 q1 hb

end Cert.Sbp

end
-- ==== Proof.SbLaunch.lean ====
/-
  The preconditions name the four tables of steps word by word; here they are read as the tables the launch is pinned to,
  for the program in floats and for the one in extended reals.
-/
module

public import proofs.«01_k».proof.Proof.Launch
public import proofs.«01_k».proof.Proof.Gen.Kernel8.Flash
public import proofs.«01_k».proof.Proof.Gen.Kernel8Ideal.Flash
public import proofs.«01_k».proof.Proof.Gen.Pre_descending_steps
public import proofs.«01_k».proof.Proof.Gen.Pre_finite_descending_steps

@[expose] public section

set_option maxRecDepth 16384

noncomputable section

namespace Cert.Sbp

open Idealize.ShloMosaic Idealize.ShloMosaic.TcCoe Idealize.SL.Sem

attribute [local instance] Cert.Pre_descending_steps.Gen.facts Cert.Pre_finite_descending_steps.Gen.facts

theorem table0 : ∀ x, Pre_descending_steps.lit0 (Pre_descending_steps.S36.rowMajor x) = Kernel8.Gen.pinT_0 0 x := by decide +kernel
theorem table1 : ∀ x, Pre_descending_steps.lit1 (Pre_descending_steps.S36.rowMajor x) = Kernel8.Gen.pinT_1 0 x := by decide +kernel
theorem table2 : ∀ x, Pre_descending_steps.lit2 (Pre_descending_steps.S36.rowMajor x) = Kernel8.Gen.pinT_2 0 x := by decide +kernel
theorem table3 : ∀ x, Pre_descending_steps.lit3 (Pre_descending_steps.S36.rowMajor x) = Kernel8.Gen.pinT_3 0 x := by decide +kernel

theorem ideal0 : ∀ x, Pre_descending_steps.lit0 (Pre_descending_steps.S36.rowMajor x) = Kernel8Ideal.Gen.pinT_0 0 x := by decide +kernel
theorem ideal1 : ∀ x, Pre_descending_steps.lit1 (Pre_descending_steps.S36.rowMajor x) = Kernel8Ideal.Gen.pinT_1 0 x := by decide +kernel
theorem ideal2 : ∀ x, Pre_descending_steps.lit2 (Pre_descending_steps.S36.rowMajor x) = Kernel8Ideal.Gen.pinT_2 0 x := by decide +kernel
theorem ideal3 : ∀ x, Pre_descending_steps.lit3 (Pre_descending_steps.S36.rowMajor x) = Kernel8Ideal.Gen.pinT_3 0 x := by decide +kernel

theorem finite0 : ∀ x, Pre_finite_descending_steps.lit0 (Pre_finite_descending_steps.S36.rowMajor x) = Kernel8Ideal.Gen.pinT_0 0 x := by decide +kernel
theorem finite1 : ∀ x, Pre_finite_descending_steps.lit1 (Pre_finite_descending_steps.S36.rowMajor x) = Kernel8Ideal.Gen.pinT_1 0 x := by decide +kernel
theorem finite2 : ∀ x, Pre_finite_descending_steps.lit2 (Pre_finite_descending_steps.S36.rowMajor x) = Kernel8Ideal.Gen.pinT_2 0 x := by decide +kernel
theorem finite3 : ∀ x, Pre_finite_descending_steps.lit3 (Pre_finite_descending_steps.S36.rowMajor x) = Kernel8Ideal.Gen.pinT_3 0 x := by decide +kernel

theorem pinned (m : (ℓ : Loc Kernel8.nD Kernel8.τ Kernel8.sig) → Buf (Elt Bits) ℓ) (h : Pre_Kernel8 m) : Kernel8.Gen.Pinned 0 m :=
  ⟨fun c => (Cert.Mla.table_eq (h c).1).trans (funext table0), fun c => (Cert.Mla.table_eq (h c).2.1).trans (funext table1),
    fun c => (Cert.Mla.table_eq (h c).2.2.1).trans (funext table2), fun c => (Cert.Mla.table_eq (h c).2.2.2).trans (funext table3)⟩

theorem pinned_ideal (m : (ℓ : Loc Kernel8Ideal.nD Kernel8Ideal.τ Kernel8Ideal.sig) → Buf (Elt Ideal) ℓ) (h : Pre_Kernel8Ideal m) :
    Kernel8Ideal.Gen.Pinned 0 m :=
  ⟨fun c => (Cert.Mla.table_eq (h c).1).trans (funext ideal0), fun c => (Cert.Mla.table_eq (h c).2.1).trans (funext ideal1),
    fun c => (Cert.Mla.table_eq (h c).2.2.1).trans (funext ideal2), fun c => (Cert.Mla.table_eq (h c).2.2.2).trans (funext ideal3)⟩

theorem pinned_finite (m : (ℓ : Loc Kernel8Ideal.nD Kernel8Ideal.τ Kernel8Ideal.sig) → Buf (Elt Ideal) ℓ)
    (h : Pre_Kernel8Ideal_finite_descending_steps m) : Kernel8Ideal.Gen.Pinned 0 m :=
  ⟨fun c => (Cert.Mla.table_eq (h c).1).trans (funext finite0), fun c => (Cert.Mla.table_eq (h c).2.1).trans (funext finite1),
    fun c => (Cert.Mla.table_eq (h c).2.2.1).trans (funext finite2), fun c => (Cert.Mla.table_eq (h c).2.2.2.1).trans (funext finite3)⟩

/-- The queries and keys are real numbers. -/
theorem finite (m : (ℓ : Loc Kernel8Ideal.nD Kernel8Ideal.τ Kernel8Ideal.sig) → Buf (Elt Ideal) ℓ)
    (h : Pre_Kernel8Ideal_finite_descending_steps m) (c : Dev Kernel8Ideal.nD) :
    (∀ i, ∃ r : ℝ, m ((c.tc : Thread Kernel8Ideal.nD Kernel8Ideal.τ).loc Kernel8Ideal.main_arg4) i = (r : EReal))
    ∧ (∀ i, ∃ r : ℝ, m ((c.tc : Thread Kernel8Ideal.nD Kernel8Ideal.τ).loc Kernel8Ideal.main_arg5) i = (r : EReal)) :=
  ⟨Cert.Mla.real_of_lt (fun _ => Cert.Mla.infinity) (h c).2.2.2.2.1, Cert.Mla.real_of_lt (fun _ => Cert.Mla.infinity) (h c).2.2.2.2.2⟩

end Cert.Sbp

end
-- ==== Proof.SbFinal.lean ====
/-
  The result array of the stick-breaking attention is the reference's: block by block at the last points, which cover it; and
  the run, read at it.
-/
module

public import proofs.«01_k».proof.Proof.SbCarry
public import proofs.«01_k».proof.Proof.SbLaunch

@[expose] public section

set_option maxRecDepth 16384

noncomputable section

namespace Cert.Sbp

open Idealize.ShloMosaic Idealize.ShloMosaic.TcCoe Idealize.SL.Sem Cert.Kernel8Ideal Cert.Kernel8Ideal.Gen Cert.Attn
open Idealize.ShloMosaic.Pipeline (Dat)

attribute [local instance] Cert.Pre_descending_steps.Gen.facts Cert.Pre_finite_descending_steps.Gen.facts

/-- What the result array is shown to hold. -/
abbrev val (m : (ℓ : Loc nD τ sig) → Buf (Elt Ideal) ℓ) (c : Dev nD) : Buf (Elt Ideal) ((c : Thread nD τ).loc main_v0) :=
  REF (argQ m c) (argK m c) (argV m c)

variable (ch : Fin 1) (m : (ℓ : Loc nD τ sig) → Buf (Elt Ideal) ℓ) (ρ : Dev nD → PrngReg) (c : Dev nD)

/-- A last point's block of the result, at a query head's column. -/
theorem block_head (hf : Finite m) (t : Fin (cfgA ch).N) (q1 : P0_1 ch t) (i : Fin 512) (g : Fin 4) (d : Fin 128) :
    (traj0 ch m ρ c t.val t.isLt).1 (ix2 i ⟨128 * g.val + d.val, by omega⟩)
      = REF (argQ m c) (argK m c) (argV m c)
          (ix2 ⟨(prompt ch t).val * 4096 + (query ch t i).val, by omega⟩ ⟨((keyHead ch t).val * 4 + g.val) * 128 + d.val, by omega⟩) := by
  have lb := last_block ch t q1
  obtain ⟨L, A, _, hC, hO⟩ : After ch m ρ c t := after_all ch m ρ c hf t.val t.isLt
  have H := hC g i d
  rw [lb] at H
  rw [hO q1, result_at]
  exact row_value (argV m c) (prompt ch t) (keyHead ch t) g (query ch t i) (hf c).1 (hf c).2 d H

theorem block_out (hf : Finite m) (t : Fin (cfgA ch).N) (q1 : P0_1 ch t) (i : Fin 512) (k : Fin 512) :
    (traj0 ch m ρ c t.val t.isLt).1 (ix2 i k) = val m c
      (ix2 ⟨512 * qblk ch t + i.val, by have := same_prompt ch t; omega⟩ ⟨512 * head ch t + k.val, by have := same_prompt ch t; omega⟩) := by
  have ek : k = ⟨128 * (⟨k.val / 128, by omega⟩ : Fin 4).val + (⟨k.val % 128, by omega⟩ : Fin 128).val, by simp only; omega⟩ := Fin.ext (by simp only; omega)
  have b := block_head ch m ρ c hf t q1 i ⟨k.val / 128, by omega⟩ ⟨k.val % 128, by omega⟩
  rw [← ek] at b
  refine b.trans (congrArg (val m c) ?_)
  refine congrArg₂ ix2 (Fin.ext ?_) (Fin.ext ?_)
  · simp only [prompt, query]; omega
  · simp only [keyHead]; omega

theorem read_out (t : Fin (cfgA ch).N) (i : Fin 512) (k : Fin 512) :
    (((cfgA ch).win (3 : Fin 4)).blk t).view.read (Elt Ideal) (val m c) (ix2 i k) = val m c
      (ix2 ⟨512 * qblk ch t + i.val, by have := same_prompt ch t; omega⟩ ⟨512 * head ch t + k.val, by have := same_prompt ch t; omega⟩) := by
  blk_ext [(idx_out ch t).1, (idx_out ch t).2]

theorem flushed_eq (hf : Finite m) (t : Fin (cfgA ch).N) (q1 : P0_1 ch t) :
    (dats ch m ρ 0 c).flushed (3 : Fin 4) t = (((cfgA ch).win (3 : Fin 4)).blk t).view.read (Elt Ideal) (val m c) := by
  show ((cfgA ch).win (3 : Fin 4)).cut ((cfgA ch).grid.coords t) ((dats ch m ρ 0 c).after (3 : Fin 4) t) = _
  rw [after0_3]
  funext (y : S512x512.Idx)
  obtain ⟨i, k, rfl⟩ : ∃ (i : Fin 512) (k : Fin 512), y = ix2 i k := ⟨y 0, y 1, by funext a; fin_cases a <;> rfl⟩
  exact (block_out ch m ρ c hf t q1 i k).trans (read_out ch m c t i k).symm

/-- The last points' blocks cover the result. -/
theorem cover (i : S8192x2048.Idx) :
    ∃ t : Fin (cfgA ch).N, ((cfgA ch).win (3 : Fin 4)).flush t = true ∧ i ∈ (((cfgA ch).win (3 : Fin 4)).blk t).view.set := by
  have hi : (i 0).val < 8192 := (i 0).isLt
  have hj : (i 1).val < 2048 := (i 1).isLt
  obtain ⟨_, hq, hh, hfl⟩ := last_of ch ⟨(i 0).val / 512, by omega⟩ ⟨(i 1).val / 512, by omega⟩
  generalize lastPt ch ⟨(i 0).val / 512, by omega⟩ ⟨(i 1).val / 512, by omega⟩ = t0 at hq hh hfl
  refine ⟨t0, hfl, ?_⟩
  show i ∈ ((View.whole main_v0).slice (((cfgA ch).win (3 : Fin 4)).rect t0)).set
  erw [View.set_slice_whole]
  refine (Pipeline.Window.mem_rect_iff ((cfgA ch).win (3 : Fin 4)) t0 i (by rfl)).mpr fun a => ?_
  have e : ∀ (ch : Fin 1) (t : Fin (cfgA ch).N), (((cfgA ch).win (3 : Fin 4)).size (0 : Fin 2) = 512 ∧ ((cfgA ch).win (3 : Fin 4)).size (1 : Fin 2) = 512)
      ∧ ((cfgA ch).win (3 : Fin 4)).xsize ((cfgA ch).grid.coords t) (0 : Fin 2) = 512
      ∧ ((cfgA ch).win (3 : Fin 4)).xsize ((cfgA ch).grid.coords t) (1 : Fin 2) = 512 := by
    decide +kernel
  obtain ⟨⟨e0, e1⟩, x0, x1⟩ := e ch t0
  have i0 := (idx_out ch t0).1.trans hq
  have i1 := (idx_out ch t0).2.trans hh
  match a with
  | (0 : Fin 2) =>
    rw [e0, x0, i0]
    show (i 0).val / 512 * 512 ≤ (i 0).val ∧ (i 0).val < (i 0).val / 512 * 512 + 512
    omega
  | (1 : Fin 2) =>
    rw [e1, x1, i1]
    show (i 1).val / 512 * 512 ≤ (i 1).val ∧ (i 1).val < (i 1).val / 512 * 512 + 512
    omega

theorem final_o (hf : Finite m) : (dats ch m ρ 0 c).arrAt (3 : Fin 4) (cfgA ch).N = val m c :=
  (dats ch m ρ 0 c).arrAt_eq_of_cover (3 : Fin 4) (val m c) (fun t h => flushed_eq ch m ρ c hf t (last_of_flush ch t h)) (cover ch)

/-- The run, read: the result array at the reference's value, the arguments unchanged. -/
theorem run (h : Pre_Kernel8Ideal_finite_descending_steps m) : θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  have hp := pinned_finite m h
  (θ_run defs _ _).mono (fun _ hr c => ⟨((hr c).1 (3 : Fin 4)).trans (final_o 0 m ρ c (finite m h)),
      ((hr c).2 0).trans (hp.1 c).symm, ((hr c).2 1).trans (hp.2.1 c).symm, ((hr c).2 2).trans (hp.2.2.1 c).symm, ((hr c).2 3).trans (hp.2.2.2 c).symm,
      ((hr c).1 (0 : Fin 4)).trans ((dats 0 m ρ 0 c).arrAt_in (0 : Fin 4) rfl _), ((hr c).1 (1 : Fin 4)).trans ((dats 0 m ρ 0 c).arrAt_in (1 : Fin 4) rfl _),
      ((hr c).1 (2 : Fin 4)).trans ((dats 0 m ρ 0 c).arrAt_in (2 : Fin 4) rfl _)⟩)
    (run_main 0 m ρ hp)

end Cert.Sbp

end
-- ==== Proof.lean ====
module

public import proofs.«01_k».proof.Defs
public import proofs.«01_k».proof.Proof.Gen.Kernel.Flash
public import proofs.«01_k».proof.Proof.Gen.KernelIdeal.Flash
public import proofs.«01_k».proof.Proof.Gen.Pre_causal_steps
public import proofs.«01_k».proof.Proof.Gen.Pre_finite_causal_steps
public import proofs.«01_k».proof.Proof.Gen.ReferenceIdeal.Run
public import proofs.«01_k».proof.Proof.RefValue
public import proofs.«01_k».proof.Proof.Launch
public import proofs.«01_k».proof.Proof.Attention
public import proofs.«01_k».proof.Proof.Gen.Kernel2
public import proofs.«01_k».proof.Proof.Gen.Kernel2.Frame
public import proofs.«01_k».proof.Proof.Gen.Reference2Ideal.Run
public import proofs.«01_k».proof.Proof.InProj
public import proofs.«01_k».proof.Proof.Gen.Kernel3
public import proofs.«01_k».proof.Proof.Gen.Kernel3.Frame
public import proofs.«01_k».proof.Proof.Gen.Reference3Ideal.Run
public import proofs.«01_k».proof.Proof.OutProj
public import proofs.«01_k».proof.Proof.Gen.Kernel4
public import proofs.«01_k».proof.Proof.Gen.Kernel4.Frame
public import proofs.«01_k».proof.Proof.Gen.Reference4Ideal.Run
public import proofs.«01_k».proof.Proof.SbIn
public import proofs.«01_k».proof.Proof.Gen.Kernel5
public import proofs.«01_k».proof.Proof.Gen.Kernel5.Frame
public import proofs.«01_k».proof.Proof.Gen.Reference5Ideal.Run
public import proofs.«01_k».proof.Proof.SbOut
public import proofs.«01_k».proof.Proof.Gen.Kernel6
public import proofs.«01_k».proof.Proof.Gen.Kernel6.Frame
public import proofs.«01_k».proof.Proof.Gen.Reference6Ideal.Run
public import proofs.«01_k».proof.Proof.MlaIn
public import proofs.«01_k».proof.Proof.Gen.Kernel7
public import proofs.«01_k».proof.Proof.Gen.Kernel7.Frame
public import proofs.«01_k».proof.Proof.Gen.Reference7Ideal.Run
public import proofs.«01_k».proof.Proof.MlaOut
public import proofs.«01_k».proof.Proof.Gen.Kernel8.Flash
public import proofs.«01_k».proof.Proof.Gen.Kernel8Ideal.Flash
public import proofs.«01_k».proof.Proof.Gen.Pre_descending_steps
public import proofs.«01_k».proof.Proof.Gen.Pre_finite_descending_steps
public import proofs.«01_k».proof.Proof.Gen.Reference8Ideal.Run
public import proofs.«01_k».proof.Proof.SbFinal
public import Idealize.ShloMosaic.Lib.Claim

@[expose] public section

noncomputable section

namespace Cert.Proof

open Idealize.ShloMosaic Idealize.SL.Sem

attribute [local instance] Cert.Kernel.Gen.facts Cert.KernelIdeal.Gen.facts Cert.ReferenceIdeal.Gen.facts
  Cert.Pre_causal_steps.Gen.facts Cert.Pre_finite_causal_steps.Gen.facts
  Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts
  Cert.Kernel5.Gen.facts Cert.Kernel5Ideal.Gen.facts Cert.Reference5Ideal.Gen.facts
  Cert.Kernel6.Gen.facts Cert.Kernel6Ideal.Gen.facts Cert.Reference6Ideal.Gen.facts
  Cert.Kernel7.Gen.facts Cert.Kernel7Ideal.Gen.facts Cert.Reference7Ideal.Gen.facts
  Cert.Kernel8.Gen.facts Cert.Kernel8Ideal.Gen.facts Cert.Reference8Ideal.Gen.facts
  Cert.Pre_descending_steps.Gen.facts Cert.Pre_finite_descending_steps.Gen.facts

/-! The latent attention of the prompt. -/

theorem quiescent1 : quiescent_Kernel := fun m g h => by
  exact Cert.Kernel.Gen.frame 0 m g (Cert.Mla.pinned m h)

theorem quiescent1I : quiescent_KernelIdeal := fun m g h => by
  exact Cert.KernelIdeal.Gen.frame 0 m g (Cert.Mla.pinned_ideal m h)

theorem quiescent1F : quiescent_KernelIdeal_pre_finite_causal_steps := fun m g h => by
  exact Cert.KernelIdeal.Gen.frame 0 m g (Cert.Mla.pinned_finite m h)

theorem quiescent1R : quiescent_ReferenceIdeal := fun m g _ =>
  (θ_run _ _ _).mono (fun r h => ⟨fun c => (h c).2, sem_eq_zero_of_no_sems (by decide) r.2⟩)
    (Cert.ReferenceIdeal.Value.run m g)

theorem quiescent1RF : quiescent_ReferenceIdeal_pre_finite_causal_steps := fun m g _ =>
  (θ_run _ _ _).mono (fun r h => ⟨fun c => (h c).2, sem_eq_zero_of_no_sems (by decide) r.2⟩)
    (Cert.ReferenceIdeal.Value.run m g)

theorem preserves1 : preserves_Kernel_KernelIdeal :=
  ⟨IdealRules.named_const.statement _ _ _ _ _ rfl, IdealRules.named_const.statement _ _ _ _ _ rfl⟩

set_option maxHeartbeats 1600000 in
theorem algebraic1 : algebraic_KernelIdeal_ReferenceIdeal_pre_finite_causal_steps := by
  intro m g m' g' hpre hagree
  refine ⟨fun c => Cert.Mla.val m c, Cert.Mla.run m g hpre, ?_⟩
  refine (θ_run _ _ _).mono (fun r h c => ⟨(h c).1.trans ?_, (h c).2⟩) (Cert.ReferenceIdeal.Value.run m' g')
  obtain ⟨_, _, _, _, e4, e5, e6, e7, e8⟩ := hagree c
  refine (Cert.Mla.res_eq m' c).trans ?_
  rw [e4, e5, e6, e7, e8]

/-! The SSD in-projection. -/

theorem quiescent2 : quiescent_Kernel2 := fun m g _ => by
  exact Cert.Kernel2.Gen.frame m g

theorem quiescent2I : quiescent_Kernel2Ideal := fun m g _ => by
  exact Cert.Kernel2Ideal.Gen.frame m g

theorem quiescent2R : quiescent_Reference2Ideal := fun m g _ =>
  (θ_run _ _ _).mono (fun r h => ⟨fun c => (h c).2.2, sem_eq_zero_of_no_sems (by decide) r.2⟩)
    (Cert.Reference2Ideal.Value.run m g)

set_option maxHeartbeats 1600000 in
theorem algebraic2 : algebraic_Kernel2Ideal_Reference2Ideal := by
  pair_intro
  · exact Cert.InProj.run m g
  · run_from Cert.Reference2Ideal.Value.run m' g'
    all_goals rfl

/-! The SSD out-projection. -/

theorem quiescent3 : quiescent_Kernel3 := fun m g _ => by
  exact Cert.Kernel3.Gen.frame m g

theorem quiescent3I : quiescent_Kernel3Ideal := fun m g _ => by
  exact Cert.Kernel3Ideal.Gen.frame m g

theorem quiescent3R : quiescent_Reference3Ideal := fun m g _ =>
  (θ_run _ _ _).mono (fun r h => ⟨fun c => (h c).2, sem_eq_zero_of_no_sems (by decide) r.2⟩)
    (Cert.Reference3Ideal.Value.run m g)

set_option maxHeartbeats 1600000 in
theorem algebraic3 : algebraic_Kernel3Ideal_Reference3Ideal := by
  pair_intro
  · exact Cert.OutProj.run m g
  · run_from Cert.Reference3Ideal.Value.run m' g'
    all_goals rfl

/-! The stick-breaking layer's in-projection. -/

theorem quiescent4 : quiescent_Kernel4 := fun m g _ => by
  exact Cert.Kernel4.Gen.frame m g

theorem quiescent4I : quiescent_Kernel4Ideal := fun m g _ => by
  exact Cert.Kernel4Ideal.Gen.frame m g

theorem quiescent4R : quiescent_Reference4Ideal := fun m g _ =>
  (θ_run _ _ _).mono (fun r h => ⟨fun c => (h c).2, sem_eq_zero_of_no_sems (by decide) r.2⟩)
    (Cert.Reference4Ideal.Value.run m g)

set_option maxHeartbeats 1600000 in
theorem algebraic4 : algebraic_Kernel4Ideal_Reference4Ideal := by
  pair_intro
  · exact Cert.SbIn.run m g
  · run_from Cert.Reference4Ideal.Value.run m' g'
    all_goals rfl

/-! The stick-breaking layer's gated out-projection. -/

theorem quiescent5 : quiescent_Kernel5 := fun m g _ => by
  exact Cert.Kernel5.Gen.frame m g

theorem quiescent5I : quiescent_Kernel5Ideal := fun m g _ => by
  exact Cert.Kernel5Ideal.Gen.frame m g

theorem quiescent5R : quiescent_Reference5Ideal := fun m g _ =>
  (θ_run _ _ _).mono (fun r h => ⟨fun c => (h c).2, sem_eq_zero_of_no_sems (by decide) r.2⟩)
    (Cert.Reference5Ideal.Value.run m g)

set_option maxHeartbeats 1600000 in
theorem algebraic5 : algebraic_Kernel5Ideal_Reference5Ideal := by
  pair_intro
  · exact Cert.SbOut.run m g
  · run_from Cert.Reference5Ideal.Value.run m' g'
    all_goals rfl

/-! The latent attention layer's in-projection. -/

theorem quiescent6 : quiescent_Kernel6 := fun m g _ => by
  exact Cert.Kernel6.Gen.frame m g

theorem quiescent6I : quiescent_Kernel6Ideal := fun m g _ => by
  exact Cert.Kernel6Ideal.Gen.frame m g

theorem quiescent6R : quiescent_Reference6Ideal := fun m g _ =>
  (θ_run _ _ _).mono (fun r h => ⟨fun c => (h c).2.2, sem_eq_zero_of_no_sems (by decide) r.2⟩)
    (Cert.Reference6Ideal.Value.run m g)

set_option maxHeartbeats 1600000 in
theorem algebraic6 : algebraic_Kernel6Ideal_Reference6Ideal := by
  pair_intro
  · exact Cert.MlaIn.run m g
  · run_from Cert.Reference6Ideal.Value.run m' g'
    all_goals rfl

/-! The latent attention layer's gated out-projection. -/

theorem quiescent7 : quiescent_Kernel7 := fun m g _ => by
  exact Cert.Kernel7.Gen.frame m g

theorem quiescent7I : quiescent_Kernel7Ideal := fun m g _ => by
  exact Cert.Kernel7Ideal.Gen.frame m g

theorem quiescent7R : quiescent_Reference7Ideal := fun m g _ =>
  (θ_run _ _ _).mono (fun r h => ⟨fun c => (h c).2, sem_eq_zero_of_no_sems (by decide) r.2⟩)
    (Cert.Reference7Ideal.Value.run m g)

set_option maxHeartbeats 1600000 in
theorem algebraic7 : algebraic_Kernel7Ideal_Reference7Ideal := by
  pair_intro
  · exact Cert.MlaOut.run m g
  · run_from Cert.Reference7Ideal.Value.run m' g'
    all_goals rfl

/-! The stick-breaking attention of the prompt. -/

theorem quiescent8 : quiescent_Kernel8 := fun m g h => by
  exact Cert.Kernel8.Gen.frame 0 m g (Cert.Sbp.pinned m h)

theorem quiescent8I : quiescent_Kernel8Ideal := fun m g h => by
  exact Cert.Kernel8Ideal.Gen.frame 0 m g (Cert.Sbp.pinned_ideal m h)

theorem quiescent8F : quiescent_Kernel8Ideal_pre_finite_descending_steps := fun m g h => by
  exact Cert.Kernel8Ideal.Gen.frame 0 m g (Cert.Sbp.pinned_finite m h)

theorem quiescent8R : quiescent_Reference8Ideal := fun m g _ =>
  (θ_run _ _ _).mono (fun r h => ⟨fun c => (h c).2, sem_eq_zero_of_no_sems (by decide) r.2⟩)
    (Cert.Reference8Ideal.Value.run m g)

theorem quiescent8RF : quiescent_Reference8Ideal_pre_finite_descending_steps := fun m g _ =>
  (θ_run _ _ _).mono (fun r h => ⟨fun c => (h c).2, sem_eq_zero_of_no_sems (by decide) r.2⟩)
    (Cert.Reference8Ideal.Value.run m g)

theorem preserves8 : preserves_Kernel8_Kernel8Ideal := by
  refine ⟨?_, ?_⟩ <;> exact IdealRules.named_const.statement _ _ _ _ _ rfl

set_option maxHeartbeats 1600000 in
theorem algebraic8 : algebraic_Kernel8Ideal_Reference8Ideal_pre_finite_descending_steps := by
  intro m g m' g' hpre hagree
  refine ⟨fun c => Cert.Sbp.val m c, Cert.Sbp.run m g hpre, ?_⟩
  refine (θ_run _ _ _).mono (fun r h c => ⟨(h c).1.trans ?_, (h c).2⟩) (Cert.Reference8Ideal.Value.run m' g')
  obtain ⟨_, _, _, _, e4, e5, e6⟩ := hagree c
  refine (Cert.Sbp.res_eq m' c).trans ?_
  rw [e4, e5, e6]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_causal_steps.Gen.facts, Cert.Pre_finite_causal_steps.Gen.facts,
    Cert.Pre_descending_steps.Gen.facts, Cert.Pre_finite_descending_steps.Gen.facts,
    quiescent1, quiescent1I, quiescent1F, quiescent1R, quiescent1RF,
    quiescent2, quiescent2I, quiescent2R,
    quiescent3, quiescent3I, quiescent3R,
    quiescent4, quiescent4I, quiescent4R,
    quiescent5, quiescent5I, quiescent5R,
    quiescent6, quiescent6I, quiescent6R,
    quiescent7, quiescent7I, quiescent7R,
    quiescent8, quiescent8I, quiescent8F, quiescent8R, quiescent8RF,
    preserves1, algebraic1,
    trivial, algebraic2,
    trivial, algebraic3,
    trivial, algebraic4,
    trivial, algebraic5,
    trivial, algebraic6,
    trivial, algebraic7,
    preserves8, algebraic8⟩

end Cert.Proof

end
